-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S8192x1024 : Shape := ⟨2, ![8192, 1024]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S8192x1024 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 32768#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_in_table_ReferenceIdeal.lean ====
abbrev S32768x1024 : Shape := ⟨2, ![32768, 1024]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S32768x1024 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 32768#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S8192x1024 : Shape := ⟨2, ![8192, 1024]⟩
abbrev S2048 : Shape := ⟨1, ![2048]⟩
abbrev S_ : Shape := ⟨0, ![]⟩
abbrev S4x512 : Shape := ⟨2, ![4, 512]⟩
abbrev S4 : Shape := ⟨1, ![4]⟩
abbrev S1 : Shape := ⟨1, ![1]⟩
abbrev S5 : Shape := ⟨1, ![5]⟩
abbrev S2048x1 : Shape := ⟨2, ![2048, 1]⟩
abbrev S2048x1024 : Shape := ⟨2, ![2048, 1024]⟩
abbrev S3x512x1024 : Shape := ⟨3, ![3, 512, 1024]⟩
abbrev S16 : Shape := ⟨1, ![16]⟩
abbrev S6 : Shape := ⟨1, ![6]⟩
abbrev S1x1024 : Shape := ⟨2, ![1, 1024]⟩
abbrev S512x1 : Shape := ⟨2, ![512, 1]⟩
abbrev S512x1024 : Shape := ⟨2, ![512, 1024]⟩
abbrev S1x512x1024 : Shape := ⟨3, ![1, 512, 1024]⟩

abbrev nBuf : Space → Nat
  | .hbm => 47
  | .vmem => 4
  | .smem => 3
  | _ => 0

abbrev bufTy : (tb : Table) → Fin (tcTables nBuf tb) → BufTy
  | .hbm, ⟨0, _⟩ => ⟨S8192x1024, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S4x512, .i1⟩
  | .hbm, ⟨36, _⟩ => ⟨S4x512, .i32⟩
  | .hbm, ⟨37, _⟩ => ⟨S_, .i32⟩
  | .hbm, ⟨38, _⟩ => ⟨S4, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S_, .i32⟩
  | .hbm, ⟨43, _⟩ => ⟨S4, .i32⟩
  | .hbm, ⟨44, _⟩ => ⟨S5, .i32⟩
  | .hbm, ⟨45, _⟩ => ⟨S2048x1, .i32⟩
  | .hbm, ⟨46, _⟩ => ⟨S2048x1024, .bf16⟩
  | .local _ .vmem, ⟨0, _⟩ => ⟨S2048x1, .i32⟩
  | .local _ .vmem, ⟨1, _⟩ => ⟨S2048x1024, .bf16⟩
  | .local _ .vmem, ⟨2, _⟩ => ⟨S2048x1024, .f32⟩
  | .local _ .vmem, ⟨3, _⟩ => ⟨S3x512x1024, .bf16⟩
  | .local _ .smem, ⟨0, _⟩ => ⟨S2048, .i32⟩
  | .local _ .smem, ⟨1, _⟩ => ⟨S2048, .i32⟩
  | .local _ .smem, ⟨2, _⟩ => ⟨S5, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_c_5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_call2_call0_c : Ref sig .tc := ⟨.hbm, 41, rfl⟩
abbrev main_call2_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : Index := Scalar.indexCast v2
  ![v9.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.addi v2 c1_i32_5
  let v12 : Index := Scalar.indexCast v11
  ![v12.toNat]
@[reducible] def k0_t1_loop (v10 : BitVec 32) (v13 : BitVec 32) : Scf.Loop 32 :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_7 : BitVec 32 := 1#32
  ⟨v10, v18, c1_i32_7⟩

def k0_off3 (v10 : BitVec 32) (v13 : BitVec 32) (k0_t1 : Fin (k0_t1_loop v10 v13).trips) : Fin 1 → Nat :=
  let c1_i32_7 : BitVec 32 := 1#32
  let arg11 : BitVec 32 := Scf.iv v10 c1_i32_7 k0_t1
  let c16_i32_253 : BitVec 32 := 16#32
  let v382 : BitVec 32 := Scalar.subi arg11 c16_i32_253
  let v383 : Index := Scalar.indexCast v382
  ![v383.toNat]
def k0_cond1 (v10 : BitVec 32) (v13 : BitVec 32) (k0_t1 : Fin (k0_t1_loop v10 v13).trips) : BitVec 1 :=
  let c1_i32_7 : BitVec 32 := 1#32
  let arg11 : BitVec 32 := Scf.iv v10 c1_i32_7 k0_t1
  let v369 : BitVec 32 := Scalar.subi arg11 v10
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off4 (v10 : BitVec 32) (v13 : BitVec 32) (k0_t1 : Fin (k0_t1_loop v10 v13).trips) : Fin 1 → Nat :=
  let c1_i32_7 : BitVec 32 := 1#32
  let arg11 : BitVec 32 := Scf.iv v10 c1_i32_7 k0_t1
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off5 (v386 : BitVec 32) : Fin 2 → Nat :=
  let c0_i32_255 : BitVec 32 := 0#32
  ![v386.toNat, 0]

def k0_chk2 (v10 : BitVec 32) (v13 : BitVec 32) (k0_t1 : Fin (k0_t1_loop v10 v13).trips) (v386 : BitVec 32) : Prop :=
  (∀ (k0_h1 : k0_cond1 v10 v13 k0_t1 = 1#1), ∀ a, (k0_off5 v386) a + S1x1024.size a ≤ S2048x1024.size a)
theorem k0_off5_inb : ∀ (v10 : BitVec 32) (v13 : BitVec 32) (k0_t1 : Fin (k0_t1_loop v10 v13).trips) (v386 : BitVec 32) (k0_hw2 : k0_chk2 v10 v13 k0_t1 v386), ∀ (k0_h1 : k0_cond1 v10 v13 k0_t1 = 1#1), ∀ a, (k0_off5 v386) a + S1x1024.size a ≤ S2048x1024.size a := fun v10 v13 k0_t1 v386 k0_hw2 k0_h1 => k0_hw2 k0_h1

def k0_off6 (v384 : BitVec 32) : Fin 2 → Nat :=
  let c0_i32_256 : BitVec 32 := 0#32
  ![v384.toNat, 0]

def k0_chk3 (v10 : BitVec 32) (v13 : BitVec 32) (k0_t1 : Fin (k0_t1_loop v10 v13).trips) (v384 : BitVec 32) : Prop :=
  (∀ (k0_h1 : k0_cond1 v10 v13 k0_t1 = 1#1), ∀ a, (k0_off6 v384) a + S1x1024.size a ≤ S8192x1024.size a)
theorem k0_off6_inb : ∀ (v10 : BitVec 32) (v13 : BitVec 32) (k0_t1 : Fin (k0_t1_loop v10 v13).trips) (v384 : BitVec 32) (k0_hw3 : k0_chk3 v10 v13 k0_t1 v384), ∀ (k0_h1 : k0_cond1 v10 v13 k0_t1 = 1#1), ∀ a, (k0_off6 v384) a + S1x1024.size a ≤ S8192x1024.size a := fun v10 v13 k0_t1 v384 k0_hw3 k0_h1 => k0_hw3 k0_h1

def k0_off7 (v10 : BitVec 32) (v13 : BitVec 32) (k0_t1 : Fin (k0_t1_loop v10 v13).trips) : Fin 1 → Nat :=
  let c1_i32_7 : BitVec 32 := 1#32
  let arg11 : BitVec 32 := Scf.iv v10 c1_i32_7 k0_t1
  let v373 : Index := Scalar.indexCast arg11
  ![v373.toNat]
def k0_off8 (v10 : BitVec 32) (v13 : BitVec 32) (k0_t1 : Fin (k0_t1_loop v10 v13).trips) : Fin 1 → Nat :=
  let c1_i32_7 : BitVec 32 := 1#32
  let arg11 : BitVec 32 := Scf.iv v10 c1_i32_7 k0_t1
  let c16_i32_249 : BitVec 32 := 16#32
  let v377 : BitVec 32 := Scalar.remsi arg11 c16_i32_249
  ![v377.toNat]
def k0_off9 (v376 : BitVec 32) : Fin 2 → Nat :=
  let c0_i32_250 : BitVec 32 := 0#32
  ![v376.toNat, 0]

def k0_chk4 (v376 : BitVec 32) : Prop :=
  (∀ a, (k0_off9 v376) a + S1x1024.size a ≤ S2048x1024.size a)
theorem k0_off9_inb : ∀ (v376 : BitVec 32) (k0_hw4 : k0_chk4 v376), ∀ a, (k0_off9 v376) a + S1x1024.size a ≤ S2048x1024.size a := fun v376 k0_hw4 => k0_hw4

def k0_off10 (v374 : BitVec 32) : Fin 2 → Nat :=
  let c0_i32_251 : BitVec 32 := 0#32
  ![v374.toNat, 0]

def k0_chk5 (v374 : BitVec 32) : Prop :=
  (∀ a, (k0_off10 v374) a + S1x1024.size a ≤ S8192x1024.size a)
theorem k0_off10_inb : ∀ (v374 : BitVec 32) (k0_hw5 : k0_chk5 v374), ∀ a, (k0_off10 v374) a + S1x1024.size a ≤ S8192x1024.size a := fun v374 k0_hw5 => k0_hw5

@[reducible] def k0_t2_loop (v10 : BitVec 32) (v13 : BitVec 32) : Scf.Loop 32 :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let v15 : BitVec 32 := Scalar.addi v10 v14
  let c1_i32_8 : BitVec 32 := 1#32
  ⟨v18, v15, c1_i32_8⟩
def k0_off11 (v10 : BitVec 32) (v13 : BitVec 32) (k0_t2 : Fin (k0_t2_loop v10 v13).trips) : Fin 1 → Nat :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_8 : BitVec 32 := 1#32
  let arg11 : BitVec 32 := Scf.iv v18 c1_i32_8 k0_t2
  let c16_i32_253 : BitVec 32 := 16#32
  let v382 : BitVec 32 := Scalar.subi arg11 c16_i32_253
  let v383 : Index := Scalar.indexCast v382
  ![v383.toNat]
def k0_cond2 (v10 : BitVec 32) (v13 : BitVec 32) (k0_t2 : Fin (k0_t2_loop v10 v13).trips) : BitVec 1 :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_8 : BitVec 32 := 1#32
  let arg11 : BitVec 32 := Scf.iv v18 c1_i32_8 k0_t2
  let v369 : BitVec 32 := Scalar.subi arg11 v10
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off12 (v10 : BitVec 32) (v13 : BitVec 32) (k0_t2 : Fin (k0_t2_loop v10 v13).trips) : Fin 1 → Nat :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_8 : BitVec 32 := 1#32
  let arg11 : BitVec 32 := Scf.iv v18 c1_i32_8 k0_t2
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off13 (v386 : BitVec 32) : Fin 2 → Nat :=
  let c0_i32_255 : BitVec 32 := 0#32
  ![v386.toNat, 0]

def k0_chk6 (v10 : BitVec 32) (v13 : BitVec 32) (k0_t2 : Fin (k0_t2_loop v10 v13).trips) (v386 : BitVec 32) : Prop :=
  (∀ (k0_h2 : k0_cond2 v10 v13 k0_t2 = 1#1), ∀ a, (k0_off13 v386) a + S1x1024.size a ≤ S2048x1024.size a)
theorem k0_off13_inb : ∀ (v10 : BitVec 32) (v13 : BitVec 32) (k0_t2 : Fin (k0_t2_loop v10 v13).trips) (v386 : BitVec 32) (k0_hw6 : k0_chk6 v10 v13 k0_t2 v386), ∀ (k0_h2 : k0_cond2 v10 v13 k0_t2 = 1#1), ∀ a, (k0_off13 v386) a + S1x1024.size a ≤ S2048x1024.size a := fun v10 v13 k0_t2 v386 k0_hw6 k0_h2 => k0_hw6 k0_h2

def k0_off14 (v384 : BitVec 32) : Fin 2 → Nat :=
  let c0_i32_256 : BitVec 32 := 0#32
  ![v384.toNat, 0]

def k0_chk7 (v10 : BitVec 32) (v13 : BitVec 32) (k0_t2 : Fin (k0_t2_loop v10 v13).trips) (v384 : BitVec 32) : Prop :=
  (∀ (k0_h2 : k0_cond2 v10 v13 k0_t2 = 1#1), ∀ a, (k0_off14 v384) a + S1x1024.size a ≤ S8192x1024.size a)
theorem k0_off14_inb : ∀ (v10 : BitVec 32) (v13 : BitVec 32) (k0_t2 : Fin (k0_t2_loop v10 v13).trips) (v384 : BitVec 32) (k0_hw7 : k0_chk7 v10 v13 k0_t2 v384), ∀ (k0_h2 : k0_cond2 v10 v13 k0_t2 = 1#1), ∀ a, (k0_off14 v384) a + S1x1024.size a ≤ S8192x1024.size a := fun v10 v13 k0_t2 v384 k0_hw7 k0_h2 => k0_hw7 k0_h2

def k0_off15 (v10 : BitVec 32) (v13 : BitVec 32) (k0_t2 : Fin (k0_t2_loop v10 v13).trips) : Fin 1 → Nat :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_8 : BitVec 32 := 1#32
  let arg11 : BitVec 32 := Scf.iv v18 c1_i32_8 k0_t2
  let v373 : Index := Scalar.indexCast arg11
  ![v373.toNat]
def k0_off16 (v10 : BitVec 32) (v13 : BitVec 32) (k0_t2 : Fin (k0_t2_loop v10 v13).trips) : Fin 1 → Nat :=
  let v14 : BitVec 32 := Scalar.subi v13 v10
  let c1_i32_6 : BitVec 32 := 1#32
  let v16 : BitVec 32 := Scalar.divsi v14 c1_i32_6
  let v17 : BitVec 32 := Scalar.muli v16 c1_i32_6
  let v18 : BitVec 32 := Scalar.addi v10 v17
  let c1_i32_8 : BitVec 32 := 1#32
  let arg11 : BitVec 32 := Scf.iv v18 c1_i32_8 k0_t2
  let c16_i32_249 : BitVec 32 := 16#32
  let v377 : BitVec 32 := Scalar.remsi arg11 c16_i32_249
  ![v377.toNat]
def k0_off17 (v376 : BitVec 32) : Fin 2 → Nat :=
  let c0_i32_250 : BitVec 32 := 0#32
  ![v376.toNat, 0]

def k0_chk8 (v376 : BitVec 32) : Prop :=
  (∀ a, (k0_off17 v376) a + S1x1024.size a ≤ S2048x1024.size a)
theorem k0_off17_inb : ∀ (v376 : BitVec 32) (k0_hw8 : k0_chk8 v376), ∀ a, (k0_off17 v376) a + S1x1024.size a ≤ S2048x1024.size a := fun v376 k0_hw8 => k0_hw8

def k0_off18 (v374 : BitVec 32) : Fin 2 → Nat :=
  let c0_i32_251 : BitVec 32 := 0#32
  ![v374.toNat, 0]

def k0_chk9 (v374 : BitVec 32) : Prop :=
  (∀ a, (k0_off18 v374) a + S1x1024.size a ≤ S8192x1024.size a)
theorem k0_off18_inb : ∀ (v374 : BitVec 32) (k0_hw9 : k0_chk9 v374), ∀ a, (k0_off18 v374) a + S1x1024.size a ≤ S8192x1024.size a := fun v374 k0_hw9 => k0_hw9

@[reducible] def k0_t3_loop (v10 : BitVec 32) (v13 : BitVec 32) : Scf.Loop 32 :=
  let c16_i32 : BitVec 32 := 16#32
  let v21 : BitVec 32 := Scalar.subi v13 c16_i32
  let v22 : BitVec 32 := Scalar.maxsi v21 v10
  let v23 : BitVec 32 := Scalar.subi v13 v22
  let c1_i32_10 : BitVec 32 := 1#32
  let v25 : BitVec 32 := Scalar.divsi v23 c1_i32_10
  let v26 : BitVec 32 := Scalar.muli v25 c1_i32_10
  let v27 : BitVec 32 := Scalar.addi v22 v26
  let c1_i32_11 : BitVec 32 := 1#32
  ⟨v22, v27, c1_i32_11⟩
def k0_off19 (v10 : BitVec 32) (v13 : BitVec 32) (k0_t3 : Fin (k0_t3_loop v10 v13).trips) : Fin 1 → Nat :=
  let c16_i32 : BitVec 32 := 16#32
  let v21 : BitVec 32 := Scalar.subi v13 c16_i32
  let v22 : BitVec 32 := Scalar.maxsi v21 v10
  let c1_i32_11 : BitVec 32 := 1#32
  let arg11 : BitVec 32 := Scf.iv v22 c1_i32_11 k0_t3
  let v369 : Index := Scalar.indexCast arg11
  ![v369.toNat]
def k0_off20 (v10 : BitVec 32) (v13 : BitVec 32) (k0_t3 : Fin (k0_t3_loop v10 v13).trips) : Fin 1 → Nat :=
  let c16_i32 : BitVec 32 := 16#32
  let v21 : BitVec 32 := Scalar.subi v13 c16_i32
  let v22 : BitVec 32 := Scalar.maxsi v21 v10
  let c1_i32_11 : BitVec 32 := 1#32
  let arg11 : BitVec 32 := Scf.iv v22 c1_i32_11 k0_t3
  let c16_i32_247 : BitVec 32 := 16#32
  let v373 : BitVec 32 := Scalar.remsi arg11 c16_i32_247
  ![v373.toNat]
def k0_off21 (v372 : BitVec 32) : Fin 2 → Nat :=
  let c0_i32_248 : BitVec 32 := 0#32
  ![v372.toNat, 0]

def k0_chk10 (v372 : BitVec 32) : Prop :=
  (∀ a, (k0_off21 v372) a + S1x1024.size a ≤ S2048x1024.size a)
theorem k0_off21_inb : ∀ (v372 : BitVec 32) (k0_hw10 : k0_chk10 v372), ∀ a, (k0_off21 v372) a + S1x1024.size a ≤ S2048x1024.size a := fun v372 k0_hw10 => k0_hw10

def k0_off22 (v370 : BitVec 32) : Fin 2 → Nat :=
  let c0_i32_249 : BitVec 32 := 0#32
  ![v370.toNat, 0]

def k0_chk11 (v370 : BitVec 32) : Prop :=
  (∀ a, (k0_off22 v370) a + S1x1024.size a ≤ S8192x1024.size a)
theorem k0_off22_inb : ∀ (v370 : BitVec 32) (k0_hw11 : k0_chk11 v370), ∀ a, (k0_off22 v370) a + S1x1024.size a ≤ S8192x1024.size a := fun v370 k0_hw11 => k0_hw11

@[reducible] def k0_t4_loop (v10 : BitVec 32) (v13 : BitVec 32) : Scf.Loop 32 :=
  let c16_i32 : BitVec 32 := 16#32
  let v21 : BitVec 32 := Scalar.subi v13 c16_i32
  let v22 : BitVec 32 := Scalar.maxsi v21 v10
  let v23 : BitVec 32 := Scalar.subi v13 v22
  let c1_i32_10 : BitVec 32 := 1#32
  let v25 : BitVec 32 := Scalar.divsi v23 c1_i32_10
  let v26 : BitVec 32 := Scalar.muli v25 c1_i32_10
  let v27 : BitVec 32 := Scalar.addi v22 v26
  let v24 : BitVec 32 := Scalar.addi v22 v23
  let c1_i32_12 : BitVec 32 := 1#32
  ⟨v27, v24, c1_i32_12⟩
def k0_off23 (v10 : BitVec 32) (v13 : BitVec 32) (k0_t4 : Fin (k0_t4_loop v10 v13).trips) : Fin 1 → Nat :=
  let c16_i32 : BitVec 32 := 16#32
  let v21 : BitVec 32 := Scalar.subi v13 c16_i32
  let v22 : BitVec 32 := Scalar.maxsi v21 v10
  let v23 : BitVec 32 := Scalar.subi v13 v22
  let c1_i32_10 : BitVec 32 := 1#32
  let v25 : BitVec 32 := Scalar.divsi v23 c1_i32_10
  let v26 : BitVec 32 := Scalar.muli v25 c1_i32_10
  let v27 : BitVec 32 := Scalar.addi v22 v26
  let c1_i32_12 : BitVec 32 := 1#32
  let arg11 : BitVec 32 := Scf.iv v27 c1_i32_12 k0_t4
  let v369 : Index := Scalar.indexCast arg11
  ![v369.toNat]
def k0_off24 (v10 : BitVec 32) (v13 : BitVec 32) (k0_t4 : Fin (k0_t4_loop v10 v13).trips) : Fin 1 → Nat :=
  let c16_i32 : BitVec 32 := 16#32
  let v21 : BitVec 32 := Scalar.subi v13 c16_i32
  let v22 : BitVec 32 := Scalar.maxsi v21 v10
  let v23 : BitVec 32 := Scalar.subi v13 v22
  let c1_i32_10 : BitVec 32 := 1#32
  let v25 : BitVec 32 := Scalar.divsi v23 c1_i32_10
  let v26 : BitVec 32 := Scalar.muli v25 c1_i32_10
  let v27 : BitVec 32 := Scalar.addi v22 v26
  let c1_i32_12 : BitVec 32 := 1#32
  let arg11 : BitVec 32 := Scf.iv v27 c1_i32_12 k0_t4
  let c16_i32_247 : BitVec 32 := 16#32
  let v373 : BitVec 32 := Scalar.remsi arg11 c16_i32_247
  ![v373.toNat]

def k0_chk1 (v10 : BitVec 32) (v13 : BitVec 32) : Prop :=
  ((k0_t1_loop v10 v13).OK) ∧
  (∀ k0_t1 : Fin (k0_t1_loop v10 v13).trips, ∀ (k0_h1 : k0_cond1 v10 v13 k0_t1 = 1#1), ∀ a, (k0_off3 v10 v13 k0_t1) a + S1.size a ≤ S2048.size a) ∧
  (∀ k0_t1 : Fin (k0_t1_loop v10 v13).trips, ∀ (k0_h1 : k0_cond1 v10 v13 k0_t1 = 1#1), ∀ a, (k0_off4 v10 v13 k0_t1) a + S1.size a ≤ S16.size a) ∧
  (∀ k0_t1 : Fin (k0_t1_loop v10 v13).trips, ∀ a, (k0_off7 v10 v13 k0_t1) a + S1.size a ≤ S2048.size a) ∧
  (∀ k0_t1 : Fin (k0_t1_loop v10 v13).trips, ∀ a, (k0_off8 v10 v13 k0_t1) a + S1.size a ≤ S16.size a) ∧
  ((k0_t2_loop v10 v13).OK) ∧
  (∀ k0_t2 : Fin (k0_t2_loop v10 v13).trips, ∀ (k0_h2 : k0_cond2 v10 v13 k0_t2 = 1#1), ∀ a, (k0_off11 v10 v13 k0_t2) a + S1.size a ≤ S2048.size a) ∧
  (∀ k0_t2 : Fin (k0_t2_loop v10 v13).trips, ∀ (k0_h2 : k0_cond2 v10 v13 k0_t2 = 1#1), ∀ a, (k0_off12 v10 v13 k0_t2) a + S1.size a ≤ S16.size a) ∧
  (∀ k0_t2 : Fin (k0_t2_loop v10 v13).trips, ∀ a, (k0_off15 v10 v13 k0_t2) a + S1.size a ≤ S2048.size a) ∧
  (∀ k0_t2 : Fin (k0_t2_loop v10 v13).trips, ∀ a, (k0_off16 v10 v13 k0_t2) a + S1.size a ≤ S16.size a) ∧
  ((k0_t3_loop v10 v13).OK) ∧
  (∀ k0_t3 : Fin (k0_t3_loop v10 v13).trips, ∀ a, (k0_off19 v10 v13 k0_t3) a + S1.size a ≤ S2048.size a) ∧
  (∀ k0_t3 : Fin (k0_t3_loop v10 v13).trips, ∀ a, (k0_off20 v10 v13 k0_t3) a + S1.size a ≤ S16.size a) ∧
  ((k0_t4_loop v10 v13).OK) ∧
  (∀ k0_t4 : Fin (k0_t4_loop v10 v13).trips, ∀ a, (k0_off23 v10 v13 k0_t4) a + S1.size a ≤ S2048.size a) ∧
  (∀ k0_t4 : Fin (k0_t4_loop v10 v13).trips, ∀ a, (k0_off24 v10 v13 k0_t4) a + S1.size a ≤ S16.size a)
theorem k0_t1_ok : ∀ (v10 : BitVec 32) (v13 : BitVec 32) (k0_hw1 : k0_chk1 v10 v13), (k0_t1_loop v10 v13).OK := fun v10 v13 k0_hw1 => k0_hw1.1
theorem k0_off3_inb : ∀ (v10 : BitVec 32) (v13 : BitVec 32) (k0_hw1 : k0_chk1 v10 v13) (k0_t1 : Fin (k0_t1_loop v10 v13).trips), ∀ (k0_h1 : k0_cond1 v10 v13 k0_t1 = 1#1), ∀ a, (k0_off3 v10 v13 k0_t1) a + S1.size a ≤ S2048.size a := fun v10 v13 k0_hw1 k0_t1 k0_h1 => k0_hw1.2.1 k0_t1 k0_h1
theorem k0_off4_inb : ∀ (v10 : BitVec 32) (v13 : BitVec 32) (k0_hw1 : k0_chk1 v10 v13) (k0_t1 : Fin (k0_t1_loop v10 v13).trips), ∀ (k0_h1 : k0_cond1 v10 v13 k0_t1 = 1#1), ∀ a, (k0_off4 v10 v13 k0_t1) a + S1.size a ≤ S16.size a := fun v10 v13 k0_hw1 k0_t1 k0_h1 => k0_hw1.2.2.1 k0_t1 k0_h1
theorem k0_off7_inb : ∀ (v10 : BitVec 32) (v13 : BitVec 32) (k0_hw1 : k0_chk1 v10 v13) (k0_t1 : Fin (k0_t1_loop v10 v13).trips), ∀ a, (k0_off7 v10 v13 k0_t1) a + S1.size a ≤ S2048.size a := fun v10 v13 k0_hw1 k0_t1 => k0_hw1.2.2.2.1 k0_t1
theorem k0_off8_inb : ∀ (v10 : BitVec 32) (v13 : BitVec 32) (k0_hw1 : k0_chk1 v10 v13) (k0_t1 : Fin (k0_t1_loop v10 v13).trips), ∀ a, (k0_off8 v10 v13 k0_t1) a + S1.size a ≤ S16.size a := fun v10 v13 k0_hw1 k0_t1 => k0_hw1.2.2.2.2.1 k0_t1
theorem k0_t2_ok : ∀ (v10 : BitVec 32) (v13 : BitVec 32) (k0_hw1 : k0_chk1 v10 v13), (k0_t2_loop v10 v13).OK := fun v10 v13 k0_hw1 => k0_hw1.2.2.2.2.2.1
theorem k0_off11_inb : ∀ (v10 : BitVec 32) (v13 : BitVec 32) (k0_hw1 : k0_chk1 v10 v13) (k0_t2 : Fin (k0_t2_loop v10 v13).trips), ∀ (k0_h2 : k0_cond2 v10 v13 k0_t2 = 1#1), ∀ a, (k0_off11 v10 v13 k0_t2) a + S1.size a ≤ S2048.size a := fun v10 v13 k0_hw1 k0_t2 k0_h2 => k0_hw1.2.2.2.2.2.2.1 k0_t2 k0_h2
theorem k0_off12_inb : ∀ (v10 : BitVec 32) (v13 : BitVec 32) (k0_hw1 : k0_chk1 v10 v13) (k0_t2 : Fin (k0_t2_loop v10 v13).trips), ∀ (k0_h2 : k0_cond2 v10 v13 k0_t2 = 1#1), ∀ a, (k0_off12 v10 v13 k0_t2) a + S1.size a ≤ S16.size a := fun v10 v13 k0_hw1 k0_t2 k0_h2 => k0_hw1.2.2.2.2.2.2.2.1 k0_t2 k0_h2
theorem k0_off15_inb : ∀ (v10 : BitVec 32) (v13 : BitVec 32) (k0_hw1 : k0_chk1 v10 v13) (k0_t2 : Fin (k0_t2_loop v10 v13).trips), ∀ a, (k0_off15 v10 v13 k0_t2) a + S1.size a ≤ S2048.size a := fun v10 v13 k0_hw1 k0_t2 => k0_hw1.2.2.2.2.2.2.2.2.1 k0_t2
theorem k0_off16_inb : ∀ (v10 : BitVec 32) (v13 : BitVec 32) (k0_hw1 : k0_chk1 v10 v13) (k0_t2 : Fin (k0_t2_loop v10 v13).trips), ∀ a, (k0_off16 v10 v13 k0_t2) a + S1.size a ≤ S16.size a := fun v10 v13 k0_hw1 k0_t2 => k0_hw1.2.2.2.2.2.2.2.2.2.1 k0_t2
theorem k0_t3_ok : ∀ (v10 : BitVec 32) (v13 : BitVec 32) (k0_hw1 : k0_chk1 v10 v13), (k0_t3_loop v10 v13).OK := fun v10 v13 k0_hw1 => k0_hw1.2.2.2.2.2.2.2.2.2.2.1
theorem k0_off19_inb : ∀ (v10 : BitVec 32) (v13 : BitVec 32) (k0_hw1 : k0_chk1 v10 v13) (k0_t3 : Fin (k0_t3_loop v10 v13).trips), ∀ a, (k0_off19 v10 v13 k0_t3) a + S1.size a ≤ S2048.size a := fun v10 v13 k0_hw1 k0_t3 => k0_hw1.2.2.2.2.2.2.2.2.2.2.2.1 k0_t3
theorem k0_off20_inb : ∀ (v10 : BitVec 32) (v13 : BitVec 32) (k0_hw1 : k0_chk1 v10 v13) (k0_t3 : Fin (k0_t3_loop v10 v13).trips), ∀ a, (k0_off20 v10 v13 k0_t3) a + S1.size a ≤ S16.size a := fun v10 v13 k0_hw1 k0_t3 => k0_hw1.2.2.2.2.2.2.2.2.2.2.2.2.1 k0_t3
theorem k0_t4_ok : ∀ (v10 : BitVec 32) (v13 : BitVec 32) (k0_hw1 : k0_chk1 v10 v13), (k0_t4_loop v10 v13).OK := fun v10 v13 k0_hw1 => k0_hw1.2.2.2.2.2.2.2.2.2.2.2.2.2.1
theorem k0_off23_inb : ∀ (v10 : BitVec 32) (v13 : BitVec 32) (k0_hw1 : k0_chk1 v10 v13) (k0_t4 : Fin (k0_t4_loop v10 v13).trips), ∀ a, (k0_off23 v10 v13 k0_t4) a + S1.size a ≤ S2048.size a := fun v10 v13 k0_hw1 k0_t4 => k0_hw1.2.2.2.2.2.2.2.2.2.2.2.2.2.2.1 k0_t4
theorem k0_off24_inb : ∀ (v10 : BitVec 32) (v13 : BitVec 32) (k0_hw1 : k0_chk1 v10 v13) (k0_t4 : Fin (k0_t4_loop v10 v13).trips), ∀ a, (k0_off24 v10 v13 k0_t4) a + S1.size a ≤ S16.size a := fun v10 v13 k0_hw1 k0_t4 => k0_hw1.2.2.2.2.2.2.2.2.2.2.2.2.2.2.2 k0_t4

def k0_off25 (v372 : BitVec 32) : Fin 2 → Nat :=
  let c0_i32_248 : BitVec 32 := 0#32
  ![v372.toNat, 0]

def k0_chk12 (v372 : BitVec 32) : Prop :=
  (∀ a, (k0_off25 v372) a + S1x1024.size a ≤ S2048x1024.size a)
theorem k0_off25_inb : ∀ (v372 : BitVec 32) (k0_hw12 : k0_chk12 v372), ∀ a, (k0_off25 v372) a + S1x1024.size a ≤ S2048x1024.size a := fun v372 k0_hw12 => k0_hw12

def k0_off26 (v370 : BitVec 32) : Fin 2 → Nat :=
  let c0_i32_249 : BitVec 32 := 0#32
  ![v370.toNat, 0]

def k0_chk13 (v370 : BitVec 32) : Prop :=
  (∀ a, (k0_off26 v370) a + S1x1024.size a ≤ S8192x1024.size a)
theorem k0_off26_inb : ∀ (v370 : BitVec 32) (k0_hw13 : k0_chk13 v370), ∀ a, (k0_off26 v370) a + S1x1024.size a ≤ S8192x1024.size a := fun v370 k0_hw13 => k0_hw13

def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v30 : BitVec 32 := Scalar.muli v2 c512_i32
  let v31 : Index := Scalar.indexCast v30
  let c0 : Index := 0#32
  ![v31.toNat, 0]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v30 : BitVec 32 := Scalar.muli v2 c512_i32
  let v43 : Index := Scalar.indexCast v30
  let c0_15 : Index := 0#32
  ![v43.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_18 : BitVec 32 := 1#32
  let v53 : BitVec 32 := Scalar.muli v5 c1_i32_18
  let v54 : BitVec 32 := Scalar.addi c0_i32_19 v53
  v54.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21 : BitVec 32 := 1#32
  let v55 : BitVec 32 := Scalar.muli v7 c1_i32_21
  let v56 : BitVec 32 := Scalar.addi c0_i32_22 v55
  v56.toNat
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let v57 : BitVec 32 := Scalar.subi v2 c0_i32_23
  let c4_i32_24 : BitVec 32 := 4#32
  let v58 : BitVec 32 := Scalar.addi v57 c4_i32_24
  let c4_i32_25 : BitVec 32 := 4#32
  let v59 : BitVec 32 := Scalar.remsi v58 c4_i32_25
  let c512_i32_30 : BitVec 32 := 512#32
  let v64 : BitVec 32 := Scalar.muli v59 c512_i32_30
  let c0_i32_38 : BitVec 32 := 0#32
  ![v64.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_34 : BitVec 32 := 1#32
  let v65 : BitVec 32 := Scalar.muli v7 c1_i32_34
  let v66 : BitVec 32 := Scalar.addi c0_i32_35 v65
  v66.toNat
def k0_off30 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v60 : BitVec 32 := Scalar.subi v2 c0_i32_26
  let c1_i32_27 : BitVec 32 := 1#32
  let v61 : BitVec 32 := Scalar.subi v60 c1_i32_27
  let c4_i32_28 : BitVec 32 := 4#32
  let v62 : BitVec 32 := Scalar.addi v61 c4_i32_28
  let c4_i32_29 : BitVec 32 := 4#32
  let v63 : BitVec 32 := Scalar.remsi v62 c4_i32_29
  let v74 : Index := Scalar.indexCast v63
  ![v74.toNat]
def k0_off31 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v60 : BitVec 32 := Scalar.subi v2 c0_i32_26
  let c1_i32_27 : BitVec 32 := 1#32
  let v61 : BitVec 32 := Scalar.subi v60 c1_i32_27
  let c4_i32_28 : BitVec 32 := 4#32
  let v62 : BitVec 32 := Scalar.addi v61 c4_i32_28
  let c4_i32_29 : BitVec 32 := 4#32
  let v63 : BitVec 32 := Scalar.remsi v62 c4_i32_29
  let c1_i32_39 : BitVec 32 := 1#32
  let v76 : BitVec 32 := Scalar.addi v63 c1_i32_39
  let v77 : Index := Scalar.indexCast v76
  ![v77.toNat]
@[reducible] def k0_t5_loop (v75 : BitVec 32) (v78 : BitVec 32) : Scf.Loop 32 :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_42 : BitVec 32 := 1#32
  ⟨v75, v83, c1_i32_42⟩

def k0_off32 (v75 : BitVec 32) (v78 : BitVec 32) (k0_t5 : Fin (k0_t5_loop v75 v78).trips) : Fin 1 → Nat :=
  let c1_i32_42 : BitVec 32 := 1#32
  let arg11 : BitVec 32 := Scf.iv v75 c1_i32_42 k0_t5
  let c16_i32_253 : BitVec 32 := 16#32
  let v382 : BitVec 32 := Scalar.subi arg11 c16_i32_253
  let v383 : Index := Scalar.indexCast v382
  ![v383.toNat]
def k0_cond3 (v75 : BitVec 32) (v78 : BitVec 32) (k0_t5 : Fin (k0_t5_loop v75 v78).trips) : BitVec 1 :=
  let c1_i32_42 : BitVec 32 := 1#32
  let arg11 : BitVec 32 := Scf.iv v75 c1_i32_42 k0_t5
  let v369 : BitVec 32 := Scalar.subi arg11 v75
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off33 (v75 : BitVec 32) (v78 : BitVec 32) (k0_t5 : Fin (k0_t5_loop v75 v78).trips) : Fin 1 → Nat :=
  let c1_i32_42 : BitVec 32 := 1#32
  let arg11 : BitVec 32 := Scf.iv v75 c1_i32_42 k0_t5
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off34 (v386 : BitVec 32) : Fin 2 → Nat :=
  let c0_i32_255 : BitVec 32 := 0#32
  ![v386.toNat, 0]

def k0_chk15 (v75 : BitVec 32) (v78 : BitVec 32) (k0_t5 : Fin (k0_t5_loop v75 v78).trips) (v386 : BitVec 32) : Prop :=
  (∀ (k0_h3 : k0_cond3 v75 v78 k0_t5 = 1#1), ∀ a, (k0_off34 v386) a + S1x1024.size a ≤ S2048x1024.size a)
theorem k0_off34_inb : ∀ (v75 : BitVec 32) (v78 : BitVec 32) (k0_t5 : Fin (k0_t5_loop v75 v78).trips) (v386 : BitVec 32) (k0_hw15 : k0_chk15 v75 v78 k0_t5 v386), ∀ (k0_h3 : k0_cond3 v75 v78 k0_t5 = 1#1), ∀ a, (k0_off34 v386) a + S1x1024.size a ≤ S2048x1024.size a := fun v75 v78 k0_t5 v386 k0_hw15 k0_h3 => k0_hw15 k0_h3

def k0_off35 (v384 : BitVec 32) : Fin 2 → Nat :=
  let c0_i32_256 : BitVec 32 := 0#32
  ![v384.toNat, 0]

def k0_chk16 (v75 : BitVec 32) (v78 : BitVec 32) (k0_t5 : Fin (k0_t5_loop v75 v78).trips) (v384 : BitVec 32) : Prop :=
  (∀ (k0_h3 : k0_cond3 v75 v78 k0_t5 = 1#1), ∀ a, (k0_off35 v384) a + S1x1024.size a ≤ S8192x1024.size a)
theorem k0_off35_inb : ∀ (v75 : BitVec 32) (v78 : BitVec 32) (k0_t5 : Fin (k0_t5_loop v75 v78).trips) (v384 : BitVec 32) (k0_hw16 : k0_chk16 v75 v78 k0_t5 v384), ∀ (k0_h3 : k0_cond3 v75 v78 k0_t5 = 1#1), ∀ a, (k0_off35 v384) a + S1x1024.size a ≤ S8192x1024.size a := fun v75 v78 k0_t5 v384 k0_hw16 k0_h3 => k0_hw16 k0_h3

def k0_off36 (v75 : BitVec 32) (v78 : BitVec 32) (k0_t5 : Fin (k0_t5_loop v75 v78).trips) : Fin 1 → Nat :=
  let c1_i32_42 : BitVec 32 := 1#32
  let arg11 : BitVec 32 := Scf.iv v75 c1_i32_42 k0_t5
  let v373 : Index := Scalar.indexCast arg11
  ![v373.toNat]
def k0_off37 (v75 : BitVec 32) (v78 : BitVec 32) (k0_t5 : Fin (k0_t5_loop v75 v78).trips) : Fin 1 → Nat :=
  let c1_i32_42 : BitVec 32 := 1#32
  let arg11 : BitVec 32 := Scf.iv v75 c1_i32_42 k0_t5
  let c16_i32_249 : BitVec 32 := 16#32
  let v377 : BitVec 32 := Scalar.remsi arg11 c16_i32_249
  ![v377.toNat]
def k0_off38 (v376 : BitVec 32) : Fin 2 → Nat :=
  let c0_i32_250 : BitVec 32 := 0#32
  ![v376.toNat, 0]

def k0_chk17 (v376 : BitVec 32) : Prop :=
  (∀ a, (k0_off38 v376) a + S1x1024.size a ≤ S2048x1024.size a)
theorem k0_off38_inb : ∀ (v376 : BitVec 32) (k0_hw17 : k0_chk17 v376), ∀ a, (k0_off38 v376) a + S1x1024.size a ≤ S2048x1024.size a := fun v376 k0_hw17 => k0_hw17

def k0_off39 (v374 : BitVec 32) : Fin 2 → Nat :=
  let c0_i32_251 : BitVec 32 := 0#32
  ![v374.toNat, 0]

def k0_chk18 (v374 : BitVec 32) : Prop :=
  (∀ a, (k0_off39 v374) a + S1x1024.size a ≤ S8192x1024.size a)
theorem k0_off39_inb : ∀ (v374 : BitVec 32) (k0_hw18 : k0_chk18 v374), ∀ a, (k0_off39 v374) a + S1x1024.size a ≤ S8192x1024.size a := fun v374 k0_hw18 => k0_hw18

@[reducible] def k0_t6_loop (v75 : BitVec 32) (v78 : BitVec 32) : Scf.Loop 32 :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let v80 : BitVec 32 := Scalar.addi v75 v79
  let c1_i32_43 : BitVec 32 := 1#32
  ⟨v83, v80, c1_i32_43⟩
def k0_off40 (v75 : BitVec 32) (v78 : BitVec 32) (k0_t6 : Fin (k0_t6_loop v75 v78).trips) : Fin 1 → Nat :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_43 : BitVec 32 := 1#32
  let arg11 : BitVec 32 := Scf.iv v83 c1_i32_43 k0_t6
  let c16_i32_253 : BitVec 32 := 16#32
  let v382 : BitVec 32 := Scalar.subi arg11 c16_i32_253
  let v383 : Index := Scalar.indexCast v382
  ![v383.toNat]
def k0_cond4 (v75 : BitVec 32) (v78 : BitVec 32) (k0_t6 : Fin (k0_t6_loop v75 v78).trips) : BitVec 1 :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_43 : BitVec 32 := 1#32
  let arg11 : BitVec 32 := Scf.iv v83 c1_i32_43 k0_t6
  let v369 : BitVec 32 := Scalar.subi arg11 v75
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off41 (v75 : BitVec 32) (v78 : BitVec 32) (k0_t6 : Fin (k0_t6_loop v75 v78).trips) : Fin 1 → Nat :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_43 : BitVec 32 := 1#32
  let arg11 : BitVec 32 := Scf.iv v83 c1_i32_43 k0_t6
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off42 (v386 : BitVec 32) : Fin 2 → Nat :=
  let c0_i32_255 : BitVec 32 := 0#32
  ![v386.toNat, 0]

def k0_chk19 (v75 : BitVec 32) (v78 : BitVec 32) (k0_t6 : Fin (k0_t6_loop v75 v78).trips) (v386 : BitVec 32) : Prop :=
  (∀ (k0_h4 : k0_cond4 v75 v78 k0_t6 = 1#1), ∀ a, (k0_off42 v386) a + S1x1024.size a ≤ S2048x1024.size a)
theorem k0_off42_inb : ∀ (v75 : BitVec 32) (v78 : BitVec 32) (k0_t6 : Fin (k0_t6_loop v75 v78).trips) (v386 : BitVec 32) (k0_hw19 : k0_chk19 v75 v78 k0_t6 v386), ∀ (k0_h4 : k0_cond4 v75 v78 k0_t6 = 1#1), ∀ a, (k0_off42 v386) a + S1x1024.size a ≤ S2048x1024.size a := fun v75 v78 k0_t6 v386 k0_hw19 k0_h4 => k0_hw19 k0_h4

def k0_off43 (v384 : BitVec 32) : Fin 2 → Nat :=
  let c0_i32_256 : BitVec 32 := 0#32
  ![v384.toNat, 0]

def k0_chk20 (v75 : BitVec 32) (v78 : BitVec 32) (k0_t6 : Fin (k0_t6_loop v75 v78).trips) (v384 : BitVec 32) : Prop :=
  (∀ (k0_h4 : k0_cond4 v75 v78 k0_t6 = 1#1), ∀ a, (k0_off43 v384) a + S1x1024.size a ≤ S8192x1024.size a)
theorem k0_off43_inb : ∀ (v75 : BitVec 32) (v78 : BitVec 32) (k0_t6 : Fin (k0_t6_loop v75 v78).trips) (v384 : BitVec 32) (k0_hw20 : k0_chk20 v75 v78 k0_t6 v384), ∀ (k0_h4 : k0_cond4 v75 v78 k0_t6 = 1#1), ∀ a, (k0_off43 v384) a + S1x1024.size a ≤ S8192x1024.size a := fun v75 v78 k0_t6 v384 k0_hw20 k0_h4 => k0_hw20 k0_h4

def k0_off44 (v75 : BitVec 32) (v78 : BitVec 32) (k0_t6 : Fin (k0_t6_loop v75 v78).trips) : Fin 1 → Nat :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_43 : BitVec 32 := 1#32
  let arg11 : BitVec 32 := Scf.iv v83 c1_i32_43 k0_t6
  let v373 : Index := Scalar.indexCast arg11
  ![v373.toNat]
def k0_off45 (v75 : BitVec 32) (v78 : BitVec 32) (k0_t6 : Fin (k0_t6_loop v75 v78).trips) : Fin 1 → Nat :=
  let v79 : BitVec 32 := Scalar.subi v78 v75
  let c1_i32_41 : BitVec 32 := 1#32
  let v81 : BitVec 32 := Scalar.divsi v79 c1_i32_41
  let v82 : BitVec 32 := Scalar.muli v81 c1_i32_41
  let v83 : BitVec 32 := Scalar.addi v75 v82
  let c1_i32_43 : BitVec 32 := 1#32
  let arg11 : BitVec 32 := Scf.iv v83 c1_i32_43 k0_t6
  let c16_i32_249 : BitVec 32 := 16#32
  let v377 : BitVec 32 := Scalar.remsi arg11 c16_i32_249
  ![v377.toNat]
def k0_off46 (v376 : BitVec 32) : Fin 2 → Nat :=
  let c0_i32_250 : BitVec 32 := 0#32
  ![v376.toNat, 0]

def k0_chk21 (v376 : BitVec 32) : Prop :=
  (∀ a, (k0_off46 v376) a + S1x1024.size a ≤ S2048x1024.size a)
theorem k0_off46_inb : ∀ (v376 : BitVec 32) (k0_hw21 : k0_chk21 v376), ∀ a, (k0_off46 v376) a + S1x1024.size a ≤ S2048x1024.size a := fun v376 k0_hw21 => k0_hw21

def k0_off47 (v374 : BitVec 32) : Fin 2 → Nat :=
  let c0_i32_251 : BitVec 32 := 0#32
  ![v374.toNat, 0]

def k0_chk22 (v374 : BitVec 32) : Prop :=
  (∀ a, (k0_off47 v374) a + S1x1024.size a ≤ S8192x1024.size a)
theorem k0_off47_inb : ∀ (v374 : BitVec 32) (k0_hw22 : k0_chk22 v374), ∀ a, (k0_off47 v374) a + S1x1024.size a ≤ S8192x1024.size a := fun v374 k0_hw22 => k0_hw22

@[reducible] def k0_t7_loop (v75 : BitVec 32) (v78 : BitVec 32) : Scf.Loop 32 :=
  let c16_i32_44 : BitVec 32 := 16#32
  let v86 : BitVec 32 := Scalar.subi v78 c16_i32_44
  let v87 : BitVec 32 := Scalar.maxsi v86 v75
  let v88 : BitVec 32 := Scalar.subi v78 v87
  let c1_i32_46 : BitVec 32 := 1#32
  let v90 : BitVec 32 := Scalar.divsi v88 c1_i32_46
  let v91 : BitVec 32 := Scalar.muli v90 c1_i32_46
  let v92 : BitVec 32 := Scalar.addi v87 v91
  let c1_i32_47 : BitVec 32 := 1#32
  ⟨v87, v92, c1_i32_47⟩
def k0_off48 (v75 : BitVec 32) (v78 : BitVec 32) (k0_t7 : Fin (k0_t7_loop v75 v78).trips) : Fin 1 → Nat :=
  let c16_i32_44 : BitVec 32 := 16#32
  let v86 : BitVec 32 := Scalar.subi v78 c16_i32_44
  let v87 : BitVec 32 := Scalar.maxsi v86 v75
  let c1_i32_47 : BitVec 32 := 1#32
  let arg11 : BitVec 32 := Scf.iv v87 c1_i32_47 k0_t7
  let v369 : Index := Scalar.indexCast arg11
  ![v369.toNat]
def k0_off49 (v75 : BitVec 32) (v78 : BitVec 32) (k0_t7 : Fin (k0_t7_loop v75 v78).trips) : Fin 1 → Nat :=
  let c16_i32_44 : BitVec 32 := 16#32
  let v86 : BitVec 32 := Scalar.subi v78 c16_i32_44
  let v87 : BitVec 32 := Scalar.maxsi v86 v75
  let c1_i32_47 : BitVec 32 := 1#32
  let arg11 : BitVec 32 := Scf.iv v87 c1_i32_47 k0_t7
  let c16_i32_247 : BitVec 32 := 16#32
  let v373 : BitVec 32 := Scalar.remsi arg11 c16_i32_247
  ![v373.toNat]
def k0_off50 (v372 : BitVec 32) : Fin 2 → Nat :=
  let c0_i32_248 : BitVec 32 := 0#32
  ![v372.toNat, 0]

def k0_chk23 (v372 : BitVec 32) : Prop :=
  (∀ a, (k0_off50 v372) a + S1x1024.size a ≤ S2048x1024.size a)
theorem k0_off50_inb : ∀ (v372 : BitVec 32) (k0_hw23 : k0_chk23 v372), ∀ a, (k0_off50 v372) a + S1x1024.size a ≤ S2048x1024.size a := fun v372 k0_hw23 => k0_hw23

def k0_off51 (v370 : BitVec 32) : Fin 2 → Nat :=
  let c0_i32_249 : BitVec 32 := 0#32
  ![v370.toNat, 0]

def k0_chk24 (v370 : BitVec 32) : Prop :=
  (∀ a, (k0_off51 v370) a + S1x1024.size a ≤ S8192x1024.size a)
theorem k0_off51_inb : ∀ (v370 : BitVec 32) (k0_hw24 : k0_chk24 v370), ∀ a, (k0_off51 v370) a + S1x1024.size a ≤ S8192x1024.size a := fun v370 k0_hw24 => k0_hw24

@[reducible] def k0_t8_loop (v75 : BitVec 32) (v78 : BitVec 32) : Scf.Loop 32 :=
  let c16_i32_44 : BitVec 32 := 16#32
  let v86 : BitVec 32 := Scalar.subi v78 c16_i32_44
  let v87 : BitVec 32 := Scalar.maxsi v86 v75
  let v88 : BitVec 32 := Scalar.subi v78 v87
  let c1_i32_46 : BitVec 32 := 1#32
  let v90 : BitVec 32 := Scalar.divsi v88 c1_i32_46
  let v91 : BitVec 32 := Scalar.muli v90 c1_i32_46
  let v92 : BitVec 32 := Scalar.addi v87 v91
  let v89 : BitVec 32 := Scalar.addi v87 v88
  let c1_i32_48 : BitVec 32 := 1#32
  ⟨v92, v89, c1_i32_48⟩
def k0_off52 (v75 : BitVec 32) (v78 : BitVec 32) (k0_t8 : Fin (k0_t8_loop v75 v78).trips) : Fin 1 → Nat :=
  let c16_i32_44 : BitVec 32 := 16#32
  let v86 : BitVec 32 := Scalar.subi v78 c16_i32_44
  let v87 : BitVec 32 := Scalar.maxsi v86 v75
  let v88 : BitVec 32 := Scalar.subi v78 v87
  let c1_i32_46 : BitVec 32 := 1#32
  let v90 : BitVec 32 := Scalar.divsi v88 c1_i32_46
  let v91 : BitVec 32 := Scalar.muli v90 c1_i32_46
  let v92 : BitVec 32 := Scalar.addi v87 v91
  let c1_i32_48 : BitVec 32 := 1#32
  let arg11 : BitVec 32 := Scf.iv v92 c1_i32_48 k0_t8
  let v369 : Index := Scalar.indexCast arg11
  ![v369.toNat]
def k0_off53 (v75 : BitVec 32) (v78 : BitVec 32) (k0_t8 : Fin (k0_t8_loop v75 v78).trips) : Fin 1 → Nat :=
  let c16_i32_44 : BitVec 32 := 16#32
  let v86 : BitVec 32 := Scalar.subi v78 c16_i32_44
  let v87 : BitVec 32 := Scalar.maxsi v86 v75
  let v88 : BitVec 32 := Scalar.subi v78 v87
  let c1_i32_46 : BitVec 32 := 1#32
  let v90 : BitVec 32 := Scalar.divsi v88 c1_i32_46
  let v91 : BitVec 32 := Scalar.muli v90 c1_i32_46
  let v92 : BitVec 32 := Scalar.addi v87 v91
  let c1_i32_48 : BitVec 32 := 1#32
  let arg11 : BitVec 32 := Scf.iv v92 c1_i32_48 k0_t8
  let c16_i32_247 : BitVec 32 := 16#32
  let v373 : BitVec 32 := Scalar.remsi arg11 c16_i32_247
  ![v373.toNat]

def k0_chk14 (v75 : BitVec 32) (v78 : BitVec 32) : Prop :=
  ((k0_t5_loop v75 v78).OK) ∧
  (∀ k0_t5 : Fin (k0_t5_loop v75 v78).trips, ∀ (k0_h3 : k0_cond3 v75 v78 k0_t5 = 1#1), ∀ a, (k0_off32 v75 v78 k0_t5) a + S1.size a ≤ S2048.size a) ∧
  (∀ k0_t5 : Fin (k0_t5_loop v75 v78).trips, ∀ (k0_h3 : k0_cond3 v75 v78 k0_t5 = 1#1), ∀ a, (k0_off33 v75 v78 k0_t5) a + S1.size a ≤ S16.size a) ∧
  (∀ k0_t5 : Fin (k0_t5_loop v75 v78).trips, ∀ a, (k0_off36 v75 v78 k0_t5) a + S1.size a ≤ S2048.size a) ∧
  (∀ k0_t5 : Fin (k0_t5_loop v75 v78).trips, ∀ a, (k0_off37 v75 v78 k0_t5) a + S1.size a ≤ S16.size a) ∧
  ((k0_t6_loop v75 v78).OK) ∧
  (∀ k0_t6 : Fin (k0_t6_loop v75 v78).trips, ∀ (k0_h4 : k0_cond4 v75 v78 k0_t6 = 1#1), ∀ a, (k0_off40 v75 v78 k0_t6) a + S1.size a ≤ S2048.size a) ∧
  (∀ k0_t6 : Fin (k0_t6_loop v75 v78).trips, ∀ (k0_h4 : k0_cond4 v75 v78 k0_t6 = 1#1), ∀ a, (k0_off41 v75 v78 k0_t6) a + S1.size a ≤ S16.size a) ∧
  (∀ k0_t6 : Fin (k0_t6_loop v75 v78).trips, ∀ a, (k0_off44 v75 v78 k0_t6) a + S1.size a ≤ S2048.size a) ∧
  (∀ k0_t6 : Fin (k0_t6_loop v75 v78).trips, ∀ a, (k0_off45 v75 v78 k0_t6) a + S1.size a ≤ S16.size a) ∧
  ((k0_t7_loop v75 v78).OK) ∧
  (∀ k0_t7 : Fin (k0_t7_loop v75 v78).trips, ∀ a, (k0_off48 v75 v78 k0_t7) a + S1.size a ≤ S2048.size a) ∧
  (∀ k0_t7 : Fin (k0_t7_loop v75 v78).trips, ∀ a, (k0_off49 v75 v78 k0_t7) a + S1.size a ≤ S16.size a) ∧
  ((k0_t8_loop v75 v78).OK) ∧
  (∀ k0_t8 : Fin (k0_t8_loop v75 v78).trips, ∀ a, (k0_off52 v75 v78 k0_t8) a + S1.size a ≤ S2048.size a) ∧
  (∀ k0_t8 : Fin (k0_t8_loop v75 v78).trips, ∀ a, (k0_off53 v75 v78 k0_t8) a + S1.size a ≤ S16.size a)
theorem k0_t5_ok : ∀ (v75 : BitVec 32) (v78 : BitVec 32) (k0_hw14 : k0_chk14 v75 v78), (k0_t5_loop v75 v78).OK := fun v75 v78 k0_hw14 => k0_hw14.1
theorem k0_off32_inb : ∀ (v75 : BitVec 32) (v78 : BitVec 32) (k0_hw14 : k0_chk14 v75 v78) (k0_t5 : Fin (k0_t5_loop v75 v78).trips), ∀ (k0_h3 : k0_cond3 v75 v78 k0_t5 = 1#1), ∀ a, (k0_off32 v75 v78 k0_t5) a + S1.size a ≤ S2048.size a := fun v75 v78 k0_hw14 k0_t5 k0_h3 => k0_hw14.2.1 k0_t5 k0_h3
theorem k0_off33_inb : ∀ (v75 : BitVec 32) (v78 : BitVec 32) (k0_hw14 : k0_chk14 v75 v78) (k0_t5 : Fin (k0_t5_loop v75 v78).trips), ∀ (k0_h3 : k0_cond3 v75 v78 k0_t5 = 1#1), ∀ a, (k0_off33 v75 v78 k0_t5) a + S1.size a ≤ S16.size a := fun v75 v78 k0_hw14 k0_t5 k0_h3 => k0_hw14.2.2.1 k0_t5 k0_h3
theorem k0_off36_inb : ∀ (v75 : BitVec 32) (v78 : BitVec 32) (k0_hw14 : k0_chk14 v75 v78) (k0_t5 : Fin (k0_t5_loop v75 v78).trips), ∀ a, (k0_off36 v75 v78 k0_t5) a + S1.size a ≤ S2048.size a := fun v75 v78 k0_hw14 k0_t5 => k0_hw14.2.2.2.1 k0_t5
theorem k0_off37_inb : ∀ (v75 : BitVec 32) (v78 : BitVec 32) (k0_hw14 : k0_chk14 v75 v78) (k0_t5 : Fin (k0_t5_loop v75 v78).trips), ∀ a, (k0_off37 v75 v78 k0_t5) a + S1.size a ≤ S16.size a := fun v75 v78 k0_hw14 k0_t5 => k0_hw14.2.2.2.2.1 k0_t5
theorem k0_t6_ok : ∀ (v75 : BitVec 32) (v78 : BitVec 32) (k0_hw14 : k0_chk14 v75 v78), (k0_t6_loop v75 v78).OK := fun v75 v78 k0_hw14 => k0_hw14.2.2.2.2.2.1
theorem k0_off40_inb : ∀ (v75 : BitVec 32) (v78 : BitVec 32) (k0_hw14 : k0_chk14 v75 v78) (k0_t6 : Fin (k0_t6_loop v75 v78).trips), ∀ (k0_h4 : k0_cond4 v75 v78 k0_t6 = 1#1), ∀ a, (k0_off40 v75 v78 k0_t6) a + S1.size a ≤ S2048.size a := fun v75 v78 k0_hw14 k0_t6 k0_h4 => k0_hw14.2.2.2.2.2.2.1 k0_t6 k0_h4
theorem k0_off41_inb : ∀ (v75 : BitVec 32) (v78 : BitVec 32) (k0_hw14 : k0_chk14 v75 v78) (k0_t6 : Fin (k0_t6_loop v75 v78).trips), ∀ (k0_h4 : k0_cond4 v75 v78 k0_t6 = 1#1), ∀ a, (k0_off41 v75 v78 k0_t6) a + S1.size a ≤ S16.size a := fun v75 v78 k0_hw14 k0_t6 k0_h4 => k0_hw14.2.2.2.2.2.2.2.1 k0_t6 k0_h4
theorem k0_off44_inb : ∀ (v75 : BitVec 32) (v78 : BitVec 32) (k0_hw14 : k0_chk14 v75 v78) (k0_t6 : Fin (k0_t6_loop v75 v78).trips), ∀ a, (k0_off44 v75 v78 k0_t6) a + S1.size a ≤ S2048.size a := fun v75 v78 k0_hw14 k0_t6 => k0_hw14.2.2.2.2.2.2.2.2.1 k0_t6
theorem k0_off45_inb : ∀ (v75 : BitVec 32) (v78 : BitVec 32) (k0_hw14 : k0_chk14 v75 v78) (k0_t6 : Fin (k0_t6_loop v75 v78).trips), ∀ a, (k0_off45 v75 v78 k0_t6) a + S1.size a ≤ S16.size a := fun v75 v78 k0_hw14 k0_t6 => k0_hw14.2.2.2.2.2.2.2.2.2.1 k0_t6
theorem k0_t7_ok : ∀ (v75 : BitVec 32) (v78 : BitVec 32) (k0_hw14 : k0_chk14 v75 v78), (k0_t7_loop v75 v78).OK := fun v75 v78 k0_hw14 => k0_hw14.2.2.2.2.2.2.2.2.2.2.1
theorem k0_off48_inb : ∀ (v75 : BitVec 32) (v78 : BitVec 32) (k0_hw14 : k0_chk14 v75 v78) (k0_t7 : Fin (k0_t7_loop v75 v78).trips), ∀ a, (k0_off48 v75 v78 k0_t7) a + S1.size a ≤ S2048.size a := fun v75 v78 k0_hw14 k0_t7 => k0_hw14.2.2.2.2.2.2.2.2.2.2.2.1 k0_t7
theorem k0_off49_inb : ∀ (v75 : BitVec 32) (v78 : BitVec 32) (k0_hw14 : k0_chk14 v75 v78) (k0_t7 : Fin (k0_t7_loop v75 v78).trips), ∀ a, (k0_off49 v75 v78 k0_t7) a + S1.size a ≤ S16.size a := fun v75 v78 k0_hw14 k0_t7 => k0_hw14.2.2.2.2.2.2.2.2.2.2.2.2.1 k0_t7
theorem k0_t8_ok : ∀ (v75 : BitVec 32) (v78 : BitVec 32) (k0_hw14 : k0_chk14 v75 v78), (k0_t8_loop v75 v78).OK := fun v75 v78 k0_hw14 => k0_hw14.2.2.2.2.2.2.2.2.2.2.2.2.2.1
theorem k0_off52_inb : ∀ (v75 : BitVec 32) (v78 : BitVec 32) (k0_hw14 : k0_chk14 v75 v78) (k0_t8 : Fin (k0_t8_loop v75 v78).trips), ∀ a, (k0_off52 v75 v78 k0_t8) a + S1.size a ≤ S2048.size a := fun v75 v78 k0_hw14 k0_t8 => k0_hw14.2.2.2.2.2.2.2.2.2.2.2.2.2.2.1 k0_t8
theorem k0_off53_inb : ∀ (v75 : BitVec 32) (v78 : BitVec 32) (k0_hw14 : k0_chk14 v75 v78) (k0_t8 : Fin (k0_t8_loop v75 v78).trips), ∀ a, (k0_off53 v75 v78 k0_t8) a + S1.size a ≤ S16.size a := fun v75 v78 k0_hw14 k0_t8 => k0_hw14.2.2.2.2.2.2.2.2.2.2.2.2.2.2.2 k0_t8

def k0_off54 (v372 : BitVec 32) : Fin 2 → Nat :=
  let c0_i32_248 : BitVec 32 := 0#32
  ![v372.toNat, 0]

def k0_chk25 (v372 : BitVec 32) : Prop :=
  (∀ a, (k0_off54 v372) a + S1x1024.size a ≤ S2048x1024.size a)
theorem k0_off54_inb : ∀ (v372 : BitVec 32) (k0_hw25 : k0_chk25 v372), ∀ a, (k0_off54 v372) a + S1x1024.size a ≤ S2048x1024.size a := fun v372 k0_hw25 => k0_hw25

def k0_off55 (v370 : BitVec 32) : Fin 2 → Nat :=
  let c0_i32_249 : BitVec 32 := 0#32
  ![v370.toNat, 0]

def k0_chk26 (v370 : BitVec 32) : Prop :=
  (∀ a, (k0_off55 v370) a + S1x1024.size a ≤ S8192x1024.size a)
theorem k0_off55_inb : ∀ (v370 : BitVec 32) (k0_hw26 : k0_chk26 v370), ∀ a, (k0_off55 v370) a + S1x1024.size a ≤ S8192x1024.size a := fun v370 k0_hw26 => k0_hw26

def k0_off56 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v60 : BitVec 32 := Scalar.subi v2 c0_i32_26
  let c1_i32_27 : BitVec 32 := 1#32
  let v61 : BitVec 32 := Scalar.subi v60 c1_i32_27
  let c4_i32_28 : BitVec 32 := 4#32
  let v62 : BitVec 32 := Scalar.addi v61 c4_i32_28
  let c4_i32_29 : BitVec 32 := 4#32
  let v63 : BitVec 32 := Scalar.remsi v62 c4_i32_29
  let c512_i32_49 : BitVec 32 := 512#32
  let v95 : BitVec 32 := Scalar.muli v63 c512_i32_49
  let v96 : Index := Scalar.indexCast v95
  let c0_50 : Index := 0#32
  ![v96.toNat, 0]
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v60 : BitVec 32 := Scalar.subi v2 c0_i32_26
  let c1_i32_27 : BitVec 32 := 1#32
  let v61 : BitVec 32 := Scalar.subi v60 c1_i32_27
  let c4_i32_28 : BitVec 32 := 4#32
  let v62 : BitVec 32 := Scalar.addi v61 c4_i32_28
  let c4_i32_29 : BitVec 32 := 4#32
  let v63 : BitVec 32 := Scalar.remsi v62 c4_i32_29
  let c512_i32_49 : BitVec 32 := 512#32
  let v95 : BitVec 32 := Scalar.muli v63 c512_i32_49
  let v108 : Index := Scalar.indexCast v95
  let c0_53 : Index := 0#32
  ![v108.toNat, 0]
def k0_off58 (d0 : Dev nD) (c0_i32_23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.subi v2 c0_i32_23
  let c4_i32_24 : BitVec 32 := 4#32
  let v58 : BitVec 32 := Scalar.addi v57 c4_i32_24
  let c4_i32_25 : BitVec 32 := 4#32
  let v59 : BitVec 32 := Scalar.remsi v58 c4_i32_25
  let c512_i32_30 : BitVec 32 := 512#32
  let v64 : BitVec 32 := Scalar.muli v59 c512_i32_30
  let c0_i32_60 : BitVec 32 := 0#32
  ![v64.toNat, 0]
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_88 : BitVec 32 := 1#32
  let v146 : BitVec 32 := Scalar.muli v7 c1_i32_88
  let v147 : BitVec 32 := Scalar.addi c0_i32_89 v146
  v147.toNat
def k0_off59 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v141 : BitVec 32 := Scalar.subi v2 c1_i32_80
  let c1_i32_81 : BitVec 32 := 1#32
  let v142 : BitVec 32 := Scalar.subi v141 c1_i32_81
  let c4_i32_82 : BitVec 32 := 4#32
  let v143 : BitVec 32 := Scalar.addi v142 c4_i32_82
  let c4_i32_83 : BitVec 32 := 4#32
  let v144 : BitVec 32 := Scalar.remsi v143 c4_i32_83
  let v155 : Index := Scalar.indexCast v144
  ![v155.toNat]
def k0_off60 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v141 : BitVec 32 := Scalar.subi v2 c1_i32_80
  let c1_i32_81 : BitVec 32 := 1#32
  let v142 : BitVec 32 := Scalar.subi v141 c1_i32_81
  let c4_i32_82 : BitVec 32 := 4#32
  let v143 : BitVec 32 := Scalar.addi v142 c4_i32_82
  let c4_i32_83 : BitVec 32 := 4#32
  let v144 : BitVec 32 := Scalar.remsi v143 c4_i32_83
  let c1_i32_93 : BitVec 32 := 1#32
  let v157 : BitVec 32 := Scalar.addi v144 c1_i32_93
  let v158 : Index := Scalar.indexCast v157
  ![v158.toNat]
@[reducible] def k0_t9_loop (v156 : BitVec 32) (v159 : BitVec 32) : Scf.Loop 32 :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_96 : BitVec 32 := 1#32
  ⟨v156, v164, c1_i32_96⟩

def k0_off61 (v156 : BitVec 32) (v159 : BitVec 32) (k0_t9 : Fin (k0_t9_loop v156 v159).trips) : Fin 1 → Nat :=
  let c1_i32_96 : BitVec 32 := 1#32
  let arg11 : BitVec 32 := Scf.iv v156 c1_i32_96 k0_t9
  let c16_i32_253 : BitVec 32 := 16#32
  let v382 : BitVec 32 := Scalar.subi arg11 c16_i32_253
  let v383 : Index := Scalar.indexCast v382
  ![v383.toNat]
def k0_cond5 (v156 : BitVec 32) (v159 : BitVec 32) (k0_t9 : Fin (k0_t9_loop v156 v159).trips) : BitVec 1 :=
  let c1_i32_96 : BitVec 32 := 1#32
  let arg11 : BitVec 32 := Scf.iv v156 c1_i32_96 k0_t9
  let v369 : BitVec 32 := Scalar.subi arg11 v156
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off62 (v156 : BitVec 32) (v159 : BitVec 32) (k0_t9 : Fin (k0_t9_loop v156 v159).trips) : Fin 1 → Nat :=
  let c1_i32_96 : BitVec 32 := 1#32
  let arg11 : BitVec 32 := Scf.iv v156 c1_i32_96 k0_t9
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off63 (v386 : BitVec 32) : Fin 2 → Nat :=
  let c0_i32_255 : BitVec 32 := 0#32
  ![v386.toNat, 0]

def k0_chk28 (v156 : BitVec 32) (v159 : BitVec 32) (k0_t9 : Fin (k0_t9_loop v156 v159).trips) (v386 : BitVec 32) : Prop :=
  (∀ (k0_h5 : k0_cond5 v156 v159 k0_t9 = 1#1), ∀ a, (k0_off63 v386) a + S1x1024.size a ≤ S2048x1024.size a)
theorem k0_off63_inb : ∀ (v156 : BitVec 32) (v159 : BitVec 32) (k0_t9 : Fin (k0_t9_loop v156 v159).trips) (v386 : BitVec 32) (k0_hw28 : k0_chk28 v156 v159 k0_t9 v386), ∀ (k0_h5 : k0_cond5 v156 v159 k0_t9 = 1#1), ∀ a, (k0_off63 v386) a + S1x1024.size a ≤ S2048x1024.size a := fun v156 v159 k0_t9 v386 k0_hw28 k0_h5 => k0_hw28 k0_h5

def k0_off64 (v384 : BitVec 32) : Fin 2 → Nat :=
  let c0_i32_256 : BitVec 32 := 0#32
  ![v384.toNat, 0]

def k0_chk29 (v156 : BitVec 32) (v159 : BitVec 32) (k0_t9 : Fin (k0_t9_loop v156 v159).trips) (v384 : BitVec 32) : Prop :=
  (∀ (k0_h5 : k0_cond5 v156 v159 k0_t9 = 1#1), ∀ a, (k0_off64 v384) a + S1x1024.size a ≤ S8192x1024.size a)
theorem k0_off64_inb : ∀ (v156 : BitVec 32) (v159 : BitVec 32) (k0_t9 : Fin (k0_t9_loop v156 v159).trips) (v384 : BitVec 32) (k0_hw29 : k0_chk29 v156 v159 k0_t9 v384), ∀ (k0_h5 : k0_cond5 v156 v159 k0_t9 = 1#1), ∀ a, (k0_off64 v384) a + S1x1024.size a ≤ S8192x1024.size a := fun v156 v159 k0_t9 v384 k0_hw29 k0_h5 => k0_hw29 k0_h5

def k0_off65 (v156 : BitVec 32) (v159 : BitVec 32) (k0_t9 : Fin (k0_t9_loop v156 v159).trips) : Fin 1 → Nat :=
  let c1_i32_96 : BitVec 32 := 1#32
  let arg11 : BitVec 32 := Scf.iv v156 c1_i32_96 k0_t9
  let v373 : Index := Scalar.indexCast arg11
  ![v373.toNat]
def k0_off66 (v156 : BitVec 32) (v159 : BitVec 32) (k0_t9 : Fin (k0_t9_loop v156 v159).trips) : Fin 1 → Nat :=
  let c1_i32_96 : BitVec 32 := 1#32
  let arg11 : BitVec 32 := Scf.iv v156 c1_i32_96 k0_t9
  let c16_i32_249 : BitVec 32 := 16#32
  let v377 : BitVec 32 := Scalar.remsi arg11 c16_i32_249
  ![v377.toNat]
def k0_off67 (v376 : BitVec 32) : Fin 2 → Nat :=
  let c0_i32_250 : BitVec 32 := 0#32
  ![v376.toNat, 0]

def k0_chk30 (v376 : BitVec 32) : Prop :=
  (∀ a, (k0_off67 v376) a + S1x1024.size a ≤ S2048x1024.size a)
theorem k0_off67_inb : ∀ (v376 : BitVec 32) (k0_hw30 : k0_chk30 v376), ∀ a, (k0_off67 v376) a + S1x1024.size a ≤ S2048x1024.size a := fun v376 k0_hw30 => k0_hw30

def k0_off68 (v374 : BitVec 32) : Fin 2 → Nat :=
  let c0_i32_251 : BitVec 32 := 0#32
  ![v374.toNat, 0]

def k0_chk31 (v374 : BitVec 32) : Prop :=
  (∀ a, (k0_off68 v374) a + S1x1024.size a ≤ S8192x1024.size a)
theorem k0_off68_inb : ∀ (v374 : BitVec 32) (k0_hw31 : k0_chk31 v374), ∀ a, (k0_off68 v374) a + S1x1024.size a ≤ S8192x1024.size a := fun v374 k0_hw31 => k0_hw31

@[reducible] def k0_t10_loop (v156 : BitVec 32) (v159 : BitVec 32) : Scf.Loop 32 :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let v161 : BitVec 32 := Scalar.addi v156 v160
  let c1_i32_97 : BitVec 32 := 1#32
  ⟨v164, v161, c1_i32_97⟩
def k0_off69 (v156 : BitVec 32) (v159 : BitVec 32) (k0_t10 : Fin (k0_t10_loop v156 v159).trips) : Fin 1 → Nat :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_97 : BitVec 32 := 1#32
  let arg11 : BitVec 32 := Scf.iv v164 c1_i32_97 k0_t10
  let c16_i32_253 : BitVec 32 := 16#32
  let v382 : BitVec 32 := Scalar.subi arg11 c16_i32_253
  let v383 : Index := Scalar.indexCast v382
  ![v383.toNat]
def k0_cond6 (v156 : BitVec 32) (v159 : BitVec 32) (k0_t10 : Fin (k0_t10_loop v156 v159).trips) : BitVec 1 :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_97 : BitVec 32 := 1#32
  let arg11 : BitVec 32 := Scf.iv v164 c1_i32_97 k0_t10
  let v369 : BitVec 32 := Scalar.subi arg11 v156
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off70 (v156 : BitVec 32) (v159 : BitVec 32) (k0_t10 : Fin (k0_t10_loop v156 v159).trips) : Fin 1 → Nat :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_97 : BitVec 32 := 1#32
  let arg11 : BitVec 32 := Scf.iv v164 c1_i32_97 k0_t10
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off71 (v386 : BitVec 32) : Fin 2 → Nat :=
  let c0_i32_255 : BitVec 32 := 0#32
  ![v386.toNat, 0]

def k0_chk32 (v156 : BitVec 32) (v159 : BitVec 32) (k0_t10 : Fin (k0_t10_loop v156 v159).trips) (v386 : BitVec 32) : Prop :=
  (∀ (k0_h6 : k0_cond6 v156 v159 k0_t10 = 1#1), ∀ a, (k0_off71 v386) a + S1x1024.size a ≤ S2048x1024.size a)
theorem k0_off71_inb : ∀ (v156 : BitVec 32) (v159 : BitVec 32) (k0_t10 : Fin (k0_t10_loop v156 v159).trips) (v386 : BitVec 32) (k0_hw32 : k0_chk32 v156 v159 k0_t10 v386), ∀ (k0_h6 : k0_cond6 v156 v159 k0_t10 = 1#1), ∀ a, (k0_off71 v386) a + S1x1024.size a ≤ S2048x1024.size a := fun v156 v159 k0_t10 v386 k0_hw32 k0_h6 => k0_hw32 k0_h6

def k0_off72 (v384 : BitVec 32) : Fin 2 → Nat :=
  let c0_i32_256 : BitVec 32 := 0#32
  ![v384.toNat, 0]

def k0_chk33 (v156 : BitVec 32) (v159 : BitVec 32) (k0_t10 : Fin (k0_t10_loop v156 v159).trips) (v384 : BitVec 32) : Prop :=
  (∀ (k0_h6 : k0_cond6 v156 v159 k0_t10 = 1#1), ∀ a, (k0_off72 v384) a + S1x1024.size a ≤ S8192x1024.size a)
theorem k0_off72_inb : ∀ (v156 : BitVec 32) (v159 : BitVec 32) (k0_t10 : Fin (k0_t10_loop v156 v159).trips) (v384 : BitVec 32) (k0_hw33 : k0_chk33 v156 v159 k0_t10 v384), ∀ (k0_h6 : k0_cond6 v156 v159 k0_t10 = 1#1), ∀ a, (k0_off72 v384) a + S1x1024.size a ≤ S8192x1024.size a := fun v156 v159 k0_t10 v384 k0_hw33 k0_h6 => k0_hw33 k0_h6

def k0_off73 (v156 : BitVec 32) (v159 : BitVec 32) (k0_t10 : Fin (k0_t10_loop v156 v159).trips) : Fin 1 → Nat :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_97 : BitVec 32 := 1#32
  let arg11 : BitVec 32 := Scf.iv v164 c1_i32_97 k0_t10
  let v373 : Index := Scalar.indexCast arg11
  ![v373.toNat]
def k0_off74 (v156 : BitVec 32) (v159 : BitVec 32) (k0_t10 : Fin (k0_t10_loop v156 v159).trips) : Fin 1 → Nat :=
  let v160 : BitVec 32 := Scalar.subi v159 v156
  let c1_i32_95 : BitVec 32 := 1#32
  let v162 : BitVec 32 := Scalar.divsi v160 c1_i32_95
  let v163 : BitVec 32 := Scalar.muli v162 c1_i32_95
  let v164 : BitVec 32 := Scalar.addi v156 v163
  let c1_i32_97 : BitVec 32 := 1#32
  let arg11 : BitVec 32 := Scf.iv v164 c1_i32_97 k0_t10
  let c16_i32_249 : BitVec 32 := 16#32
  let v377 : BitVec 32 := Scalar.remsi arg11 c16_i32_249
  ![v377.toNat]
def k0_off75 (v376 : BitVec 32) : Fin 2 → Nat :=
  let c0_i32_250 : BitVec 32 := 0#32
  ![v376.toNat, 0]

def k0_chk34 (v376 : BitVec 32) : Prop :=
  (∀ a, (k0_off75 v376) a + S1x1024.size a ≤ S2048x1024.size a)
theorem k0_off75_inb : ∀ (v376 : BitVec 32) (k0_hw34 : k0_chk34 v376), ∀ a, (k0_off75 v376) a + S1x1024.size a ≤ S2048x1024.size a := fun v376 k0_hw34 => k0_hw34

def k0_off76 (v374 : BitVec 32) : Fin 2 → Nat :=
  let c0_i32_251 : BitVec 32 := 0#32
  ![v374.toNat, 0]

def k0_chk35 (v374 : BitVec 32) : Prop :=
  (∀ a, (k0_off76 v374) a + S1x1024.size a ≤ S8192x1024.size a)
theorem k0_off76_inb : ∀ (v374 : BitVec 32) (k0_hw35 : k0_chk35 v374), ∀ a, (k0_off76 v374) a + S1x1024.size a ≤ S8192x1024.size a := fun v374 k0_hw35 => k0_hw35

@[reducible] def k0_t11_loop (v156 : BitVec 32) (v159 : BitVec 32) : Scf.Loop 32 :=
  let c16_i32_98 : BitVec 32 := 16#32
  let v167 : BitVec 32 := Scalar.subi v159 c16_i32_98
  let v168 : BitVec 32 := Scalar.maxsi v167 v156
  let v169 : BitVec 32 := Scalar.subi v159 v168
  let c1_i32_100 : BitVec 32 := 1#32
  let v171 : BitVec 32 := Scalar.divsi v169 c1_i32_100
  let v172 : BitVec 32 := Scalar.muli v171 c1_i32_100
  let v173 : BitVec 32 := Scalar.addi v168 v172
  let c1_i32_101 : BitVec 32 := 1#32
  ⟨v168, v173, c1_i32_101⟩
def k0_off77 (v156 : BitVec 32) (v159 : BitVec 32) (k0_t11 : Fin (k0_t11_loop v156 v159).trips) : Fin 1 → Nat :=
  let c16_i32_98 : BitVec 32 := 16#32
  let v167 : BitVec 32 := Scalar.subi v159 c16_i32_98
  let v168 : BitVec 32 := Scalar.maxsi v167 v156
  let c1_i32_101 : BitVec 32 := 1#32
  let arg11 : BitVec 32 := Scf.iv v168 c1_i32_101 k0_t11
  let v369 : Index := Scalar.indexCast arg11
  ![v369.toNat]
def k0_off78 (v156 : BitVec 32) (v159 : BitVec 32) (k0_t11 : Fin (k0_t11_loop v156 v159).trips) : Fin 1 → Nat :=
  let c16_i32_98 : BitVec 32 := 16#32
  let v167 : BitVec 32 := Scalar.subi v159 c16_i32_98
  let v168 : BitVec 32 := Scalar.maxsi v167 v156
  let c1_i32_101 : BitVec 32 := 1#32
  let arg11 : BitVec 32 := Scf.iv v168 c1_i32_101 k0_t11
  let c16_i32_247 : BitVec 32 := 16#32
  let v373 : BitVec 32 := Scalar.remsi arg11 c16_i32_247
  ![v373.toNat]
def k0_off79 (v372 : BitVec 32) : Fin 2 → Nat :=
  let c0_i32_248 : BitVec 32 := 0#32
  ![v372.toNat, 0]

def k0_chk36 (v372 : BitVec 32) : Prop :=
  (∀ a, (k0_off79 v372) a + S1x1024.size a ≤ S2048x1024.size a)
theorem k0_off79_inb : ∀ (v372 : BitVec 32) (k0_hw36 : k0_chk36 v372), ∀ a, (k0_off79 v372) a + S1x1024.size a ≤ S2048x1024.size a := fun v372 k0_hw36 => k0_hw36

def k0_off80 (v370 : BitVec 32) : Fin 2 → Nat :=
  let c0_i32_249 : BitVec 32 := 0#32
  ![v370.toNat, 0]

def k0_chk37 (v370 : BitVec 32) : Prop :=
  (∀ a, (k0_off80 v370) a + S1x1024.size a ≤ S8192x1024.size a)
theorem k0_off80_inb : ∀ (v370 : BitVec 32) (k0_hw37 : k0_chk37 v370), ∀ a, (k0_off80 v370) a + S1x1024.size a ≤ S8192x1024.size a := fun v370 k0_hw37 => k0_hw37

@[reducible] def k0_t12_loop (v156 : BitVec 32) (v159 : BitVec 32) : Scf.Loop 32 :=
  let c16_i32_98 : BitVec 32 := 16#32
  let v167 : BitVec 32 := Scalar.subi v159 c16_i32_98
  let v168 : BitVec 32 := Scalar.maxsi v167 v156
  let v169 : BitVec 32 := Scalar.subi v159 v168
  let c1_i32_100 : BitVec 32 := 1#32
  let v171 : BitVec 32 := Scalar.divsi v169 c1_i32_100
  let v172 : BitVec 32 := Scalar.muli v171 c1_i32_100
  let v173 : BitVec 32 := Scalar.addi v168 v172
  let v170 : BitVec 32 := Scalar.addi v168 v169
  let c1_i32_102 : BitVec 32 := 1#32
  ⟨v173, v170, c1_i32_102⟩
def k0_off81 (v156 : BitVec 32) (v159 : BitVec 32) (k0_t12 : Fin (k0_t12_loop v156 v159).trips) : Fin 1 → Nat :=
  let c16_i32_98 : BitVec 32 := 16#32
  let v167 : BitVec 32 := Scalar.subi v159 c16_i32_98
  let v168 : BitVec 32 := Scalar.maxsi v167 v156
  let v169 : BitVec 32 := Scalar.subi v159 v168
  let c1_i32_100 : BitVec 32 := 1#32
  let v171 : BitVec 32 := Scalar.divsi v169 c1_i32_100
  let v172 : BitVec 32 := Scalar.muli v171 c1_i32_100
  let v173 : BitVec 32 := Scalar.addi v168 v172
  let c1_i32_102 : BitVec 32 := 1#32
  let arg11 : BitVec 32 := Scf.iv v173 c1_i32_102 k0_t12
  let v369 : Index := Scalar.indexCast arg11
  ![v369.toNat]
def k0_off82 (v156 : BitVec 32) (v159 : BitVec 32) (k0_t12 : Fin (k0_t12_loop v156 v159).trips) : Fin 1 → Nat :=
  let c16_i32_98 : BitVec 32 := 16#32
  let v167 : BitVec 32 := Scalar.subi v159 c16_i32_98
  let v168 : BitVec 32 := Scalar.maxsi v167 v156
  let v169 : BitVec 32 := Scalar.subi v159 v168
  let c1_i32_100 : BitVec 32 := 1#32
  let v171 : BitVec 32 := Scalar.divsi v169 c1_i32_100
  let v172 : BitVec 32 := Scalar.muli v171 c1_i32_100
  let v173 : BitVec 32 := Scalar.addi v168 v172
  let c1_i32_102 : BitVec 32 := 1#32
  let arg11 : BitVec 32 := Scf.iv v173 c1_i32_102 k0_t12
  let c16_i32_247 : BitVec 32 := 16#32
  let v373 : BitVec 32 := Scalar.remsi arg11 c16_i32_247
  ![v373.toNat]

def k0_chk27 (v156 : BitVec 32) (v159 : BitVec 32) : Prop :=
  ((k0_t9_loop v156 v159).OK) ∧
  (∀ k0_t9 : Fin (k0_t9_loop v156 v159).trips, ∀ (k0_h5 : k0_cond5 v156 v159 k0_t9 = 1#1), ∀ a, (k0_off61 v156 v159 k0_t9) a + S1.size a ≤ S2048.size a) ∧
  (∀ k0_t9 : Fin (k0_t9_loop v156 v159).trips, ∀ (k0_h5 : k0_cond5 v156 v159 k0_t9 = 1#1), ∀ a, (k0_off62 v156 v159 k0_t9) a + S1.size a ≤ S16.size a) ∧
  (∀ k0_t9 : Fin (k0_t9_loop v156 v159).trips, ∀ a, (k0_off65 v156 v159 k0_t9) a + S1.size a ≤ S2048.size a) ∧
  (∀ k0_t9 : Fin (k0_t9_loop v156 v159).trips, ∀ a, (k0_off66 v156 v159 k0_t9) a + S1.size a ≤ S16.size a) ∧
  ((k0_t10_loop v156 v159).OK) ∧
  (∀ k0_t10 : Fin (k0_t10_loop v156 v159).trips, ∀ (k0_h6 : k0_cond6 v156 v159 k0_t10 = 1#1), ∀ a, (k0_off69 v156 v159 k0_t10) a + S1.size a ≤ S2048.size a) ∧
  (∀ k0_t10 : Fin (k0_t10_loop v156 v159).trips, ∀ (k0_h6 : k0_cond6 v156 v159 k0_t10 = 1#1), ∀ a, (k0_off70 v156 v159 k0_t10) a + S1.size a ≤ S16.size a) ∧
  (∀ k0_t10 : Fin (k0_t10_loop v156 v159).trips, ∀ a, (k0_off73 v156 v159 k0_t10) a + S1.size a ≤ S2048.size a) ∧
  (∀ k0_t10 : Fin (k0_t10_loop v156 v159).trips, ∀ a, (k0_off74 v156 v159 k0_t10) a + S1.size a ≤ S16.size a) ∧
  ((k0_t11_loop v156 v159).OK) ∧
  (∀ k0_t11 : Fin (k0_t11_loop v156 v159).trips, ∀ a, (k0_off77 v156 v159 k0_t11) a + S1.size a ≤ S2048.size a) ∧
  (∀ k0_t11 : Fin (k0_t11_loop v156 v159).trips, ∀ a, (k0_off78 v156 v159 k0_t11) a + S1.size a ≤ S16.size a) ∧
  ((k0_t12_loop v156 v159).OK) ∧
  (∀ k0_t12 : Fin (k0_t12_loop v156 v159).trips, ∀ a, (k0_off81 v156 v159 k0_t12) a + S1.size a ≤ S2048.size a) ∧
  (∀ k0_t12 : Fin (k0_t12_loop v156 v159).trips, ∀ a, (k0_off82 v156 v159 k0_t12) a + S1.size a ≤ S16.size a)
theorem k0_t9_ok : ∀ (v156 : BitVec 32) (v159 : BitVec 32) (k0_hw27 : k0_chk27 v156 v159), (k0_t9_loop v156 v159).OK := fun v156 v159 k0_hw27 => k0_hw27.1
theorem k0_off61_inb : ∀ (v156 : BitVec 32) (v159 : BitVec 32) (k0_hw27 : k0_chk27 v156 v159) (k0_t9 : Fin (k0_t9_loop v156 v159).trips), ∀ (k0_h5 : k0_cond5 v156 v159 k0_t9 = 1#1), ∀ a, (k0_off61 v156 v159 k0_t9) a + S1.size a ≤ S2048.size a := fun v156 v159 k0_hw27 k0_t9 k0_h5 => k0_hw27.2.1 k0_t9 k0_h5
theorem k0_off62_inb : ∀ (v156 : BitVec 32) (v159 : BitVec 32) (k0_hw27 : k0_chk27 v156 v159) (k0_t9 : Fin (k0_t9_loop v156 v159).trips), ∀ (k0_h5 : k0_cond5 v156 v159 k0_t9 = 1#1), ∀ a, (k0_off62 v156 v159 k0_t9) a + S1.size a ≤ S16.size a := fun v156 v159 k0_hw27 k0_t9 k0_h5 => k0_hw27.2.2.1 k0_t9 k0_h5
theorem k0_off65_inb : ∀ (v156 : BitVec 32) (v159 : BitVec 32) (k0_hw27 : k0_chk27 v156 v159) (k0_t9 : Fin (k0_t9_loop v156 v159).trips), ∀ a, (k0_off65 v156 v159 k0_t9) a + S1.size a ≤ S2048.size a := fun v156 v159 k0_hw27 k0_t9 => k0_hw27.2.2.2.1 k0_t9
theorem k0_off66_inb : ∀ (v156 : BitVec 32) (v159 : BitVec 32) (k0_hw27 : k0_chk27 v156 v159) (k0_t9 : Fin (k0_t9_loop v156 v159).trips), ∀ a, (k0_off66 v156 v159 k0_t9) a + S1.size a ≤ S16.size a := fun v156 v159 k0_hw27 k0_t9 => k0_hw27.2.2.2.2.1 k0_t9
theorem k0_t10_ok : ∀ (v156 : BitVec 32) (v159 : BitVec 32) (k0_hw27 : k0_chk27 v156 v159), (k0_t10_loop v156 v159).OK := fun v156 v159 k0_hw27 => k0_hw27.2.2.2.2.2.1
theorem k0_off69_inb : ∀ (v156 : BitVec 32) (v159 : BitVec 32) (k0_hw27 : k0_chk27 v156 v159) (k0_t10 : Fin (k0_t10_loop v156 v159).trips), ∀ (k0_h6 : k0_cond6 v156 v159 k0_t10 = 1#1), ∀ a, (k0_off69 v156 v159 k0_t10) a + S1.size a ≤ S2048.size a := fun v156 v159 k0_hw27 k0_t10 k0_h6 => k0_hw27.2.2.2.2.2.2.1 k0_t10 k0_h6
theorem k0_off70_inb : ∀ (v156 : BitVec 32) (v159 : BitVec 32) (k0_hw27 : k0_chk27 v156 v159) (k0_t10 : Fin (k0_t10_loop v156 v159).trips), ∀ (k0_h6 : k0_cond6 v156 v159 k0_t10 = 1#1), ∀ a, (k0_off70 v156 v159 k0_t10) a + S1.size a ≤ S16.size a := fun v156 v159 k0_hw27 k0_t10 k0_h6 => k0_hw27.2.2.2.2.2.2.2.1 k0_t10 k0_h6
theorem k0_off73_inb : ∀ (v156 : BitVec 32) (v159 : BitVec 32) (k0_hw27 : k0_chk27 v156 v159) (k0_t10 : Fin (k0_t10_loop v156 v159).trips), ∀ a, (k0_off73 v156 v159 k0_t10) a + S1.size a ≤ S2048.size a := fun v156 v159 k0_hw27 k0_t10 => k0_hw27.2.2.2.2.2.2.2.2.1 k0_t10
theorem k0_off74_inb : ∀ (v156 : BitVec 32) (v159 : BitVec 32) (k0_hw27 : k0_chk27 v156 v159) (k0_t10 : Fin (k0_t10_loop v156 v159).trips), ∀ a, (k0_off74 v156 v159 k0_t10) a + S1.size a ≤ S16.size a := fun v156 v159 k0_hw27 k0_t10 => k0_hw27.2.2.2.2.2.2.2.2.2.1 k0_t10
theorem k0_t11_ok : ∀ (v156 : BitVec 32) (v159 : BitVec 32) (k0_hw27 : k0_chk27 v156 v159), (k0_t11_loop v156 v159).OK := fun v156 v159 k0_hw27 => k0_hw27.2.2.2.2.2.2.2.2.2.2.1
theorem k0_off77_inb : ∀ (v156 : BitVec 32) (v159 : BitVec 32) (k0_hw27 : k0_chk27 v156 v159) (k0_t11 : Fin (k0_t11_loop v156 v159).trips), ∀ a, (k0_off77 v156 v159 k0_t11) a + S1.size a ≤ S2048.size a := fun v156 v159 k0_hw27 k0_t11 => k0_hw27.2.2.2.2.2.2.2.2.2.2.2.1 k0_t11
theorem k0_off78_inb : ∀ (v156 : BitVec 32) (v159 : BitVec 32) (k0_hw27 : k0_chk27 v156 v159) (k0_t11 : Fin (k0_t11_loop v156 v159).trips), ∀ a, (k0_off78 v156 v159 k0_t11) a + S1.size a ≤ S16.size a := fun v156 v159 k0_hw27 k0_t11 => k0_hw27.2.2.2.2.2.2.2.2.2.2.2.2.1 k0_t11
theorem k0_t12_ok : ∀ (v156 : BitVec 32) (v159 : BitVec 32) (k0_hw27 : k0_chk27 v156 v159), (k0_t12_loop v156 v159).OK := fun v156 v159 k0_hw27 => k0_hw27.2.2.2.2.2.2.2.2.2.2.2.2.2.1
theorem k0_off81_inb : ∀ (v156 : BitVec 32) (v159 : BitVec 32) (k0_hw27 : k0_chk27 v156 v159) (k0_t12 : Fin (k0_t12_loop v156 v159).trips), ∀ a, (k0_off81 v156 v159 k0_t12) a + S1.size a ≤ S2048.size a := fun v156 v159 k0_hw27 k0_t12 => k0_hw27.2.2.2.2.2.2.2.2.2.2.2.2.2.2.1 k0_t12
theorem k0_off82_inb : ∀ (v156 : BitVec 32) (v159 : BitVec 32) (k0_hw27 : k0_chk27 v156 v159) (k0_t12 : Fin (k0_t12_loop v156 v159).trips), ∀ a, (k0_off82 v156 v159 k0_t12) a + S1.size a ≤ S16.size a := fun v156 v159 k0_hw27 k0_t12 => k0_hw27.2.2.2.2.2.2.2.2.2.2.2.2.2.2.2 k0_t12

def k0_off83 (v372 : BitVec 32) : Fin 2 → Nat :=
  let c0_i32_248 : BitVec 32 := 0#32
  ![v372.toNat, 0]

def k0_chk38 (v372 : BitVec 32) : Prop :=
  (∀ a, (k0_off83 v372) a + S1x1024.size a ≤ S2048x1024.size a)
theorem k0_off83_inb : ∀ (v372 : BitVec 32) (k0_hw38 : k0_chk38 v372), ∀ a, (k0_off83 v372) a + S1x1024.size a ≤ S2048x1024.size a := fun v372 k0_hw38 => k0_hw38

def k0_off84 (v370 : BitVec 32) : Fin 2 → Nat :=
  let c0_i32_249 : BitVec 32 := 0#32
  ![v370.toNat, 0]

def k0_chk39 (v370 : BitVec 32) : Prop :=
  (∀ a, (k0_off84 v370) a + S1x1024.size a ≤ S8192x1024.size a)
theorem k0_off84_inb : ∀ (v370 : BitVec 32) (k0_hw39 : k0_chk39 v370), ∀ a, (k0_off84 v370) a + S1x1024.size a ≤ S8192x1024.size a := fun v370 k0_hw39 => k0_hw39

def k0_off85 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v141 : BitVec 32 := Scalar.subi v2 c1_i32_80
  let c1_i32_81 : BitVec 32 := 1#32
  let v142 : BitVec 32 := Scalar.subi v141 c1_i32_81
  let c4_i32_82 : BitVec 32 := 4#32
  let v143 : BitVec 32 := Scalar.addi v142 c4_i32_82
  let c4_i32_83 : BitVec 32 := 4#32
  let v144 : BitVec 32 := Scalar.remsi v143 c4_i32_83
  let c512_i32_103 : BitVec 32 := 512#32
  let v176 : BitVec 32 := Scalar.muli v144 c512_i32_103
  let v177 : Index := Scalar.indexCast v176
  let c0_104 : Index := 0#32
  ![v177.toNat, 0]
def k0_off86 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v141 : BitVec 32 := Scalar.subi v2 c1_i32_80
  let c1_i32_81 : BitVec 32 := 1#32
  let v142 : BitVec 32 := Scalar.subi v141 c1_i32_81
  let c4_i32_82 : BitVec 32 := 4#32
  let v143 : BitVec 32 := Scalar.addi v142 c4_i32_82
  let c4_i32_83 : BitVec 32 := 4#32
  let v144 : BitVec 32 := Scalar.remsi v143 c4_i32_83
  let c512_i32_103 : BitVec 32 := 512#32
  let v176 : BitVec 32 := Scalar.muli v144 c512_i32_103
  let v189 : Index := Scalar.indexCast v176
  let c0_107 : Index := 0#32
  ![v189.toNat, 0]
def k0_off87 (d0 : Dev nD) (c1_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : BitVec 32 := Scalar.subi v2 c1_i32_77
  let c4_i32_78 : BitVec 32 := 4#32
  let v139 : BitVec 32 := Scalar.addi v138 c4_i32_78
  let c4_i32_79 : BitVec 32 := 4#32
  let v140 : BitVec 32 := Scalar.remsi v139 c4_i32_79
  let c512_i32_84 : BitVec 32 := 512#32
  let v145 : BitVec 32 := Scalar.muli v140 c512_i32_84
  let c0_i32_114 : BitVec 32 := 0#32
  ![v145.toNat, 0]
def k0_dev5 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_141 : BitVec 32 := 1#32
  let v227 : BitVec 32 := Scalar.muli v7 c1_i32_141
  let v228 : BitVec 32 := Scalar.addi c0_i32_142 v227
  v228.toNat
def k0_off88 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v222 : BitVec 32 := Scalar.subi v2 c2_i32_133
  let c1_i32_134 : BitVec 32 := 1#32
  let v223 : BitVec 32 := Scalar.subi v222 c1_i32_134
  let c4_i32_135 : BitVec 32 := 4#32
  let v224 : BitVec 32 := Scalar.addi v223 c4_i32_135
  let c4_i32_136 : BitVec 32 := 4#32
  let v225 : BitVec 32 := Scalar.remsi v224 c4_i32_136
  let v236 : Index := Scalar.indexCast v225
  ![v236.toNat]
def k0_off89 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v222 : BitVec 32 := Scalar.subi v2 c2_i32_133
  let c1_i32_134 : BitVec 32 := 1#32
  let v223 : BitVec 32 := Scalar.subi v222 c1_i32_134
  let c4_i32_135 : BitVec 32 := 4#32
  let v224 : BitVec 32 := Scalar.addi v223 c4_i32_135
  let c4_i32_136 : BitVec 32 := 4#32
  let v225 : BitVec 32 := Scalar.remsi v224 c4_i32_136
  let c1_i32_146 : BitVec 32 := 1#32
  let v238 : BitVec 32 := Scalar.addi v225 c1_i32_146
  let v239 : Index := Scalar.indexCast v238
  ![v239.toNat]
@[reducible] def k0_t13_loop (v237 : BitVec 32) (v240 : BitVec 32) : Scf.Loop 32 :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_149 : BitVec 32 := 1#32
  ⟨v237, v245, c1_i32_149⟩

def k0_off90 (v237 : BitVec 32) (v240 : BitVec 32) (k0_t13 : Fin (k0_t13_loop v237 v240).trips) : Fin 1 → Nat :=
  let c1_i32_149 : BitVec 32 := 1#32
  let arg11 : BitVec 32 := Scf.iv v237 c1_i32_149 k0_t13
  let c16_i32_253 : BitVec 32 := 16#32
  let v382 : BitVec 32 := Scalar.subi arg11 c16_i32_253
  let v383 : Index := Scalar.indexCast v382
  ![v383.toNat]
def k0_cond7 (v237 : BitVec 32) (v240 : BitVec 32) (k0_t13 : Fin (k0_t13_loop v237 v240).trips) : BitVec 1 :=
  let c1_i32_149 : BitVec 32 := 1#32
  let arg11 : BitVec 32 := Scf.iv v237 c1_i32_149 k0_t13
  let v369 : BitVec 32 := Scalar.subi arg11 v237
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off91 (v237 : BitVec 32) (v240 : BitVec 32) (k0_t13 : Fin (k0_t13_loop v237 v240).trips) : Fin 1 → Nat :=
  let c1_i32_149 : BitVec 32 := 1#32
  let arg11 : BitVec 32 := Scf.iv v237 c1_i32_149 k0_t13
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off92 (v386 : BitVec 32) : Fin 2 → Nat :=
  let c0_i32_255 : BitVec 32 := 0#32
  ![v386.toNat, 0]

def k0_chk41 (v237 : BitVec 32) (v240 : BitVec 32) (k0_t13 : Fin (k0_t13_loop v237 v240).trips) (v386 : BitVec 32) : Prop :=
  (∀ (k0_h7 : k0_cond7 v237 v240 k0_t13 = 1#1), ∀ a, (k0_off92 v386) a + S1x1024.size a ≤ S2048x1024.size a)
theorem k0_off92_inb : ∀ (v237 : BitVec 32) (v240 : BitVec 32) (k0_t13 : Fin (k0_t13_loop v237 v240).trips) (v386 : BitVec 32) (k0_hw41 : k0_chk41 v237 v240 k0_t13 v386), ∀ (k0_h7 : k0_cond7 v237 v240 k0_t13 = 1#1), ∀ a, (k0_off92 v386) a + S1x1024.size a ≤ S2048x1024.size a := fun v237 v240 k0_t13 v386 k0_hw41 k0_h7 => k0_hw41 k0_h7

def k0_off93 (v384 : BitVec 32) : Fin 2 → Nat :=
  let c0_i32_256 : BitVec 32 := 0#32
  ![v384.toNat, 0]

def k0_chk42 (v237 : BitVec 32) (v240 : BitVec 32) (k0_t13 : Fin (k0_t13_loop v237 v240).trips) (v384 : BitVec 32) : Prop :=
  (∀ (k0_h7 : k0_cond7 v237 v240 k0_t13 = 1#1), ∀ a, (k0_off93 v384) a + S1x1024.size a ≤ S8192x1024.size a)
theorem k0_off93_inb : ∀ (v237 : BitVec 32) (v240 : BitVec 32) (k0_t13 : Fin (k0_t13_loop v237 v240).trips) (v384 : BitVec 32) (k0_hw42 : k0_chk42 v237 v240 k0_t13 v384), ∀ (k0_h7 : k0_cond7 v237 v240 k0_t13 = 1#1), ∀ a, (k0_off93 v384) a + S1x1024.size a ≤ S8192x1024.size a := fun v237 v240 k0_t13 v384 k0_hw42 k0_h7 => k0_hw42 k0_h7

def k0_off94 (v237 : BitVec 32) (v240 : BitVec 32) (k0_t13 : Fin (k0_t13_loop v237 v240).trips) : Fin 1 → Nat :=
  let c1_i32_149 : BitVec 32 := 1#32
  let arg11 : BitVec 32 := Scf.iv v237 c1_i32_149 k0_t13
  let v373 : Index := Scalar.indexCast arg11
  ![v373.toNat]
def k0_off95 (v237 : BitVec 32) (v240 : BitVec 32) (k0_t13 : Fin (k0_t13_loop v237 v240).trips) : Fin 1 → Nat :=
  let c1_i32_149 : BitVec 32 := 1#32
  let arg11 : BitVec 32 := Scf.iv v237 c1_i32_149 k0_t13
  let c16_i32_249 : BitVec 32 := 16#32
  let v377 : BitVec 32 := Scalar.remsi arg11 c16_i32_249
  ![v377.toNat]
def k0_off96 (v376 : BitVec 32) : Fin 2 → Nat :=
  let c0_i32_250 : BitVec 32 := 0#32
  ![v376.toNat, 0]

def k0_chk43 (v376 : BitVec 32) : Prop :=
  (∀ a, (k0_off96 v376) a + S1x1024.size a ≤ S2048x1024.size a)
theorem k0_off96_inb : ∀ (v376 : BitVec 32) (k0_hw43 : k0_chk43 v376), ∀ a, (k0_off96 v376) a + S1x1024.size a ≤ S2048x1024.size a := fun v376 k0_hw43 => k0_hw43

def k0_off97 (v374 : BitVec 32) : Fin 2 → Nat :=
  let c0_i32_251 : BitVec 32 := 0#32
  ![v374.toNat, 0]

def k0_chk44 (v374 : BitVec 32) : Prop :=
  (∀ a, (k0_off97 v374) a + S1x1024.size a ≤ S8192x1024.size a)
theorem k0_off97_inb : ∀ (v374 : BitVec 32) (k0_hw44 : k0_chk44 v374), ∀ a, (k0_off97 v374) a + S1x1024.size a ≤ S8192x1024.size a := fun v374 k0_hw44 => k0_hw44

@[reducible] def k0_t14_loop (v237 : BitVec 32) (v240 : BitVec 32) : Scf.Loop 32 :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let v242 : BitVec 32 := Scalar.addi v237 v241
  let c1_i32_150 : BitVec 32 := 1#32
  ⟨v245, v242, c1_i32_150⟩
def k0_off98 (v237 : BitVec 32) (v240 : BitVec 32) (k0_t14 : Fin (k0_t14_loop v237 v240).trips) : Fin 1 → Nat :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_150 : BitVec 32 := 1#32
  let arg11 : BitVec 32 := Scf.iv v245 c1_i32_150 k0_t14
  let c16_i32_253 : BitVec 32 := 16#32
  let v382 : BitVec 32 := Scalar.subi arg11 c16_i32_253
  let v383 : Index := Scalar.indexCast v382
  ![v383.toNat]
def k0_cond8 (v237 : BitVec 32) (v240 : BitVec 32) (k0_t14 : Fin (k0_t14_loop v237 v240).trips) : BitVec 1 :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_150 : BitVec 32 := 1#32
  let arg11 : BitVec 32 := Scf.iv v245 c1_i32_150 k0_t14
  let v369 : BitVec 32 := Scalar.subi arg11 v237
  let c16_i32_247 : BitVec 32 := 16#32
  let v370 : BitVec 1 := Scalar.cmpi .sge v369 c16_i32_247
  let v371 : BitVec 32 := Scalar.extui v370
  let c0_i32_248 : BitVec 32 := 0#32
  let v372 : BitVec 1 := Scalar.cmpi .ne v371 c0_i32_248
  v372

def k0_off99 (v237 : BitVec 32) (v240 : BitVec 32) (k0_t14 : Fin (k0_t14_loop v237 v240).trips) : Fin 1 → Nat :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_150 : BitVec 32 := 1#32
  let arg11 : BitVec 32 := Scf.iv v245 c1_i32_150 k0_t14
  let c16_i32_253 : BitVec 32 := 16#32
  let v382 : BitVec 32 := Scalar.subi arg11 c16_i32_253
  let c16_i32_254 : BitVec 32 := 16#32
  let v387 : BitVec 32 := Scalar.remsi v382 c16_i32_254
  ![v387.toNat]
def k0_off100 (v386 : BitVec 32) : Fin 2 → Nat :=
  let c0_i32_255 : BitVec 32 := 0#32
  ![v386.toNat, 0]

def k0_chk45 (v237 : BitVec 32) (v240 : BitVec 32) (k0_t14 : Fin (k0_t14_loop v237 v240).trips) (v386 : BitVec 32) : Prop :=
  (∀ (k0_h8 : k0_cond8 v237 v240 k0_t14 = 1#1), ∀ a, (k0_off100 v386) a + S1x1024.size a ≤ S2048x1024.size a)
theorem k0_off100_inb : ∀ (v237 : BitVec 32) (v240 : BitVec 32) (k0_t14 : Fin (k0_t14_loop v237 v240).trips) (v386 : BitVec 32) (k0_hw45 : k0_chk45 v237 v240 k0_t14 v386), ∀ (k0_h8 : k0_cond8 v237 v240 k0_t14 = 1#1), ∀ a, (k0_off100 v386) a + S1x1024.size a ≤ S2048x1024.size a := fun v237 v240 k0_t14 v386 k0_hw45 k0_h8 => k0_hw45 k0_h8

def k0_off101 (v384 : BitVec 32) : Fin 2 → Nat :=
  let c0_i32_256 : BitVec 32 := 0#32
  ![v384.toNat, 0]

def k0_chk46 (v237 : BitVec 32) (v240 : BitVec 32) (k0_t14 : Fin (k0_t14_loop v237 v240).trips) (v384 : BitVec 32) : Prop :=
  (∀ (k0_h8 : k0_cond8 v237 v240 k0_t14 = 1#1), ∀ a, (k0_off101 v384) a + S1x1024.size a ≤ S8192x1024.size a)
theorem k0_off101_inb : ∀ (v237 : BitVec 32) (v240 : BitVec 32) (k0_t14 : Fin (k0_t14_loop v237 v240).trips) (v384 : BitVec 32) (k0_hw46 : k0_chk46 v237 v240 k0_t14 v384), ∀ (k0_h8 : k0_cond8 v237 v240 k0_t14 = 1#1), ∀ a, (k0_off101 v384) a + S1x1024.size a ≤ S8192x1024.size a := fun v237 v240 k0_t14 v384 k0_hw46 k0_h8 => k0_hw46 k0_h8

def k0_off102 (v237 : BitVec 32) (v240 : BitVec 32) (k0_t14 : Fin (k0_t14_loop v237 v240).trips) : Fin 1 → Nat :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_150 : BitVec 32 := 1#32
  let arg11 : BitVec 32 := Scf.iv v245 c1_i32_150 k0_t14
  let v373 : Index := Scalar.indexCast arg11
  ![v373.toNat]
def k0_off103 (v237 : BitVec 32) (v240 : BitVec 32) (k0_t14 : Fin (k0_t14_loop v237 v240).trips) : Fin 1 → Nat :=
  let v241 : BitVec 32 := Scalar.subi v240 v237
  let c1_i32_148 : BitVec 32 := 1#32
  let v243 : BitVec 32 := Scalar.divsi v241 c1_i32_148
  let v244 : BitVec 32 := Scalar.muli v243 c1_i32_148
  let v245 : BitVec 32 := Scalar.addi v237 v244
  let c1_i32_150 : BitVec 32 := 1#32
  let arg11 : BitVec 32 := Scf.iv v245 c1_i32_150 k0_t14
  let c16_i32_249 : BitVec 32 := 16#32
  let v377 : BitVec 32 := Scalar.remsi arg11 c16_i32_249
  ![v377.toNat]
def k0_off104 (v376 : BitVec 32) : Fin 2 → Nat :=
  let c0_i32_250 : BitVec 32 := 0#32
  ![v376.toNat, 0]

def k0_chk47 (v376 : BitVec 32) : Prop :=
  (∀ a, (k0_off104 v376) a + S1x1024.size a ≤ S2048x1024.size a)
theorem k0_off104_inb : ∀ (v376 : BitVec 32) (k0_hw47 : k0_chk47 v376), ∀ a, (k0_off104 v376) a + S1x1024.size a ≤ S2048x1024.size a := fun v376 k0_hw47 => k0_hw47

def k0_off105 (v374 : BitVec 32) : Fin 2 → Nat :=
  let c0_i32_251 : BitVec 32 := 0#32
  ![v374.toNat, 0]

def k0_chk48 (v374 : BitVec 32) : Prop :=
  (∀ a, (k0_off105 v374) a + S1x1024.size a ≤ S8192x1024.size a)
theorem k0_off105_inb : ∀ (v374 : BitVec 32) (k0_hw48 : k0_chk48 v374), ∀ a, (k0_off105 v374) a + S1x1024.size a ≤ S8192x1024.size a := fun v374 k0_hw48 => k0_hw48

@[reducible] def k0_t15_loop (v237 : BitVec 32) (v240 : BitVec 32) : Scf.Loop 32 :=
  let c16_i32_151 : BitVec 32 := 16#32
  let v248 : BitVec 32 := Scalar.subi v240 c16_i32_151
  let v249 : BitVec 32 := Scalar.maxsi v248 v237
  let v250 : BitVec 32 := Scalar.subi v240 v249
  let c1_i32_153 : BitVec 32 := 1#32
  let v252 : BitVec 32 := Scalar.divsi v250 c1_i32_153
  let v253 : BitVec 32 := Scalar.muli v252 c1_i32_153
  let v254 : BitVec 32 := Scalar.addi v249 v253
  let c1_i32_154 : BitVec 32 := 1#32
  ⟨v249, v254, c1_i32_154⟩
def k0_off106 (v237 : BitVec 32) (v240 : BitVec 32) (k0_t15 : Fin (k0_t15_loop v237 v240).trips) : Fin 1 → Nat :=
  let c16_i32_151 : BitVec 32 := 16#32
  let v248 : BitVec 32 := Scalar.subi v240 c16_i32_151
  let v249 : BitVec 32 := Scalar.maxsi v248 v237
  let c1_i32_154 : BitVec 32 := 1#32
  let arg11 : BitVec 32 := Scf.iv v249 c1_i32_154 k0_t15
  let v369 : Index := Scalar.indexCast arg11
  ![v369.toNat]
def k0_off107 (v237 : BitVec 32) (v240 : BitVec 32) (k0_t15 : Fin (k0_t15_loop v237 v240).trips) : Fin 1 → Nat :=
  let c16_i32_151 : BitVec 32 := 16#32
  let v248 : BitVec 32 := Scalar.subi v240 c16_i32_151
  let v249 : BitVec 32 := Scalar.maxsi v248 v237
  let c1_i32_154 : BitVec 32 := 1#32
  let arg11 : BitVec 32 := Scf.iv v249 c1_i32_154 k0_t15
  let c16_i32_247 : BitVec 32 := 16#32
  let v373 : BitVec 32 := Scalar.remsi arg11 c16_i32_247
  ![v373.toNat]
def k0_off108 (v372 : BitVec 32) : Fin 2 → Nat :=
  let c0_i32_248 : BitVec 32 := 0#32
  ![v372.toNat, 0]

def k0_chk49 (v372 : BitVec 32) : Prop :=
  (∀ a, (k0_off108 v372) a + S1x1024.size a ≤ S2048x1024.size a)
theorem k0_off108_inb : ∀ (v372 : BitVec 32) (k0_hw49 : k0_chk49 v372), ∀ a, (k0_off108 v372) a + S1x1024.size a ≤ S2048x1024.size a := fun v372 k0_hw49 => k0_hw49

def k0_off109 (v370 : BitVec 32) : Fin 2 → Nat :=
  let c0_i32_249 : BitVec 32 := 0#32
  ![v370.toNat, 0]

def k0_chk50 (v370 : BitVec 32) : Prop :=
  (∀ a, (k0_off109 v370) a + S1x1024.size a ≤ S8192x1024.size a)
theorem k0_off109_inb : ∀ (v370 : BitVec 32) (k0_hw50 : k0_chk50 v370), ∀ a, (k0_off109 v370) a + S1x1024.size a ≤ S8192x1024.size a := fun v370 k0_hw50 => k0_hw50

@[reducible] def k0_t16_loop (v237 : BitVec 32) (v240 : BitVec 32) : Scf.Loop 32 :=
  let c16_i32_151 : BitVec 32 := 16#32
  let v248 : BitVec 32 := Scalar.subi v240 c16_i32_151
  let v249 : BitVec 32 := Scalar.maxsi v248 v237
  let v250 : BitVec 32 := Scalar.subi v240 v249
  let c1_i32_153 : BitVec 32 := 1#32
  let v252 : BitVec 32 := Scalar.divsi v250 c1_i32_153
  let v253 : BitVec 32 := Scalar.muli v252 c1_i32_153
  let v254 : BitVec 32 := Scalar.addi v249 v253
  let v251 : BitVec 32 := Scalar.addi v249 v250
  let c1_i32_155 : BitVec 32 := 1#32
  ⟨v254, v251, c1_i32_155⟩
def k0_off110 (v237 : BitVec 32) (v240 : BitVec 32) (k0_t16 : Fin (k0_t16_loop v237 v240).trips) : Fin 1 → Nat :=
  let c16_i32_151 : BitVec 32 := 16#32
  let v248 : BitVec 32 := Scalar.subi v240 c16_i32_151
  let v249 : BitVec 32 := Scalar.maxsi v248 v237
  let v250 : BitVec 32 := Scalar.subi v240 v249
  let c1_i32_153 : BitVec 32 := 1#32
  let v252 : BitVec 32 := Scalar.divsi v250 c1_i32_153
  let v253 : BitVec 32 := Scalar.muli v252 c1_i32_153
  let v254 : BitVec 32 := Scalar.addi v249 v253
  let c1_i32_155 : BitVec 32 := 1#32
  let arg11 : BitVec 32 := Scf.iv v254 c1_i32_155 k0_t16
  let v369 : Index := Scalar.indexCast arg11
  ![v369.toNat]
def k0_off111 (v237 : BitVec 32) (v240 : BitVec 32) (k0_t16 : Fin (k0_t16_loop v237 v240).trips) : Fin 1 → Nat :=
  let c16_i32_151 : BitVec 32 := 16#32
  let v248 : BitVec 32 := Scalar.subi v240 c16_i32_151
  let v249 : BitVec 32 := Scalar.maxsi v248 v237
  let v250 : BitVec 32 := Scalar.subi v240 v249
  let c1_i32_153 : BitVec 32 := 1#32
  let v252 : BitVec 32 := Scalar.divsi v250 c1_i32_153
  let v253 : BitVec 32 := Scalar.muli v252 c1_i32_153
  let v254 : BitVec 32 := Scalar.addi v249 v253
  let c1_i32_155 : BitVec 32 := 1#32
  let arg11 : BitVec 32 := Scf.iv v254 c1_i32_155 k0_t16
  let c16_i32_247 : BitVec 32 := 16#32
  let v373 : BitVec 32 := Scalar.remsi arg11 c16_i32_247
  ![v373.toNat]

def k0_chk40 (v237 : BitVec 32) (v240 : BitVec 32) : Prop :=
  ((k0_t13_loop v237 v240).OK) ∧
  (∀ k0_t13 : Fin (k0_t13_loop v237 v240).trips, ∀ (k0_h7 : k0_cond7 v237 v240 k0_t13 = 1#1), ∀ a, (k0_off90 v237 v240 k0_t13) a + S1.size a ≤ S2048.size a) ∧
  (∀ k0_t13 : Fin (k0_t13_loop v237 v240).trips, ∀ (k0_h7 : k0_cond7 v237 v240 k0_t13 = 1#1), ∀ a, (k0_off91 v237 v240 k0_t13) a + S1.size a ≤ S16.size a) ∧
  (∀ k0_t13 : Fin (k0_t13_loop v237 v240).trips, ∀ a, (k0_off94 v237 v240 k0_t13) a + S1.size a ≤ S2048.size a) ∧
  (∀ k0_t13 : Fin (k0_t13_loop v237 v240).trips, ∀ a, (k0_off95 v237 v240 k0_t13) a + S1.size a ≤ S16.size a) ∧
  ((k0_t14_loop v237 v240).OK) ∧
  (∀ k0_t14 : Fin (k0_t14_loop v237 v240).trips, ∀ (k0_h8 : k0_cond8 v237 v240 k0_t14 = 1#1), ∀ a, (k0_off98 v237 v240 k0_t14) a + S1.size a ≤ S2048.size a) ∧
  (∀ k0_t14 : Fin (k0_t14_loop v237 v240).trips, ∀ (k0_h8 : k0_cond8 v237 v240 k0_t14 = 1#1), ∀ a, (k0_off99 v237 v240 k0_t14) a + S1.size a ≤ S16.size a) ∧
  (∀ k0_t14 : Fin (k0_t14_loop v237 v240).trips, ∀ a, (k0_off102 v237 v240 k0_t14) a + S1.size a ≤ S2048.size a) ∧
  (∀ k0_t14 : Fin (k0_t14_loop v237 v240).trips, ∀ a, (k0_off103 v237 v240 k0_t14) a + S1.size a ≤ S16.size a) ∧
  ((k0_t15_loop v237 v240).OK) ∧
  (∀ k0_t15 : Fin (k0_t15_loop v237 v240).trips, ∀ a, (k0_off106 v237 v240 k0_t15) a + S1.size a ≤ S2048.size a) ∧
  (∀ k0_t15 : Fin (k0_t15_loop v237 v240).trips, ∀ a, (k0_off107 v237 v240 k0_t15) a + S1.size a ≤ S16.size a) ∧
  ((k0_t16_loop v237 v240).OK) ∧
  (∀ k0_t16 : Fin (k0_t16_loop v237 v240).trips, ∀ a, (k0_off110 v237 v240 k0_t16) a + S1.size a ≤ S2048.size a) ∧
  (∀ k0_t16 : Fin (k0_t16_loop v237 v240).trips, ∀ a, (k0_off111 v237 v240 k0_t16) a + S1.size a ≤ S16.size a)
theorem k0_t13_ok : ∀ (v237 : BitVec 32) (v240 : BitVec 32) (k0_hw40 : k0_chk40 v237 v240), (k0_t13_loop v237 v240).OK := fun v237 v240 k0_hw40 => k0_hw40.1
theorem k0_off90_inb : ∀ (v237 : BitVec 32) (v240 : BitVec 32) (k0_hw40 : k0_chk40 v237 v240) (k0_t13 : Fin (k0_t13_loop v237 v240).trips), ∀ (k0_h7 : k0_cond7 v237 v240 k0_t13 = 1#1), ∀ a, (k0_off90 v237 v240 k0_t13) a + S1.size a ≤ S2048.size a := fun v237 v240 k0_hw40 k0_t13 k0_h7 => k0_hw40.2.1 k0_t13 k0_h7
theorem k0_off91_inb : ∀ (v237 : BitVec 32) (v240 : BitVec 32) (k0_hw40 : k0_chk40 v237 v240) (k0_t13 : Fin (k0_t13_loop v237 v240).trips), ∀ (k0_h7 : k0_cond7 v237 v240 k0_t13 = 1#1), ∀ a, (k0_off91 v237 v240 k0_t13) a + S1.size a ≤ S16.size a := fun v237 v240 k0_hw40 k0_t13 k0_h7 => k0_hw40.2.2.1 k0_t13 k0_h7
theorem k0_off94_inb : ∀ (v237 : BitVec 32) (v240 : BitVec 32) (k0_hw40 : k0_chk40 v237 v240) (k0_t13 : Fin (k0_t13_loop v237 v240).trips), ∀ a, (k0_off94 v237 v240 k0_t13) a + S1.size a ≤ S2048.size a := fun v237 v240 k0_hw40 k0_t13 => k0_hw40.2.2.2.1 k0_t13
theorem k0_off95_inb : ∀ (v237 : BitVec 32) (v240 : BitVec 32) (k0_hw40 : k0_chk40 v237 v240) (k0_t13 : Fin (k0_t13_loop v237 v240).trips), ∀ a, (k0_off95 v237 v240 k0_t13) a + S1.size a ≤ S16.size a := fun v237 v240 k0_hw40 k0_t13 => k0_hw40.2.2.2.2.1 k0_t13
theorem k0_t14_ok : ∀ (v237 : BitVec 32) (v240 : BitVec 32) (k0_hw40 : k0_chk40 v237 v240), (k0_t14_loop v237 v240).OK := fun v237 v240 k0_hw40 => k0_hw40.2.2.2.2.2.1
theorem k0_off98_inb : ∀ (v237 : BitVec 32) (v240 : BitVec 32) (k0_hw40 : k0_chk40 v237 v240) (k0_t14 : Fin (k0_t14_loop v237 v240).trips), ∀ (k0_h8 : k0_cond8 v237 v240 k0_t14 = 1#1), ∀ a, (k0_off98 v237 v240 k0_t14) a + S1.size a ≤ S2048.size a := fun v237 v240 k0_hw40 k0_t14 k0_h8 => k0_hw40.2.2.2.2.2.2.1 k0_t14 k0_h8
theorem k0_off99_inb : ∀ (v237 : BitVec 32) (v240 : BitVec 32) (k0_hw40 : k0_chk40 v237 v240) (k0_t14 : Fin (k0_t14_loop v237 v240).trips), ∀ (k0_h8 : k0_cond8 v237 v240 k0_t14 = 1#1), ∀ a, (k0_off99 v237 v240 k0_t14) a + S1.size a ≤ S16.size a := fun v237 v240 k0_hw40 k0_t14 k0_h8 => k0_hw40.2.2.2.2.2.2.2.1 k0_t14 k0_h8
theorem k0_off102_inb : ∀ (v237 : BitVec 32) (v240 : BitVec 32) (k0_hw40 : k0_chk40 v237 v240) (k0_t14 : Fin (k0_t14_loop v237 v240).trips), ∀ a, (k0_off102 v237 v240 k0_t14) a + S1.size a ≤ S2048.size a := fun v237 v240 k0_hw40 k0_t14 => k0_hw40.2.2.2.2.2.2.2.2.1 k0_t14
theorem k0_off103_inb : ∀ (v237 : BitVec 32) (v240 : BitVec 32) (k0_hw40 : k0_chk40 v237 v240) (k0_t14 : Fin (k0_t14_loop v237 v240).trips), ∀ a, (k0_off103 v237 v240 k0_t14) a + S1.size a ≤ S16.size a := fun v237 v240 k0_hw40 k0_t14 => k0_hw40.2.2.2.2.2.2.2.2.2.1 k0_t14
theorem k0_t15_ok : ∀ (v237 : BitVec 32) (v240 : BitVec 32) (k0_hw40 : k0_chk40 v237 v240), (k0_t15_loop v237 v240).OK := fun v237 v240 k0_hw40 => k0_hw40.2.2.2.2.2.2.2.2.2.2.1
theorem k0_off106_inb : ∀ (v237 : BitVec 32) (v240 : BitVec 32) (k0_hw40 : k0_chk40 v237 v240) (k0_t15 : Fin (k0_t15_loop v237 v240).trips), ∀ a, (k0_off106 v237 v240 k0_t15) a + S1.size a ≤ S2048.size a := fun v237 v240 k0_hw40 k0_t15 => k0_hw40.2.2.2.2.2.2.2.2.2.2.2.1 k0_t15
theorem k0_off107_inb : ∀ (v237 : BitVec 32) (v240 : BitVec 32) (k0_hw40 : k0_chk40 v237 v240) (k0_t15 : Fin (k0_t15_loop v237 v240).trips), ∀ a, (k0_off107 v237 v240 k0_t15) a + S1.size a ≤ S16.size a := fun v237 v240 k0_hw40 k0_t15 => k0_hw40.2.2.2.2.2.2.2.2.2.2.2.2.1 k0_t15
theorem k0_t16_ok : ∀ (v237 : BitVec 32) (v240 : BitVec 32) (k0_hw40 : k0_chk40 v237 v240), (k0_t16_loop v237 v240).OK := fun v237 v240 k0_hw40 => k0_hw40.2.2.2.2.2.2.2.2.2.2.2.2.2.1
theorem k0_off110_inb : ∀ (v237 : BitVec 32) (v240 : BitVec 32) (k0_hw40 : k0_chk40 v237 v240) (k0_t16 : Fin (k0_t16_loop v237 v240).trips), ∀ a, (k0_off110 v237 v240 k0_t16) a + S1.size a ≤ S2048.size a := fun v237 v240 k0_hw40 k0_t16 => k0_hw40.2.2.2.2.2.2.2.2.2.2.2.2.2.2.1 k0_t16
theorem k0_off111_inb : ∀ (v237 : BitVec 32) (v240 : BitVec 32) (k0_hw40 : k0_chk40 v237 v240) (k0_t16 : Fin (k0_t16_loop v237 v240).trips), ∀ a, (k0_off111 v237 v240 k0_t16) a + S1.size a ≤ S16.size a := fun v237 v240 k0_hw40 k0_t16 => k0_hw40.2.2.2.2.2.2.2.2.2.2.2.2.2.2.2 k0_t16

def k0_off112 (v372 : BitVec 32) : Fin 2 → Nat :=
  let c0_i32_248 : BitVec 32 := 0#32
  ![v372.toNat, 0]

def k0_chk51 (v372 : BitVec 32) : Prop :=
  (∀ a, (k0_off112 v372) a + S1x1024.size a ≤ S2048x1024.size a)
theorem k0_off112_inb : ∀ (v372 : BitVec 32) (k0_hw51 : k0_chk51 v372), ∀ a, (k0_off112 v372) a + S1x1024.size a ≤ S2048x1024.size a := fun v372 k0_hw51 => k0_hw51

def k0_off113 (v370 : BitVec 32) : Fin 2 → Nat :=
  let c0_i32_249 : BitVec 32 := 0#32
  ![v370.toNat, 0]

def k0_chk52 (v370 : BitVec 32) : Prop :=
  (∀ a, (k0_off113 v370) a + S1x1024.size a ≤ S8192x1024.size a)
theorem k0_off113_inb : ∀ (v370 : BitVec 32) (k0_hw52 : k0_chk52 v370), ∀ a, (k0_off113 v370) a + S1x1024.size a ≤ S8192x1024.size a := fun v370 k0_hw52 => k0_hw52

def k0_off114 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v222 : BitVec 32 := Scalar.subi v2 c2_i32_133
  let c1_i32_134 : BitVec 32 := 1#32
  let v223 : BitVec 32 := Scalar.subi v222 c1_i32_134
  let c4_i32_135 : BitVec 32 := 4#32
  let v224 : BitVec 32 := Scalar.addi v223 c4_i32_135
  let c4_i32_136 : BitVec 32 := 4#32
  let v225 : BitVec 32 := Scalar.remsi v224 c4_i32_136
  let c512_i32_156 : BitVec 32 := 512#32
  let v257 : BitVec 32 := Scalar.muli v225 c512_i32_156
  let v258 : Index := Scalar.indexCast v257
  let c0_157 : Index := 0#32
  ![v258.toNat, 0]
def k0_off115 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v222 : BitVec 32 := Scalar.subi v2 c2_i32_133
  let c1_i32_134 : BitVec 32 := 1#32
  let v223 : BitVec 32 := Scalar.subi v222 c1_i32_134
  let c4_i32_135 : BitVec 32 := 4#32
  let v224 : BitVec 32 := Scalar.addi v223 c4_i32_135
  let c4_i32_136 : BitVec 32 := 4#32
  let v225 : BitVec 32 := Scalar.remsi v224 c4_i32_136
  let c512_i32_156 : BitVec 32 := 512#32
  let v257 : BitVec 32 := Scalar.muli v225 c512_i32_156
  let v270 : Index := Scalar.indexCast v257
  let c0_160 : Index := 0#32
  ![v270.toNat, 0]
def k0_off116 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_130 : BitVec 32 := 2#32
  let v219 : BitVec 32 := Scalar.subi v2 c2_i32_130
  let c4_i32_131 : BitVec 32 := 4#32
  let v220 : BitVec 32 := Scalar.addi v219 c4_i32_131
  let c4_i32_132 : BitVec 32 := 4#32
  let v221 : BitVec 32 := Scalar.remsi v220 c4_i32_132
  let c512_i32_137 : BitVec 32 := 512#32
  let v226 : BitVec 32 := Scalar.muli v221 c512_i32_137
  let c0_i32_167 : BitVec 32 := 0#32
  ![v226.toNat, 0]
def k0_off117 (d0 : Dev nD) (c0_i32_184 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_183 : BitVec 32 := 1#32
  let v300 : BitVec 32 := Scalar.addi v2 c1_i32_183
  let v301 : BitVec 32 := Scalar.subi v300 c0_i32_184
  let c4_i32_185 : BitVec 32 := 4#32
  let v302 : BitVec 32 := Scalar.addi v301 c4_i32_185
  let c4_i32_186 : BitVec 32 := 4#32
  let v303 : BitVec 32 := Scalar.remsi v302 c4_i32_186
  let c512_i32_187 : BitVec 32 := 512#32
  let v304 : BitVec 32 := Scalar.muli v303 c512_i32_187
  let c0_i32_191 : BitVec 32 := 0#32
  ![v304.toNat, 0]
def k0_dev6 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_189 : BitVec 32 := 1#32
  let v305 : BitVec 32 := Scalar.muli v7 c1_i32_189
  let v306 : BitVec 32 := Scalar.addi c0_i32_190 v305
  v306.toNat
def k0_dev7 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_211 : BitVec 32 := 1#32
  let v328 : BitVec 32 := Scalar.muli v7 c1_i32_211
  let v329 : BitVec 32 := Scalar.addi c0_i32_212 v328
  v329.toNat
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_232 : BitVec 32 := 1#32
  let v351 : BitVec 32 := Scalar.muli v7 c1_i32_232
  let v352 : BitVec 32 := Scalar.addi c0_i32_233 v351
  v352.toNat
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x1024 : Shape := ⟨2, ![32768, 1024]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | .hbm, ⟨11, _⟩ => ⟨S2048x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Base.lean ====
/-
  The names the proof of the lookup's launch is written in: the resource algebra (the pipeline's rounds, the ring's
  rounds, the counters of the row copies), the buffers the kernel's body touches, the sets of their elements that move as
  one piece (a row of the table, a row of the gather buffer, a chunk of the result, a slot of the landing buffer), the
  semaphore cells, and the ring of the four devices.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Tactic
public import Idealize.ShloMosaic.Lib.Transfers
public import Idealize.ShloMosaic.Lib.Rounds
public import Idealize.ShloMosaic.Lib.LoopRemainder
public import Idealize.ShloMosaic.Lib.WordArith
public import Idealize.ShloMosaic.Lib.Pipeline.Kit

@[expose] public section

noncomputable section

namespace Cert.Proof.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## The resource algebra -/

/-- The ring protocol's rounds: a round of a cell has at most two duties. -/
abbrev URing : Type := Rounds.URounds (GSem nD τ sig) Bool
/-- The pipeline's rounds, the ring protocol's rounds, the row copies' counters. -/
abbrev UU : Type := UR sig nD τ × (URing × Counters)

/-- The resources of the proof. -/
abbrev MM (F : FTy → Type) : Type := MT nD τ sig Unit (Elt F) ℕ UU ℕ

abbrev EP : Emb (UR sig nD τ) (MM F) := embL

/-- The ring protocol's rounds: the left half of the right factor. -/
def ER : Emb URing (MM F) :=
  ((Emb.inl : Emb URing (URing × Counters)).trans (Emb.inr : Emb (URing × Counters) UU)).trans
    (uEmb (nD := nD) (sig := sig) (Ix := Unit) (Val := Elt F) (Name := ℕ) (U := UU) (Lvl := ℕ)).toEmb

instance ER_landsIn : (ER : Emb URing (MM F)).LandsIn (upEmb : UEmb _ (MM F)) := by unfold ER; infer_instance

/-- The counters of the row copies. -/
abbrev EC : UEmb Counters (MM F) := countersEmb

abbrev 𝒱₀ : Variants := Variants.none

/-! ## The buffers the body touches -/

abbrev tabM : Memref sig .tc .hbm S8192x1024 .f32 := Memref.whole main_arg0
abbrev posM : Memref sig .tc .smem S2048 .i32 := Memref.whole cc0_stg0_0
abbrev locM : Memref sig .tc .smem S2048 .i32 := Memref.whole cc0_stg1_0
abbrev bndM : Memref sig .tc .smem S5 .i32 := Memref.whole cc0_stg2_0
abbrev idxM : Memref sig .tc .vmem S2048x1 .i32 := Memref.whole cc0_stg3_0
abbrev outM : Memref sig .tc .vmem S2048x1024 .bf16 := Memref.whole cc0_stg4_0
abbrev gatM : Memref sig .tc .vmem S2048x1024 .f32 := Memref.whole cc0_scratch0
abbrev comM : Memref sig .tc .vmem S3x512x1024 .bf16 := Memref.whole cc0_scratch1

/-! ## Sets of elements that move as one piece -/

/-- The elements of a table whose first coordinate is `p`. -/
def rowOf {a b : ℕ} (p : ℕ) : Finset (Shape.Idx ⟨2, ![a, b]⟩) := Finset.univ.filter fun i => (i 0 : ℕ) = p
/-- The elements of the result in chunk `k` (512 rows). -/
def chunkOf (k : ℕ) : Finset (Shape.Idx S2048x1024) := Finset.univ.filter fun i => (i 0 : ℕ) / 512 = k
/-- The elements of the landing buffer in slot `s`. -/
def slotOf (s : ℕ) : Finset (Shape.Idx S3x512x1024) := Finset.univ.filter fun i => (i 0 : ℕ) = s

theorem rowOf_disjoint {a b p p' : ℕ} (h : p ≠ p') : Disjoint (rowOf (a := a) (b := b) p) (rowOf p') :=
  Finset.disjoint_left.mpr fun _ hi hi' => h ((Finset.mem_filter.mp hi).2.symm.trans (Finset.mem_filter.mp hi').2)

/-- The elements of a window of rows of a whole buffer. -/
theorem set_rows {b : Ref sig .tc} (r : Rect b.ty.shape) : ((View.whole b : View sig .tc _ _ _).slice r).set = r.set := by
  rw [View.set_slice]
  exact Finset.map_refl

end Cert.Proof.Lookup
-- ==== Proof.Words.lean ====
/-
  The words the row loops compute: trip counts, the induction variable, the semaphore's number, in natural numbers, for
  bounds that are at most 2048.
-/
module

public import proofs.«01_k».proof.Proof.Base

@[expose] public section

namespace Cert.Proof.Lookup

open Cert.KernelIdeal Cert.KernelIdeal.Gen
open Idealize.ShloMosaic

theorem toInt_small {x : BitVec 32} (h : x.toNat < 2 ^ 31) : x.toInt = x.toNat :=
  BitVec.toInt_eq_toNat_of_lt (by omega)

theorem iv_toNat {lb : BitVec 32} {k : ℕ} (h : lb.toNat + k < 2 ^ 32) : (Scf.iv lb 1#32 k).toNat = lb.toNat + k := by
  unfold Scf.iv
  rw [BitVec.mul_one, BitVec.toNat_add, BitVec.toNat_ofNat, Nat.mod_eq_of_lt (a := k) (by omega), Nat.mod_eq_of_lt h]

theorem trips_one {lb ub : BitVec 32} (hl : lb.toNat < 2 ^ 31) (hu : ub.toNat < 2 ^ 31) :
    Scf.trips lb ub 1#32 = ub.toNat - lb.toNat := by
  unfold Scf.trips
  rw [toInt_small hl, toInt_small hu, show (1#32 : BitVec 32).toInt = 1 by decide]
  omega

theorem ok_one {lb ub : BitVec 32} (hl : lb.toNat < 2 ^ 31) (hu : ub.toNat < 2 ^ 31) : Scf.OK lb ub 1#32 := by
  unfold Scf.OK
  rw [trips_one hl hu, toInt_small hl, show (1#32 : BitVec 32).toInt = 1 by decide]
  refine ⟨by omega, ?_⟩
  show _ < (2:Int) ^ 31
  omega

/-- The signed remainder by sixteen of a word that is not negative. -/
theorem remsi_sixteen {x : BitVec 32} (h : x.toNat < 2 ^ 31) : (Scalar.remsi x 16#32).toNat = x.toNat % 16 := by
  have hx : x.msb = false := BitVec.msb_eq_false_iff_two_mul_lt.mpr (by omega)
  unfold Scalar.remsi IntOp.remsi
  rw [if_neg (by simp [IntOp.SDivCorner])]
  show (x.srem 16#32).toNat = _
  rw [BitVec.srem_eq, hx, show (16#32 : BitVec 32).msb = false by decide]
  simp

theorem subi_toNat {x y : BitVec 32} (h : y.toNat ≤ x.toNat) : (Scalar.subi x y).toNat = x.toNat - y.toNat := by
  unfold Scalar.subi IntOp.subi
  rw [BitVec.toNat_sub]
  have := x.isLt
  have := y.isLt
  omega

/-- `a + (b - a) / 1 * 1` is `b`. -/
theorem upto (a b : BitVec 32) : Scalar.addi a (Scalar.muli (Scalar.divsi (Scalar.subi b a) 1#32) 1#32) = b := by
  rw [Scalar.muli_divsi_one]
  unfold Scalar.addi Scalar.subi IntOp.addi IntOp.subi
  rw [BitVec.add_comm, BitVec.sub_add_cancel]

theorem upto' (a b : BitVec 32) : Scalar.addi a (Scalar.subi b a) = b := by
  unfold Scalar.addi Scalar.subi IntOp.addi IntOp.subi
  rw [BitVec.add_comm, BitVec.sub_add_cancel]

/-- Where the draining loop starts: sixteen below the end, not below the start. -/
def drainFrom (s e : BitVec 32) : BitVec 32 := Scalar.maxsi (Scalar.subi e 16#32) s

theorem drainFrom_toNat {s e : BitVec 32} (hs : s.toNat ≤ e.toNat) (he : e.toNat ≤ 2048) :
    (drainFrom s e).toNat = max (e.toNat - 16) s.toNat := by
  unfold drainFrom Scalar.maxsi IntOp.maxsi
  have h1 : (Scalar.subi e 16#32).toInt = (e.toNat : Int) - 16 := by
    unfold Scalar.subi IntOp.subi
    rw [BitVec.toInt_sub, toInt_small (by omega), show (16#32 : BitVec 32).toInt = 16 by decide]
    rw [Int.bmod_eq_of_le (by omega) (by omega)]
  have h2 := toInt_small (x := s) (by omega)
  have hle : BitVec.sle (Scalar.subi e 16#32) s = decide ((e.toNat : Int) - 16 ≤ s.toNat) := by
    rw [BitVec.sle_eq_decide, h1, h2]
  have hlt : BitVec.sle s (Scalar.subi e 16#32) = decide ((s.toNat : Int) ≤ (e.toNat : Int) - 16) := by
    rw [BitVec.sle_eq_decide, h1, h2]
  have hlt' : BitVec.slt s (Scalar.subi e 16#32) = decide ((s.toNat : Int) < (e.toNat : Int) - 16) := by
    rw [BitVec.slt_eq_decide, h1, h2]
  have hlt'' : BitVec.slt (Scalar.subi e 16#32) s = decide ((e.toNat : Int) - 16 < s.toNat) := by
    rw [BitVec.slt_eq_decide, h1, h2]
  have h3 : ∀ (_ : 16 ≤ e.toNat), (Scalar.subi e 16#32).toNat = e.toNat - 16 := fun h => subi_toNat (y := 16#32) h
  simp only [hle, hlt, hlt', hlt'']
  split <;> rename_i h <;> simp at h
  · by_cases h16 : 16 ≤ e.toNat
    · rw [h3 h16]; omega
    · omega
  · by_cases h16 : 16 ≤ e.toNat
    · first | omega | (rw [h3 h16]; omega)
    · omega

theorem t1_loop_eq (s e : BitVec 32) : k0_t1_loop s e = ⟨s, e, 1#32⟩ := by
  show Scf.Loop.mk _ _ _ = _
  congr 1
  exact upto s e

theorem t3_loop_eq (s e : BitVec 32) : k0_t3_loop s e = ⟨drainFrom s e, e, 1#32⟩ := by
  show Scf.Loop.mk _ _ _ = _
  congr 1
  exact upto _ e

variable {s e : BitVec 32} (hs : s.toNat ≤ e.toNat) (he : e.toNat ≤ 2048)

include hs he

theorem t1_trips : (k0_t1_loop s e).trips = e.toNat - s.toNat := by
  rw [t1_loop_eq]
  exact trips_one (lb := s) (ub := e) (by omega) (by omega)

theorem t1_ok : (k0_t1_loop s e).OK := by
  rw [t1_loop_eq]
  exact ok_one (lb := s) (ub := e) (by omega) (by omega)

omit he in
theorem t1_lt (he : e.toNat ≤ 2048) (k : Fin (k0_t1_loop s e).trips) : s.toNat + k.val < e.toNat := by
  have h1 := k.isLt
  have h2 := t1_trips hs he
  omega

theorem t1_iv (k : Fin (k0_t1_loop s e).trips) : (Scf.iv s 1#32 k.val).toNat = s.toNat + k.val :=
  iv_toNat (by have := t1_lt hs he k; omega)

theorem cond1_iff (k : Fin (k0_t1_loop s e).trips) : k0_cond1 s e k = 1#1 ↔ 16 ≤ k.val := by
  have hlt := t1_lt hs he k
  have h1 : (Scalar.subi (Scf.iv s 1#32 k.val) s).toNat = k.val := by
    rw [subi_toNat (by rw [t1_iv hs he]; omega), t1_iv hs he]; omega
  have h2 : (Scalar.subi (Scf.iv s 1#32 k.val) s).toInt = k.val := by rw [toInt_small (by omega), h1]
  show Scalar.cmpi .ne (Scalar.extui (Scalar.cmpi .sge (Scalar.subi (Scf.iv s 1#32 k.val) s) 16#32)) 0#32 = 1#1 ↔ _
  have h3 : BitVec.sle 16#32 (Scalar.subi (Scf.iv s 1#32 k.val) s) = decide (16 ≤ k.val) := by
    rw [BitVec.sle_eq_decide, h2, show (16#32 : BitVec 32).toInt = 16 by decide]
    exact decide_eq_decide.mpr (by omega)
  unfold Scalar.cmpi IntOp.cmpi
  simp only [h3, Scalar.extui]
  by_cases h : 16 ≤ k.val <;> simp [h]

theorem off7_eq (k : Fin (k0_t1_loop s e).trips) : k0_off7 s e k = ![s.toNat + k.val] := by
  show ![(Scf.iv s 1#32 k.val).toNat] = _
  rw [t1_iv hs he]

theorem off8_eq (k : Fin (k0_t1_loop s e).trips) : k0_off8 s e k = ![(s.toNat + k.val) % 16] := by
  show ![(Scalar.remsi (Scf.iv s 1#32 k.val) 16#32).toNat] = _
  have := t1_lt hs he k
  rw [remsi_sixteen (by rw [t1_iv hs he]; omega), t1_iv hs he]

theorem off3_eq (k : Fin (k0_t1_loop s e).trips) (h : 16 ≤ k.val) : k0_off3 s e k = ![s.toNat + k.val - 16] := by
  show ![(Scalar.subi (Scf.iv s 1#32 k.val) 16#32).toNat] = _
  rw [subi_toNat (by rw [t1_iv hs he]; show 16 ≤ _; omega), t1_iv hs he]; rfl

theorem off4_eq (k : Fin (k0_t1_loop s e).trips) (h : 16 ≤ k.val) : k0_off4 s e k = ![(s.toNat + k.val - 16) % 16] := by
  show ![(Scalar.remsi (Scalar.subi (Scf.iv s 1#32 k.val) 16#32) 16#32).toNat] = _
  have := t1_lt hs he k
  have h1 : (Scalar.subi (Scf.iv s 1#32 k.val) 16#32).toNat = s.toNat + k.val - 16 := by
    rw [subi_toNat (by rw [t1_iv hs he]; show 16 ≤ _; omega), t1_iv hs he]; rfl
  rw [remsi_sixteen (by rw [h1]; omega), h1]

theorem t3_trips : (k0_t3_loop s e).trips = e.toNat - max (e.toNat - 16) s.toNat := by
  have h := drainFrom_toNat hs he
  rw [t3_loop_eq]
  show Scf.trips (drainFrom s e) e 1#32 = _
  rw [trips_one (by omega) (by omega), h]

theorem t3_ok : (k0_t3_loop s e).OK := by
  have h := drainFrom_toNat hs he
  rw [t3_loop_eq]
  exact ok_one (lb := drainFrom s e) (ub := e) (by omega) (by omega)

omit he in
theorem t3_lt (he : e.toNat ≤ 2048) (k : Fin (k0_t3_loop s e).trips) : max (e.toNat - 16) s.toNat + k.val < e.toNat := by
  have h1 := k.isLt
  have h2 := t3_trips hs he
  omega

theorem t3_iv (k : Fin (k0_t3_loop s e).trips) : (Scf.iv (drainFrom s e) 1#32 k.val).toNat = max (e.toNat - 16) s.toNat + k.val := by
  have h := drainFrom_toNat hs he
  have := t3_lt hs he k
  rw [iv_toNat (by omega), h]

theorem off19_eq (k : Fin (k0_t3_loop s e).trips) : k0_off19 s e k = ![max (e.toNat - 16) s.toNat + k.val] := by
  show ![(Scf.iv (drainFrom s e) 1#32 k.val).toNat] = _
  rw [t3_iv hs he]

theorem off20_eq (k : Fin (k0_t3_loop s e).trips) : k0_off20 s e k = ![(max (e.toNat - 16) s.toNat + k.val) % 16] := by
  show ![(Scalar.remsi (Scf.iv (drainFrom s e) 1#32 k.val) 16#32).toNat] = _
  have := t3_lt hs he k
  rw [remsi_sixteen (by rw [t3_iv hs he]; omega), t3_iv hs he]

/-- The check before a chunk's loops holds of bounds in order and in range. -/
theorem chk1_of : k0_chk1 s e := by
  have hone : ∀ {n m : ℕ} {o : Fin 1 → ℕ}, o = ![n] → n < m → ∀ a, o a + S1.size a ≤ (⟨1, ![m]⟩ : Shape).size a := by
    rintro n m o rfl h a
    have ha : a = 0 := Subsingleton.elim _ _
    subst ha
    show n + 1 ≤ m
    omega
  have hr : ∀ n : ℕ, n % 16 < 16 := fun n => Nat.mod_lt _ (by decide)
  unfold k0_chk1
  refine ⟨t1_ok hs he, fun k h => ?_, fun k h => ?_, fun k => ?_, fun k => hone (off8_eq hs he k) (hr _), ?_, fun k => ?_, fun k => ?_, fun k => ?_, fun k => ?_,
    t3_ok hs he, fun k => ?_, fun k => hone (off20_eq hs he k) (hr _), ?_, fun k => ?_, fun k => ?_⟩
  · have := t1_lt hs he k
    exact hone (off3_eq hs he k ((cond1_iff hs he k).mp h)) (by omega)
  · exact hone (off4_eq hs he k ((cond1_iff hs he k).mp h)) (hr _)
  · have := t1_lt hs he k
    exact hone (off7_eq hs he k) (by omega)
  · exact Scf.rem_ok _ _
  · exact (Scf.rem_no_trip _ _ k).elim
  · exact (Scf.rem_no_trip _ _ k).elim
  · exact (Scf.rem_no_trip _ _ k).elim
  · exact (Scf.rem_no_trip _ _ k).elim
  · have := t3_lt hs he k
    exact hone (off19_eq hs he k) (by omega)
  · exact Scf.rem_ok _ _
  · exact (Scf.rem_no_trip _ _ k).elim
  · exact (Scf.rem_no_trip _ _ k).elim

end Cert.Proof.Lookup
-- ==== Proof.Rows.lean ====
/-
  One row copy: the two buffers' rows, the sixteen semaphores, a copy in flight, and the three steps the row loops are
  made of — reading a word of the two tables of positions, starting a row's copy, waiting for a row's copy.
-/
module

public import proofs.«01_k».proof.Proof.Words
public import Idealize.ShloMosaic.Lib.ValueIdxCore

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Names -/

/-- The row copies' semaphore `r`. -/
def gsem (r : Fin 16) : DmaSem sig := cc0_scratch2.ix (ix1 r)
abbrev gcell (r : Fin 16) : SemLoc sig := .dma (gsem r)
/-- The semaphore of the row copied `j`-th. -/
def slot16 (j : ℕ) : Fin 16 := ⟨j % 16, Nat.mod_lt _ (by decide)⟩

/-- The amount a row's copy adds to its semaphore. -/
def rowN : ℕ := cc0_scratch0.dmaCredit S1x1024 .f32
theorem rowN_pos : 0 < rowN :=
  View.dmaCredit_pos ((gatM.slice (Rect.unit (s := S2048x1024) ![0, 0] S1x1024.size (by decide)) (fun _ => rfl)).view) (by decide)

/-- Word `j` of a table of 2048 words. -/
def at1 (f : S2048.Idx → BitVec 32) (j : ℕ) : BitVec 32 := if h : j < 2048 then f (ix1 ⟨j, h⟩) else 0

/-- The table's elements on a device. -/
abbrev tabLoc (c : Dev nD) : Loc nD τ sig := tabM.view.loc (c : Thread nD τ)
abbrev gatLoc (c : Dev nD) : Loc nD τ sig := gatM.view.loc (c : Thread nD τ)
abbrev posLoc (c : Dev nD) : Loc nD τ sig := posM.view.loc (c : Thread nD τ)
abbrev locLoc (c : Dev nD) : Loc nD τ sig := locM.view.loc (c : Thread nD τ)
abbrev TabC (F : FTy → Type) : Type := S8192x1024.Idx → Elt F .f32
abbrev GatC (F : FTy → Type) : Type := S2048x1024.Idx → Elt F .f32

theorem row_set {n : ℕ} {b : Ref sig .tc} {off : Fin 2 → ℕ} {p : ℕ} (hb : b.ty.shape = ⟨2, ![n, 1024]⟩) (ho : off = ![p, 0])
    (inb : ∀ a, off a + S1x1024.size a ≤ (⟨2, ![n, 1024]⟩ : Shape).size a) :
    (Rect.unit (s := ⟨2, ![n, 1024]⟩) off S1x1024.size inb).set = rowOf (a := n) (b := 1024) p := by
  subst ho
  ext i
  rw [Rect.mem_set_unit]
  unfold rowOf
  rw [Finset.mem_filter]
  constructor
  · intro h
    have := h 0
    refine ⟨Finset.mem_univ _, ?_⟩
    have h1 : p ≤ (i 0).val := this.1
    have h2 : (i 0).val < p + 1 := this.2
    omega
  · rintro ⟨-, h⟩ a
    match a with
    | ⟨0, _⟩ => exact ⟨h.ge, by show (i 0).val < p + 1; omega⟩
    | ⟨1, _⟩ => exact ⟨Nat.zero_le _, by show (i 1).val < 0 + 1024; have := (i 1).isLt; have h : (i 1).val < 1024 := this; omega⟩

theorem gsem_eq {off : Fin 1 → ℕ} {r : Fin 16} (ho : off = ![r.val]) (inb : ∀ a, off a + S1.size a ≤ S16.size a) :
    (((cc0_scratch2.slice (Rect.unit (s := S16) off S1.size inb)).squeeze S_ squeezes_S1_S_).sem) = gsem r := by
  subst ho
  show cc0_scratch2.ix _ = cc0_scratch2.ix _
  congr 1
  funext a
  match a with
  | ⟨0, _⟩ =>
    apply Fin.ext
    rw [Rect.emb_apply]
    show r.val + 1 * _ = r.val
    have : ∀ x : Fin 1, x.val = 0 := fun x => by omega
    erw [this]
    rfl

/-! ## Reading a word -/

/-- A word read out of a table of 2048 words held whole. -/
theorem read_word (f : S2048.Idx → BitVec 32) {off : Fin 1 → ℕ} {j : ℕ} (hj : j < 2048) (ho : off = ![j])
    (inb : ∀ a, off a + S1.size a ≤ S2048.size a) (x : (Rect.unit (s := S2048) off S1.size inb).shape.Idx) :
    f ((Rect.unit (s := S2048) off S1.size inb).emb x) = at1 f j := by
  subst ho
  unfold at1
  rw [dif_pos hj]
  congr 1
  funext a
  match a with
  | ⟨0, _⟩ =>
    apply Fin.ext
    rw [Rect.emb_apply]
    show j + 1 * (x 0).val = j
    have h : (x 0).val < 1 := (x 0).isLt
    omega

variable (c : Dev nD) {Q : BitVec 32 → sProp (MM F)} {α : Type} {Qa : α → sProp (MM F)}

theorem smemLoad_bind {s : Shape} {m : Memref sig .tc .smem s .i32} {r : Rect s} {h1 : r.shape.numel = 1} {hp : EltTy.i32.packing = 1}
    {k : Elt F .i32 → Prog (TpuEff nD τ sig (Elt F) Λ₀ .tc) α} :
    (smemLoad m r h1 hp >>= k) = smemLoadElt m r (View.loads_smem_one hp h1) (Shape.Idx.first (h1.symm ▸ Nat.one_pos)) k := rfl

theorem wp_pos {off : Fin 1 → ℕ} {j : ℕ} (hj : j < 2048) (ho : off = ![j]) (inb : ∀ a, off a + S1.size a ≤ S2048.size a)
    {h1 : (Rect.unit (s := S2048) off S1.size inb).shape.numel = 1} {hp : EltTy.i32.packing = 1} (f : S2048.Idx → BitVec 32)
    {k : Elt F .i32 → Prog (TpuEff nD τ sig (Elt F) Λ₀ .tc) α} :
    (posLoc c ↦{fullShare} f : sProp (MM F))
      ⊢ iprop(((posLoc c ↦{fullShare} f) -∗ wp frame (wpE (defs₀ (F := F)) 𝒱₀ (c : Thread nD τ) none) Set.univ (k (at1 f j)) Qa)
        -∗ wp frame (wpE (defs₀ (F := F)) 𝒱₀ (c : Thread nD τ) none) Set.univ (smemLoad posM (Rect.unit (s := S2048) off S1.size inb) h1 hp >>= k) Qa) := by
  rw [smemLoad_bind, ← read_word f hj ho inb (Shape.Idx.first (h1.symm ▸ Nat.one_pos))]
  exact wp_smemLoadElt (k := k) (f := f) 𝒱₀ (c : Thread nD τ) none Set.univ (m := posM) (r := Rect.unit (s := S2048) off S1.size inb)
    (x := Shape.Idx.first (h1.symm ▸ Nat.one_pos)) (Finset.subset_univ _)

theorem wp_loc {off : Fin 1 → ℕ} {j : ℕ} (hj : j < 2048) (ho : off = ![j]) (inb : ∀ a, off a + S1.size a ≤ S2048.size a)
    {h1 : (Rect.unit (s := S2048) off S1.size inb).shape.numel = 1} {hp : EltTy.i32.packing = 1} (f : S2048.Idx → BitVec 32)
    {k : Elt F .i32 → Prog (TpuEff nD τ sig (Elt F) Λ₀ .tc) α} :
    (locLoc c ↦{fullShare} f : sProp (MM F))
      ⊢ iprop(((locLoc c ↦{fullShare} f) -∗ wp frame (wpE (defs₀ (F := F)) 𝒱₀ (c : Thread nD τ) none) Set.univ (k (at1 f j)) Qa)
        -∗ wp frame (wpE (defs₀ (F := F)) 𝒱₀ (c : Thread nD τ) none) Set.univ (smemLoad locM (Rect.unit (s := S2048) off S1.size inb) h1 hp >>= k) Qa) := by
  rw [smemLoad_bind, ← read_word f hj ho inb (Shape.Idx.first (h1.symm ▸ Nat.one_pos))]
  exact wp_smemLoadElt (k := k) (f := f) 𝒱₀ (c : Thread nD τ) none Set.univ (m := locM) (r := Rect.unit (s := S2048) off S1.size inb)
    (x := Shape.Idx.first (h1.symm ▸ Nat.one_pos)) (Finset.subset_univ _)

/-! ## A row's copy -/

/-- What an idle semaphore's side of the copies holds: its counter at zero and a read share of the table. -/
def Idle (ft : TabC F) (r : Fin 16) : sProp (MM F) :=
  iprop(semVal ((c : Thread nD τ), gcell r) 0 ∗ (tabLoc c ↦[Finset.univ]{shareTok fullShare 16 r} ft))

/-- A row of the gather buffer at contents not chosen. -/
def RowAny (p : ℕ) : sProp (MM F) := iprop(∃ f : GatC F, gatLoc c ↦[rowOf p]{fullShare} f)

/-- A row of the gather buffer as `g` has it. -/
def RowDone (g : GatC F) (p : ℕ) : sProp (MM F) := iprop(gatLoc c ↦[rowOf p]{fullShare} g)

/-- The copy of the table's row `l` into the gather buffer's row `p` in flight on semaphore `r`. -/
def RowFly (ft : TabC F) (g : GatC F) (p l : ℕ) (r : Fin 16) : sProp (MM F) :=
  iprop(Flight EC (c : Thread nD τ) (gcell r) () rowN
      iprop((gatLoc c ↦[rowOf p]{fullShare} g) ∗ (tabLoc c ↦[rowOf l]{shareTok fullShare 16 r} ft))
    ∗ (tabLoc c ↦[Finset.univ \ rowOf l]{shareTok fullShare 16 r} ft))

theorem landed_row {offs offd : Fin 2 → ℕ} {p l : ℕ} (hs : offs = ![l, 0]) (hd : offd = ![p, 0])
    (is : ∀ a, offs a + S1x1024.size a ≤ S8192x1024.size a) (id : ∀ a, offd a + S1x1024.size a ≤ S2048x1024.size a)
    (ft : TabC F) (f g : GatC F) (hl : l < 8192) (hg : ∀ i ∈ rowOf (a := 2048) (b := 1024) p, g i = ft (ix2 ⟨l, hl⟩ (i 1)))
    (i : S2048x1024.Idx) (hi : i ∈ rowOf (a := 2048) (b := 1024) p) :
    (gatM.slice (Rect.unit (s := S2048x1024) offd S1x1024.size id) (fun _ => rfl)).view.write (Elt F) f
      ((tabM.slice (Rect.unit (s := S8192x1024) offs S1x1024.size is) (fun _ => rfl)).view.read (Elt F) ft) Finset.univ i = g i := by
  have hp := (Finset.mem_filter.mp hi).2
  rw [hg i hi]
  have hx : i = (gatM.slice (Rect.unit (s := S2048x1024) offd S1x1024.size id) (fun _ => rfl)).view.emb (ix2 (n0 := 1) (n1 := 1024) 0 (i 1)) := by
    subst hd
    funext a
    match a with
    | ⟨0, _⟩ => exact Fin.ext (by show (i 0).val = p + 1 * 0; omega)
    | ⟨1, _⟩ => exact Fin.ext (by show (i 1).val = 0 + 1 * (i 1).val; omega)
  have hy : (tabM.slice (Rect.unit (s := S8192x1024) offs S1x1024.size is) (fun _ => rfl)).view.emb (ix2 (n0 := 1) (n1 := 1024) 0 (i 1))
      = ix2 ⟨l, hl⟩ (i 1) := by
    subst hs
    funext a
    match a with
    | ⟨0, _⟩ => exact Fin.ext (by show l + 1 * 0 = l; omega)
    | ⟨1, _⟩ => exact Fin.ext (by show 0 + 1 * (i 1).val = (i 1).val; omega)
  conv_lhs => rw [hx]
  rw [View.write_emb_of_mem _ _ (Finset.mem_univ _)]
  show ft ((tabM.slice (Rect.unit (s := S8192x1024) offs S1x1024.size is) (fun _ => rfl)).view.emb (ix2 (n0 := 1) (n1 := 1024) 0 (i 1))) = _
  rw [hy]
  rfl

theorem wp_issue {offs offd : Fin 2 → ℕ} {offc : Fin 1 → ℕ} {p l : ℕ} {r : Fin 16} (hs : offs = ![l, 0]) (hd : offd = ![p, 0]) (hc : offc = ![r.val])
    (is : ∀ a, offs a + S1x1024.size a ≤ S8192x1024.size a) (id : ∀ a, offd a + S1x1024.size a ≤ S2048x1024.size a)
    (ic : ∀ a, offc a + S1.size a ≤ S16.size a) (ft : TabC F) (g : GatC F) (hl : l < 8192)
    (hg : ∀ i ∈ rowOf (a := 2048) (b := 1024) p, g i = ft (ix2 ⟨l, hl⟩ (i 1)))
    {w1 w2 w3} {k : PUnit → Prog (TpuEff nD τ sig (Elt F) Λ₀ .tc) α} :
    iprop(RowAny c p ∗ Idle c ft r) ⊢ iprop((RowFly c ft g p l r -∗ wp frame (wpE (defs₀ (F := F)) 𝒱₀ (c : Thread nD τ) none) Set.univ (k ⟨⟩) Qa)
      -∗ wp frame (wpE (defs₀ (F := F)) 𝒱₀ (c : Thread nD τ) none) Set.univ
          (.op (.enqueueDma (tabM.slice (Rect.unit (s := S8192x1024) offs S1x1024.size is) (fun _ => rfl))
            (.here (gatM.slice (Rect.unit (s := S2048x1024) offd S1x1024.size id) (fun _ => rfl)))
            (.dma (((cc0_scratch2.slice (Rect.unit (s := S16) offc S1.size ic)).squeeze S_ squeezes_S1_S_).sem)) w1 w2 w3) k) Qa) := by
  have hss : (tabM.slice (Rect.unit (s := S8192x1024) offs S1x1024.size is) (fun _ => rfl)).view.set = rowOf (a := 8192) (b := 1024) l :=
    (set_rows _).trans (row_set (b := main_arg0) rfl hs is)
  have hds : (gatM.slice (Rect.unit (s := S2048x1024) offd S1x1024.size id) (fun _ => rfl)).view.set = rowOf (a := 2048) (b := 1024) p :=
    (set_rows _).trans (row_set (b := cc0_scratch0) rfl hd id)
  revert w3
  rw [gsem_eq hc ic]
  intro w3
  unfold RowAny Idle RowFly
  iintro ⟨⟨%f, Hg⟩, Hv, Ht⟩ Hk
  ihave Ht := (pointsTo_split_subset (Finset.subset_univ (rowOf (a := 8192) (b := 1024) l))).1 $$ Ht
  icases Ht with ⟨Htl, Htr⟩
  iapply (wp_dmaLocal EC 𝒱₀ (c : Thread nD τ) none (sm := gcell r) (via := .same)
    (src := tabM.slice (Rect.unit (s := S8192x1024) offs S1x1024.size is) (fun _ => rfl))
    (dst := gatM.slice (Rect.unit (s := S2048x1024) offd S1x1024.size id) (fun _ => rfl))
    (q := shareTok fullShare 16 r) (fs := ft) (Sd := rowOf (a := 2048) (b := 1024) p) (fd := f) () rowN rfl rowN_pos hds.subset) $$ [Hg Htl Hv]
  · isplitl [Htl]
    · rw [hss]; iexact Htl
    isplitl [Hg]; · iexact Hg
    iexact Hv
  iintro Hf
  iapply Hk
  isplitl [Hf]
  · iapply (Flight_mono EC (c : Thread nD τ) ?_) $$ Hf
    rw [hss]
    refine sep_mono_l (Entails.of_eq (pointsTo_congr fun i hi => ?_))
    exact landed_row hs hd is id ft f g hl hg i hi
  · iexact Htr

theorem wp_await {offs : Fin 2 → ℕ} {offd : Fin 2 → ℕ} {offc : Fin 1 → ℕ} {p l : ℕ} {r : Fin 16} (hc : offc = ![r.val])
    (is : ∀ a, offs a + S1x1024.size a ≤ S8192x1024.size a) (id : ∀ a, offd a + S1x1024.size a ≤ S2048x1024.size a)
    (ic : ∀ a, offc a + S1.size a ≤ S16.size a) (ft : TabC F) (g : GatC F)
    {w1 w2} {k : PUnit → Prog (TpuEff nD τ sig (Elt F) Λ₀ .tc) α} {O : CellTallies nD τ sig Unit} {W : Waits sig Unit} :
    iprop(RowFly c ft g p l r ∗ owes (c : Thread nD τ) O W ∗ MayWait (c : Thread nD τ) (gcell r) () O)
      ⊢ iprop((iprop(RowDone c g p ∗ Idle c ft r ∗ owes (c : Thread nD τ) O (insert (gcell r, ()) W))
          -∗ wp frame (wpE (defs₀ (F := F)) 𝒱₀ (c : Thread nD τ) none) Set.univ (k ⟨⟩) Qa)
      -∗ wp frame (wpE (defs₀ (F := F)) 𝒱₀ (c : Thread nD τ) none) Set.univ
          (.op (.waitDma2 (((cc0_scratch2.slice (Rect.unit (s := S16) offc S1.size ic)).squeeze S_ squeezes_S1_S_).sem)
            (tabM.slice (Rect.unit (s := S8192x1024) offs S1x1024.size is) (fun _ => rfl))
            (gatM.slice (Rect.unit (s := S2048x1024) offd S1x1024.size id) (fun _ => rfl)) w1 w2) k) Qa) := by
  rw [gsem_eq hc ic]
  unfold RowFly RowDone Idle
  iintro ⟨⟨Hf, Htr⟩, HO, Hm⟩ Hk
  iapply (wp_waitLocalO EC 𝒱₀ (c : Thread nD τ) none (sem := gsem r)
    (srcw := tabM.slice (Rect.unit (s := S8192x1024) offs S1x1024.size is) (fun _ => rfl))
    (dstw := gatM.slice (Rect.unit (s := S2048x1024) offd S1x1024.size id) (fun _ => rfl)) () (N := rowN) rfl) $$ [Hf HO Hm]
  · isplitl [Hf]; · iexact Hf
    isplitl [HO]; · iexact HO
    iexact Hm
  iintro ⟨⟨Hg, Htl⟩, Hv, HO⟩
  iapply Hk
  isplitl [Hg]; · iexact Hg
  isplitl [Hv Htl Htr]
  · isplitl [Hv]; · iexact Hv
    iapply (pointsTo_split_subset (Finset.subset_univ (rowOf (a := 8192) (b := 1024) l))).2
    isplitl [Htl]; · iexact Htl
    iexact Htr
  · iexact HO

end Cert.Proof.Lookup
-- ==== Proof.Views.lean ====
/-
  The windows the ring moves: a chunk of 512 rows of the result (or of the gather buffer) and a slot of the landing
  buffer.  Which elements each window holds, and what reading and writing through it gives when the buffer's contents are
  a chunk's values laid out.
-/
module

public import proofs.«01_k».proof.Proof.Rows
public import Idealize.ShloMosaic.Lib.ValueLayout

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Contents -/

/-- Contents of the result, of the landing buffer, of one chunk. -/
abbrev OutC (F : FTy → Type) : Type := S2048x1024.Idx → Elt F .bf16
abbrev ComC (F : FTy → Type) : Type := S3x512x1024.Idx → Elt F .bf16
abbrev ChunkC (F : FTy → Type) : Type := S512x1024.Idx → Elt F .bf16

/-- A chunk's values, at every chunk of the result. -/
def spread {α : Type} (v : S512x1024.Idx → α) : S2048x1024.Idx → α :=
  fun i => v (ix2 ⟨(i 0).val % 512, Nat.mod_lt _ (by decide)⟩ (i 1))
/-- A chunk's values, at every slot of the landing buffer. -/
def spreadC (v : ChunkC F) : ComC F := fun i => v (ix2 (i 1) (i 2))
/-- A chunk's values under a leading unit axis. -/
def lead (v : ChunkC F) : Vec F S1x512x1024 .bf16 := fun i => v (ix2 (i 1) (i 2))

/-! ## A chunk's window -/

theorem chunk_off_set {off : Fin 2 → ℕ} {j : ℕ} (ho : off = ![512 * j, 0]) (inb : ∀ a, off a + S512x1024.size a ≤ S2048x1024.size a) :
    (Rect.unit (s := S2048x1024) off S512x1024.size inb).set = chunkOf j := by
  subst ho
  ext i
  rw [Rect.mem_set_unit]
  unfold chunkOf
  rw [Finset.mem_filter]
  constructor
  · intro h
    have h0 : 512 * j ≤ (i 0).val ∧ (i 0).val < 512 * j + 512 := h 0
    refine ⟨Finset.mem_univ _, ?_⟩
    omega
  · rintro ⟨-, h⟩ a
    match a with
    | ⟨0, _⟩ => exact ⟨by show 512 * j ≤ (i 0).val; omega, by show (i 0).val < 512 * j + 512; omega⟩
    | ⟨1, _⟩ => exact ⟨Nat.zero_le _, by show (i 1).val < 0 + 1024; have h : (i 1).val < 1024 := (i 1).isLt; omega⟩

theorem chunk_emb {off : Fin 2 → ℕ} {j : ℕ} (ho : off = ![512 * j, 0]) (inb : ∀ a, off a + S512x1024.size a ≤ S2048x1024.size a)
    (x : S512x1024.Idx) : (((Rect.unit (s := S2048x1024) off S512x1024.size inb).emb x) 0).val = 512 * j + (x 0).val
      ∧ ((Rect.unit (s := S2048x1024) off S512x1024.size inb).emb x) 1 = x 1 := by
  subst ho
  constructor
  · rw [Rect.emb_apply]; show 512 * j + 1 * (x 0).val = _; omega
  · apply Fin.ext; rw [Rect.emb_apply]; show 0 + 1 * (x 1).val = _; omega

theorem chunk_spread {α : Type} {off : Fin 2 → ℕ} {j : ℕ} (ho : off = ![512 * j, 0]) (inb : ∀ a, off a + S512x1024.size a ≤ S2048x1024.size a)
    (v : S512x1024.Idx → α) (x : S512x1024.Idx) : spread v ((Rect.unit (s := S2048x1024) off S512x1024.size inb).emb x) = v x := by
  obtain ⟨h0, h1⟩ := chunk_emb ho inb x
  unfold spread
  congr 1
  conv_rhs => rw [eq_ix2 x]
  rw [h1]
  congr 1
  apply Fin.ext
  show _ % 512 = _
  rw [h0]
  have h : (x 0).val < 512 := (x 0).isLt
  omega

/-- A chunk's window of the result. -/
abbrev outW (off : Fin 2 → ℕ) (inb : ∀ a, off a + S512x1024.size a ≤ S2048x1024.size a) : Memref sig .tc .vmem S512x1024 .bf16 :=
  outM.slice (Rect.unit (s := S2048x1024) off S512x1024.size inb) (fun _ => rfl)

variable {off : Fin 2 → ℕ} {j : ℕ} (ho : off = ![512 * j, 0]) (inb : ∀ a, off a + S512x1024.size a ≤ S2048x1024.size a)

include ho in
theorem out_set : (outW off inb).view.set = chunkOf j := (set_rows _).trans (chunk_off_set ho inb)
include ho in
theorem out_read (v : ChunkC F) : (outW off inb).view.read (Elt F) (spread v) = v := by
  funext x; exact chunk_spread ho inb v x
include ho in
theorem out_write (f : OutC F) (v : ChunkC F) (i : S2048x1024.Idx) (hi : i ∈ chunkOf j) :
    (outW off inb).view.write (Elt F) f v Finset.univ i = spread v i := by
  have hi' := hi
  rw [← out_set ho inb] at hi'
  obtain ⟨x, -, rfl⟩ := Finset.mem_map.mp hi'
  rw [View.write_emb_of_mem _ _ (Finset.mem_univ _)]
  exact (chunk_spread ho inb v x).symm

/-! ## A slot's window -/

theorem slot_set {s : ℕ} (inb : ∀ a, (![s, 0, 0] : Fin 3 → ℕ) a + S1x512x1024.size a ≤ S3x512x1024.size a) :
    (Rect.unit (s := S3x512x1024) ![s, 0, 0] S1x512x1024.size inb).set = slotOf s := by
  ext i
  rw [Rect.mem_set_unit]
  unfold slotOf
  rw [Finset.mem_filter]
  constructor
  · intro h
    have h0 : s ≤ (i 0).val ∧ (i 0).val < s + 1 := h 0
    refine ⟨Finset.mem_univ _, ?_⟩
    omega
  · rintro ⟨-, h⟩ a
    match a with
    | ⟨0, _⟩ => exact ⟨by show s ≤ (i 0).val; omega, by show (i 0).val < s + 1; omega⟩
    | ⟨1, _⟩ => exact ⟨Nat.zero_le _, by show (i 1).val < 0 + 512; have h : (i 1).val < 512 := (i 1).isLt; omega⟩
    | ⟨2, _⟩ => exact ⟨Nat.zero_le _, by show (i 2).val < 0 + 1024; have h : (i 2).val < 1024 := (i 2).isLt; omega⟩

/-- A slot's window of the landing buffer, without the unit axis. -/
abbrev comW (s : ℕ) (inb : ∀ a, (![s, 0, 0] : Fin 3 → ℕ) a + S1x512x1024.size a ≤ S3x512x1024.size a) : Memref sig .tc .vmem S512x1024 .bf16 :=
  (comM.slice (Rect.unit (s := S3x512x1024) ![s, 0, 0] S1x512x1024.size inb) (fun _ => rfl)).squeeze S512x1024 squeezes_S1x512x1024_S512x1024

variable {s : ℕ} (inc : ∀ a, (![s, 0, 0] : Fin 3 → ℕ) a + S1x512x1024.size a ≤ S3x512x1024.size a)

theorem com_set : (comW s inc).view.set = slotOf s :=
  (View.set_reshape _ _).trans ((set_rows _).trans (slot_set inc))

theorem slot_emb (x : S1x512x1024.Idx) :
    ((Rect.unit (s := S3x512x1024) ![s, 0, 0] S1x512x1024.size inc).emb x) 1 = x 1
      ∧ ((Rect.unit (s := S3x512x1024) ![s, 0, 0] S1x512x1024.size inc).emb x) 2 = x 2 := by
  constructor
  · apply Fin.ext; rw [Rect.emb_apply]; show 0 + 1 * (x 1).val = _; omega
  · apply Fin.ext; rw [Rect.emb_apply]; show 0 + 1 * (x 2).val = _; omega

theorem com_spread (v : ChunkC F) (x : S512x1024.Idx) : spreadC v ((comW s inc).view.emb x) = v x := by
  rw [eq_ix2 x]
  show spreadC v ((Rect.unit (s := S3x512x1024) ![s, 0, 0] S1x512x1024.size inc).emb
    (Shape.reshapeEquiv _ (ix2 (x 0) (x 1)))) = _
  erw [reshapeEquiv_ix2_1ab]
  unfold spreadC
  rw [(slot_emb inc _).1, (slot_emb inc _).2]
  rfl

theorem com_write (f : ComC F) (v : ChunkC F) (i : S3x512x1024.Idx) (hi : i ∈ slotOf s) :
    (comW s inc).view.write (Elt F) f v Finset.univ i = spreadC v i := by
  have hi' := hi
  rw [← com_set inc] at hi'
  obtain ⟨x, -, rfl⟩ := Finset.mem_map.mp hi'
  rw [View.write_emb_of_mem _ _ (Finset.mem_univ _)]
  exact (com_spread inc v x).symm

theorem com_read (v : ChunkC F) :
    (comM.access (Rect.unit (s := S3x512x1024) ![s, 0, 0] S1x512x1024.size inc)).read (Elt F) (spreadC v) = lead v := by
  funext x
  show spreadC v ((Rect.unit (s := S3x512x1024) ![s, 0, 0] S1x512x1024.size inc).emb x) = _
  unfold spreadC lead
  rw [(slot_emb inc x).1, (slot_emb inc x).2]

/-! ## The amounts -/

/-- The amount a chunk's copy adds to its semaphores. -/
def chunkN : ℕ := cc0_stg4_0.dmaCredit S512x1024 .bf16
theorem chunkN_pos : 0 < chunkN :=
  View.dmaCredit_pos ((outM.slice (Rect.unit (s := S2048x1024) ![0, 0] S512x1024.size (by decide)) (fun _ => rfl)).view) (by decide)

/-! ## Where the program's windows lie, and whom it sends to -/

theorem o27 (c : Dev nD) : k0_off27 c = ![512 * c.val, 0] := by revert c; decide
theorem o28 (c : Dev nD) : k0_off28 c = ![512 * c.val, 0] := by revert c; decide
theorem o29 (c : Dev nD) : k0_off29 c = ![512 * c.val, 0] := by revert c; decide
theorem o56 (c : Dev nD) : k0_off56 c = ![512 * (c + 3).val, 0] := by revert c; decide
theorem o57 (c : Dev nD) : k0_off57 c = ![512 * (c + 3).val, 0] := by revert c; decide
theorem o58 (c : Dev nD) : k0_off58 c 1#32 = ![512 * (c + 3).val, 0] := by revert c; decide
theorem o85 (c : Dev nD) : k0_off85 c = ![512 * (c + 2).val, 0] := by revert c; decide
theorem o86 (c : Dev nD) : k0_off86 c = ![512 * (c + 2).val, 0] := by revert c; decide
theorem o87 (c : Dev nD) : k0_off87 c 2#32 = ![512 * (c + 2).val, 0] := by revert c; decide
theorem o114 (c : Dev nD) : k0_off114 c = ![512 * (c + 1).val, 0] := by revert c; decide
theorem o115 (c : Dev nD) : k0_off115 c = ![512 * (c + 1).val, 0] := by revert c; decide
theorem o117_0 (c : Dev nD) : k0_off117 c 0#32 = ![512 * (c + 1).val, 0] := by revert c; decide
theorem o117_1 (c : Dev nD) : k0_off117 c 1#32 = ![512 * c.val, 0] := by revert c; decide
theorem o117_2 (c : Dev nD) : k0_off117 c 2#32 = ![512 * (c + 3).val, 0] := by revert c; decide

theorem o1 (c : Dev nD) : k0_off1 c = ![c.val] ∧ k0_off2 c = ![c.val + 1] := by revert c; decide
theorem o30 (c : Dev nD) : k0_off30 c = ![(c + 3).val] ∧ k0_off31 c = ![(c + 3).val + 1] := by revert c; decide
theorem o59 (c : Dev nD) : k0_off59 c = ![(c + 2).val] ∧ k0_off60 c = ![(c + 2).val + 1] := by revert c; decide
theorem o88 (c : Dev nD) : k0_off88 c = ![(c + 1).val] ∧ k0_off89 c = ![(c + 1).val + 1] := by revert c; decide

theorem dev1 (c : Dev nD) : (⟨k0_dev1 c, k0_dev1_lt c⟩ : Dev nD) = c + 3 := by revert c; decide
theorem dev2 (c : Dev nD) : (⟨k0_dev2 c, k0_dev2_lt c⟩ : Dev nD) = c + 1 := by revert c; decide
theorem dev3 (c : Dev nD) : (⟨k0_dev3 c, k0_dev3_lt c⟩ : Dev nD) = c + 1 := by revert c; decide
theorem dev4 (c : Dev nD) : (⟨k0_dev4 c, k0_dev4_lt c⟩ : Dev nD) = c + 1 := by revert c; decide
theorem dev5 (c : Dev nD) : (⟨k0_dev5 c, k0_dev5_lt c⟩ : Dev nD) = c + 1 := by revert c; decide
theorem dev6 (c : Dev nD) : (⟨k0_dev6 c, k0_dev6_lt c⟩ : Dev nD) = c + 1 := by revert c; decide
theorem dev7 (c : Dev nD) : (⟨k0_dev7 c, k0_dev7_lt c⟩ : Dev nD) = c + 1 := by revert c; decide
theorem dev8 (c : Dev nD) : (⟨k0_dev8 c, k0_dev8_lt c⟩ : Dev nD) = c + 1 := by revert c; decide

end Cert.Proof.Lookup
-- ==== Proof.Gather.lean ====
/-
  The row loops of one chunk: what is held when the copies below `lo` have been waited for and those below `hi` started,
  the two moves between such states, and from them the four printed loops as one step — from the gather buffer at any
  contents to the gather buffer holding, in every row the chunk's positions name, the table's row asked for.
-/
module

public import proofs.«01_k».proof.Proof.Rows

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- One element of a separating product changed: take it out, put its new form in. -/
theorem bigSep_change {M : Type} [URA M] {J : Type} [DecidableEq J] {S : Finset J} {Φ Ψ : J → sProp M} {i : J} (hi : i ∈ S)
    (h : ∀ j ∈ S, j ≠ i → Ψ j = Φ j) : bigSep S Φ ⊢ iprop(Φ i ∗ (Ψ i -∗ bigSep S Ψ)) := by
  have e1 : bigSep S Φ = iprop(Φ i ∗ bigSep (S.erase i) Φ) := bigSep_erase hi
  have e2 : bigSep S Ψ = iprop(Ψ i ∗ bigSep (S.erase i) Ψ) := bigSep_erase hi
  rw [e1, e2, bigSep_congr (s := S.erase i) (Φ := Ψ) (Ψ := Φ) fun j hj => h j (Finset.mem_of_mem_erase hj) (Finset.ne_of_mem_erase hj)]
  iintro ⟨Hi, Hr⟩
  isplitl [Hi]; · iexact Hi
  iintro Hi
  isplitl [Hi]; · iexact Hi
  iexact Hr

theorem bigSep_each {M : Type} [URA M] {J : Type} {S : Finset J} {Φ Ψ : J → sProp M} (h : ∀ j ∈ S, Φ j ⊢ Ψ j) : bigSep S Φ ⊢ bigSep S Ψ :=
  bigSep_mono h

/-- One effect and then the rest is the effect with the rest as its continuation. -/
theorem lift_then {α β : Type} {e : TpuEff nD τ sig (Elt F) Λ₀ .tc α} {k : α → Prog (TpuEff nD τ sig (Elt F) Λ₀ .tc) β} :
    (Prog.lift e >>= k) = .op e k := rfl

/-- What the loops of a chunk are told: the bounds of its stretch `s … e - 1` of the sorted positions, where each row goes
    (`pos`) and comes from (`loc`), and what the gather buffer is to hold (`g`). -/
structure Stretch (F : FTy → Type) where
  s : BitVec 32
  e : BitVec 32
  pos : S2048.Idx → BitVec 32
  loc : S2048.Idx → BitVec 32
  ft : TabC F
  g : GatC F
  hs : s.toNat ≤ e.toNat
  he : e.toNat ≤ 2048
  hpos : ∀ j, s.toNat ≤ j → j < e.toNat → (at1 pos j).toNat < 2048
  hinj : ∀ j j', s.toNat ≤ j → j < e.toNat → s.toNat ≤ j' → j' < e.toNat → (at1 pos j).toNat = (at1 pos j').toNat → j = j'
  hloc : ∀ j, s.toNat ≤ j → j < e.toNat → (at1 loc j).toNat < 8192
  hg : ∀ j (h1 : s.toNat ≤ j) (h2 : j < e.toNat), ∀ i ∈ rowOf (a := 2048) (b := 1024) (at1 pos j).toNat,
    g i = ft (ix2 ⟨(at1 loc j).toNat, hloc j h1 h2⟩ (i 1))

variable (c : Dev nD) (T : Stretch F)

/-- Row `j` of the stretch, the copies below `lo` waited for and those below `hi` started. -/
def rowSt (lo hi j : ℕ) : sProp (MM F) :=
  if j < lo then RowDone c T.g (at1 T.pos j).toNat
  else if j < hi then RowFly c T.ft T.g (at1 T.pos j).toNat (at1 T.loc j).toNat (slot16 j)
  else RowAny c (at1 T.pos j).toNat

open Classical in
/-- Semaphore `r` then: in use by the one copy in flight on it, or idle. -/
def cellSt (lo hi : ℕ) (r : Fin 16) : sProp (MM F) :=
  if ∃ q, lo ≤ q ∧ q < hi ∧ q % 16 = r.val then iprop(emp) else Idle c T.ft r

/-- The rows and semaphores of a stretch, the copies below `lo` waited for and those below `hi` started. -/
def gatherAt (lo hi : ℕ) : sProp (MM F) :=
  iprop(bigSep (Finset.Ico T.s.toNat T.e.toNat) (rowSt c T lo hi) ∗ bigSep (Finset.univ : Finset (Fin 16)) (cellSt c T lo hi))

theorem gatherAt_issue {lo hi : ℕ} (h1 : T.s.toNat ≤ lo) (h2 : lo ≤ hi) (h3 : hi < T.e.toNat) (h4 : hi < lo + 16) :
    gatherAt c T lo hi ⊢ iprop(RowAny c (at1 T.pos hi).toNat ∗ Idle c T.ft (slot16 hi)
      ∗ (RowFly c T.ft T.g (at1 T.pos hi).toNat (at1 T.loc hi).toNat (slot16 hi) -∗ gatherAt c T lo (hi + 1))) := by
  have e1 : rowSt c T lo hi hi = RowAny c (at1 T.pos hi).toNat := by
    unfold rowSt; rw [if_neg (by omega), if_neg (by omega)]
  have e2 : rowSt c T lo (hi + 1) hi = RowFly c T.ft T.g (at1 T.pos hi).toNat (at1 T.loc hi).toNat (slot16 hi) := by
    unfold rowSt; rw [if_neg (by omega), if_pos (by omega)]
  have e3 : cellSt c T lo hi (slot16 hi) = Idle c T.ft (slot16 hi) := by
    unfold cellSt; rw [if_neg]
    rintro ⟨q, a, b, d⟩
    have d : q % 16 = hi % 16 := d
    omega
  have e4 : cellSt c T lo (hi + 1) (slot16 hi) = iprop(emp) := by
    unfold cellSt; rw [if_pos ⟨hi, h2, by omega, rfl⟩]
  have t1 := bigSep_change (Φ := rowSt c T lo hi) (Ψ := rowSt c T lo (hi + 1)) (i := hi) (show hi ∈ Finset.Ico T.s.toNat T.e.toNat from Finset.mem_Ico.mpr ⟨by omega, h3⟩) (fun j _ hj => by
    unfold rowSt
    have : (j < hi + 1) ↔ (j < hi) := by omega
    simp only [this])
  have t2 := bigSep_change (Φ := cellSt c T lo hi) (Ψ := cellSt c T lo (hi + 1)) (i := slot16 hi) (Finset.mem_univ _) (fun r _ hr => by
    unfold cellSt
    have : (∃ q, lo ≤ q ∧ q < hi + 1 ∧ q % 16 = r.val) ↔ (∃ q, lo ≤ q ∧ q < hi ∧ q % 16 = r.val) := by
      constructor
      · rintro ⟨q, a, b, d⟩
        refine ⟨q, a, ?_, d⟩
        rcases Nat.lt_succ_iff_lt_or_eq.mp b with h | h
        · exact h
        · subst h; exact absurd (Fin.ext d.symm) hr
      · rintro ⟨q, a, b, d⟩; exact ⟨q, a, by omega, d⟩
    by_cases hq : ∃ q, lo ≤ q ∧ q < hi ∧ q % 16 = r.val
    · rw [if_pos hq, if_pos (this.mpr hq)]
    · rw [if_neg hq, if_neg (mt this.mp hq)])
  rw [e1, e2] at t1
  rw [e3, e4] at t2
  unfold gatherAt
  iintro ⟨Hr, Hc⟩
  ihave Hr := t1 $$ Hr
  ihave Hc := t2 $$ Hc
  icases Hr with ⟨Hr, Hrk⟩
  icases Hc with ⟨Hc, Hck⟩
  isplitl [Hr]; · iexact Hr
  isplitl [Hc]; · iexact Hc
  iintro Hf
  isplitl [Hf Hrk]
  · iapply Hrk; iexact Hf
  · iapply Hck; iempintro

theorem gatherAt_await {lo hi : ℕ} (h1 : T.s.toNat ≤ lo) (h2 : lo < hi) (h3 : hi ≤ T.e.toNat) (h4 : hi ≤ lo + 16) :
    gatherAt c T lo hi ⊢ iprop(RowFly c T.ft T.g (at1 T.pos lo).toNat (at1 T.loc lo).toNat (slot16 lo)
      ∗ (iprop(RowDone c T.g (at1 T.pos lo).toNat ∗ Idle c T.ft (slot16 lo)) -∗ gatherAt c T (lo + 1) hi)) := by
  have e1 : rowSt c T lo hi lo = RowFly c T.ft T.g (at1 T.pos lo).toNat (at1 T.loc lo).toNat (slot16 lo) := by
    unfold rowSt; rw [if_neg (by omega), if_pos (by omega)]
  have e2 : rowSt c T (lo + 1) hi lo = RowDone c T.g (at1 T.pos lo).toNat := by
    unfold rowSt; rw [if_pos (by omega)]
  have e4 : cellSt c T (lo + 1) hi (slot16 lo) = Idle c T.ft (slot16 lo) := by
    unfold cellSt; rw [if_neg]
    rintro ⟨q, a, b, d⟩
    have d : q % 16 = lo % 16 := d
    omega
  have e3 : cellSt c T lo hi (slot16 lo) = iprop(emp) := by
    unfold cellSt; rw [if_pos ⟨lo, le_refl _, h2, rfl⟩]
  have t1 := bigSep_change (Φ := rowSt c T lo hi) (Ψ := rowSt c T (lo + 1) hi) (i := lo) (show lo ∈ Finset.Ico T.s.toNat T.e.toNat from Finset.mem_Ico.mpr ⟨h1, by omega⟩) (fun j _ hj => by
    unfold rowSt
    have : (j < lo + 1) ↔ (j < lo) := by omega
    simp only [this])
  have t2 := bigSep_change (Φ := cellSt c T lo hi) (Ψ := cellSt c T (lo + 1) hi) (i := slot16 lo) (Finset.mem_univ _) (fun r _ hr => by
    unfold cellSt
    have : (∃ q, lo + 1 ≤ q ∧ q < hi ∧ q % 16 = r.val) ↔ (∃ q, lo ≤ q ∧ q < hi ∧ q % 16 = r.val) := by
      constructor
      · rintro ⟨q, a, b, d⟩; exact ⟨q, by omega, b, d⟩
      · rintro ⟨q, a, b, d⟩
        refine ⟨q, ?_, b, d⟩
        rcases Nat.eq_or_lt_of_le a with h | h
        · subst h; exact absurd (Fin.ext d.symm) hr
        · exact h
    by_cases hq : ∃ q, lo ≤ q ∧ q < hi ∧ q % 16 = r.val
    · rw [if_pos hq, if_pos (this.mpr hq)]
    · rw [if_neg hq, if_neg (mt this.mp hq)])
  rw [e1, e2] at t1
  rw [e3, e4] at t2
  unfold gatherAt
  iintro ⟨Hr, Hc⟩
  ihave Hr := t1 $$ Hr
  ihave Hc := t2 $$ Hc
  icases Hr with ⟨Hr, Hrk⟩
  icases Hc with ⟨Hc, Hck⟩
  isplitl [Hr]; · iexact Hr
  iintro ⟨Hd, Hi⟩
  isplitl [Hd Hrk]
  · iapply Hrk; iexact Hd
  · iapply Hck; iexact Hi

/-- Before any copy: the gather buffer at any contents, split into the stretch's rows and the rest, and the semaphores idle. -/
theorem gatherAt_start : iprop((∃ f : GatC F, gatLoc c ↦{fullShare} f) ∗ bigSep (Finset.univ : Finset (Fin 16)) (Idle c T.ft))
    ⊢ iprop(gatherAt c T T.s.toNat T.s.toNat
      ∗ ∃ f : GatC F, gatLoc c ↦[Finset.univ \ (Finset.Ico T.s.toNat T.e.toNat).biUnion fun j => rowOf (at1 T.pos j).toNat]{fullShare} f) := by
  unfold gatherAt
  iintro ⟨⟨%f, Hg⟩, Hc⟩
  ihave Hg := (pointsTo_split_subset (Finset.subset_univ ((Finset.Ico T.s.toNat T.e.toNat).biUnion fun j => rowOf (a := 2048) (b := 1024) (at1 T.pos j).toNat))).1 $$ Hg
  icases Hg with ⟨Hr, Hrest⟩
  isplitr [Hrest]
  · isplitl [Hr]
    · ihave Hr := (Entails.of_eq (pointsTo_biUnion (ℓ := gatLoc c) (q := fullShare) (f := f) (Finset.Ico T.s.toNat T.e.toNat) (fun j => rowOf (a := 2048) (b := 1024) (at1 T.pos j).toNat)
        fun j hj j' hj' hne => rowOf_disjoint fun h => hne (T.hinj j j' (Finset.mem_Ico.mp hj).1 (Finset.mem_Ico.mp hj).2
        (Finset.mem_Ico.mp hj').1 (Finset.mem_Ico.mp hj').2 h))) $$ Hr
      iapply (bigSep_each (S := Finset.Ico T.s.toNat T.e.toNat) (Φ := fun j => (gatLoc c ↦[rowOf (a := 2048) (b := 1024) (at1 T.pos j).toNat]{fullShare} f : sProp (MM F))) (Ψ := rowSt c T T.s.toNat T.s.toNat) fun j hj => ?_) $$ Hr
      have hj := Finset.mem_Ico.mp hj
      unfold rowSt
      rw [if_neg (by omega), if_neg (by omega)]
      unfold RowAny
      iintro H
      iexists f
      iexact H
    · iapply (bigSep_each (S := Finset.univ) (Φ := Idle c T.ft) (Ψ := cellSt c T T.s.toNat T.s.toNat) fun r _ => ?_) $$ Hc
      unfold cellSt
      rw [if_neg (by rintro ⟨q, a, b, -⟩; omega)]
  · iexists f; iexact Hrest

/-- After every copy: the gather buffer holds the rows asked for. -/
theorem gatherAt_end : iprop(gatherAt c T T.e.toNat T.e.toNat
      ∗ ∃ f : GatC F, gatLoc c ↦[Finset.univ \ (Finset.Ico T.s.toNat T.e.toNat).biUnion fun j => rowOf (at1 T.pos j).toNat]{fullShare} f)
    ⊢ iprop((∃ f : GatC F, ⌜∀ j, T.s.toNat ≤ j → j < T.e.toNat → ∀ i ∈ rowOf (a := 2048) (b := 1024) (at1 T.pos j).toNat, f i = T.g i⌝
        ∗ gatLoc c ↦{fullShare} f)
      ∗ bigSep (Finset.univ : Finset (Fin 16)) (Idle c T.ft)) := by
  unfold gatherAt
  iintro ⟨⟨Hr, Hc⟩, ⟨%f, Hrest⟩⟩
  isplitr [Hc]
  · ihave Hr := (bigSep_each (Ψ := fun j => (gatLoc c ↦[rowOf (a := 2048) (b := 1024) (at1 T.pos j).toNat]{fullShare} T.g : sProp (MM F))) fun j hj => by
      have hj := Finset.mem_Ico.mp hj
      unfold rowSt
      rw [if_pos (by omega)]
      unfold RowDone
      exact .rfl) $$ Hr
    ihave Hr := (Entails.of_eq (pointsTo_biUnion (ℓ := gatLoc c) (q := fullShare) (f := T.g) (Finset.Ico T.s.toNat T.e.toNat) (fun j => rowOf (a := 2048) (b := 1024) (at1 T.pos j).toNat)
        fun j hj j' hj' hne => rowOf_disjoint fun h => hne (T.hinj j j' (Finset.mem_Ico.mp hj).1 (Finset.mem_Ico.mp hj).2
        (Finset.mem_Ico.mp hj').1 (Finset.mem_Ico.mp hj').2 h)).symm) $$ Hr
    iexists ((Finset.Ico T.s.toNat T.e.toNat).biUnion fun j => rowOf (a := 2048) (b := 1024) (at1 T.pos j).toNat).piecewise T.g f
    isplitr
    · ipureintro
      intro j h1 h2 i hi
      exact Finset.piecewise_eq_of_mem _ _ _ (Finset.mem_biUnion.mpr ⟨j, Finset.mem_Ico.mpr ⟨h1, h2⟩, hi⟩)
    · iapply (pointsTo_join_subset (Finset.subset_univ _))
      isplitl [Hr]; · iexact Hr
      iexact Hrest
  · iapply (bigSep_each (S := Finset.univ) (Φ := cellSt c T T.e.toNat T.e.toNat) (Ψ := Idle c T.ft) fun r _ => ?_) $$ Hc
    unfold cellSt
    rw [if_neg (by rintro ⟨q, a, b, -⟩; omega)]

/-! ## The loops -/

/-- A program that only answers. -/
theorem wp_done {α : Type} {Qa : α → sProp (MM F)} (a : α) :
    Qa a ⊢ wp frame (wpE (defs₀ (F := F)) 𝒱₀ (c : Thread nD τ) none) Set.univ (pure a : Prog (TpuEff nD τ sig (Elt F) Λ₀ .tc) α) Qa := by
  show Qa a ⊢ wp frame (wpE (defs₀ (F := F)) 𝒱₀ (c : Thread nD τ) none) Set.univ (.ret a) Qa
  rw [wp_ret]
  exact fupd_intro

variable (O : CellTallies nD τ sig Unit)

/-- The device may wait at each semaphore of the row copies, whatever `O` it owes. -/
def gatherWaits : sProp (MM F) := iprop(∀ r : Fin 16, MayWait (c : Thread nD τ) (gcell r) () O)

instance gatherWaits_persistent : BI.Persistent (gatherWaits c O : sProp (MM F)) := by unfold gatherWaits; infer_instance

theorem gatherWaits_elim (r : Fin 16) : (gatherWaits c O : sProp (MM F)) ⊢ MayWait (c : Thread nD τ) (gcell r) () O := by
  unfold gatherWaits; exact BI.BIClass.forall_elim r

/-- What rides the loops beside the rows and semaphores. -/
def rides : sProp (MM F) :=
  iprop((posLoc c ↦{fullShare} T.pos) ∗ (locLoc c ↦{fullShare} T.loc) ∗ (∃ W, owes (c : Thread nD τ) O W) ∗ gatherWaits c O)

/-- The printed row loop's region at a trip, on the buffers the kernel is called with. -/
abbrev startBody (s e : BitVec 32) (hw : k0_chk1 s e) :=
  k0_t1_body (F := F) tabM (Memref.isWhole_whole _) posM (Memref.isWhole_whole _) locM (Memref.isWhole_whole _) bndM (Memref.isWhole_whole _)
    idxM (Memref.isWhole_whole _) outM (Memref.isWhole_whole _) gatM (Memref.isWhole_whole _) comM (Memref.isWhole_whole _) cc0_scratch2 cc0_scratch3 cc0_scratch4 s e hw
abbrev drainBody (s e : BitVec 32) (hw : k0_chk1 s e) :=
  k0_t3_body (F := F) tabM (Memref.isWhole_whole _) posM (Memref.isWhole_whole _) locM (Memref.isWhole_whole _) bndM (Memref.isWhole_whole _)
    idxM (Memref.isWhole_whole _) outM (Memref.isWhole_whole _) gatM (Memref.isWhole_whole _) comM (Memref.isWhole_whole _) cc0_scratch2 cc0_scratch3 cc0_scratch4 s e hw

theorem row_fits {n p : ℕ} (h : p < n) : ∀ a, (![p, 0] : Fin 2 → ℕ) a + S1x1024.size a ≤ (⟨2, ![n, 1024]⟩ : Shape).size a
  | ⟨0, _⟩ => by show p + 1 ≤ n; omega
  | ⟨1, _⟩ => by show 0 + 1024 ≤ 1024; omega

/-- Starting the copy of row `hi`: the region's last part, from the state it meets. -/
theorem issue_part {hi lo : ℕ} (h1 : T.s.toNat ≤ lo) (h2 : lo ≤ hi) (h3 : hi < T.e.toNat) (h4 : hi < lo + 16)
    {o7 o8 : Fin 1 → ℕ} (e7 : o7 = ![hi]) (e8 : o8 = ![hi % 16]) (i7 : ∀ a, o7 a + S1.size a ≤ S2048.size a) (i8 : ∀ a, o8 a + S1.size a ≤ S16.size a) :
    iprop(gatherAt c T lo hi ∗ rides c T O)
      ⊢ wp frame (wpE (defs₀ (F := F)) 𝒱₀ (c : Thread nD τ) none) Set.univ
        (do
          let v374 : Elt F .i32 ← smemLoad locM (Rect.unit (s := S2048) o7 S1.size i7) numel1_S1 rfl
          have k0_hw5 : k0_chk5 v374 := (← Prog.lift (TpuEff.assume (k0_chk5 v374) (k0_chk5.dec v374))).down
          let v376 : Elt F .i32 ← smemLoad posM (Rect.unit (s := S2048) o7 S1.size i7) numel1_S1 rfl
          have k0_hw4 : k0_chk4 v376 := (← Prog.lift (TpuEff.assume (k0_chk4 v376) (k0_chk4.dec v376))).down
          Prog.lift (.enqueueDma (tabM.slice (Rect.unit (s := S8192x1024) (k0_off10 v374) S1x1024.size (k0_off10_inb v374 k0_hw5)) (fun _ => rfl))
            (.here (gatM.slice (Rect.unit (s := S2048x1024) (k0_off9 v376) S1x1024.size (k0_off9_inb v376 k0_hw4)) (fun _ => rfl)))
            (.dma ((cc0_scratch2.slice (Rect.unit (s := S16) o8 S1.size i8)).squeeze S_ squeezes_S1_S_).sem)
            (View.wordExact_bits rfl) (View.wordExact_bits rfl) ⟨Or.inl rfl, trivial⟩)
          pure (0#32 : BitVec 32))
        fun _ => iprop(gatherAt c T lo (hi + 1) ∗ rides c T O) := by
  have hj : hi < 2048 := by have := T.he; omega
  have hs : T.s.toNat ≤ hi := by omega
  unfold rides
  simp only [lift_then]
  iintro ⟨HG, Hpos, Hloc, HO, HM⟩
  ihave HG := (gatherAt_issue c T h1 h2 h3 h4) $$ HG
  icases HG with ⟨Hr, Hi, HGk⟩
  iapply (wp_loc c hj e7 i7 T.loc) $$ Hloc
  iintro Hloc
  iapply (wp_assume 𝒱₀ (c : Thread nD τ) none Set.univ (row_fits (T.hloc hi hs h3)))
  iapply (wp_pos c hj e7 i7 T.pos) $$ Hpos
  iintro Hpos
  iapply (wp_assume 𝒱₀ (c : Thread nD τ) none Set.univ (row_fits (T.hpos hi hs h3)))
  iapply (wp_issue c (p := (at1 T.pos hi).toNat) (l := (at1 T.loc hi).toNat) (r := slot16 hi) rfl rfl e8 _ _ i8 T.ft T.g (T.hloc hi hs h3) (T.hg hi hs h3)) $$ [Hr Hi]
  · isplitl [Hr]; · iexact Hr
    iexact Hi
  iintro Hf
  iapply (wp_done c (0#32 : BitVec 32))
  isplitl [Hf HGk]; · iapply HGk; iexact Hf
  isplitl [Hpos]; · iexact Hpos
  isplitl [Hloc]; · iexact Hloc
  isplitl [HO]; · iexact HO
  iexact HM

/-- Waiting for the copy of row `lo`, and then the rest. -/
theorem await_part {α : Type} {Qa : α → sProp (MM F)} {lo hi : ℕ} (h1 : T.s.toNat ≤ lo) (h2 : lo < hi) (h3 : hi ≤ T.e.toNat) (h4 : hi ≤ lo + 16)
    {offs offd : Fin 2 → ℕ} {offc : Fin 1 → ℕ} (hc : offc = ![(slot16 lo).val])
    (is : ∀ a, offs a + S1x1024.size a ≤ S8192x1024.size a) (id : ∀ a, offd a + S1x1024.size a ≤ S2048x1024.size a)
    (ic : ∀ a, offc a + S1.size a ≤ S16.size a) {w1 w2} {k : PUnit → Prog (TpuEff nD τ sig (Elt F) Λ₀ .tc) α} :
    iprop(gatherAt c T lo hi ∗ rides c T O)
      ⊢ iprop((iprop(gatherAt c T (lo + 1) hi ∗ rides c T O) -∗ wp frame (wpE (defs₀ (F := F)) 𝒱₀ (c : Thread nD τ) none) Set.univ (k ⟨⟩) Qa)
        -∗ wp frame (wpE (defs₀ (F := F)) 𝒱₀ (c : Thread nD τ) none) Set.univ
          (.op (.waitDma2 (((cc0_scratch2.slice (Rect.unit (s := S16) offc S1.size ic)).squeeze S_ squeezes_S1_S_).sem)
            (tabM.slice (Rect.unit (s := S8192x1024) offs S1x1024.size is) (fun _ => rfl))
            (gatM.slice (Rect.unit (s := S2048x1024) offd S1x1024.size id) (fun _ => rfl)) w1 w2) k) Qa) := by
  unfold rides
  iintro ⟨HG, Hpos, Hloc, ⟨%W, HO⟩, #HM⟩ Hk
  ihave HG := (gatherAt_await c T h1 h2 h3 h4) $$ HG
  icases HG with ⟨Hf, HGk⟩
  iapply (wp_await c hc is id ic T.ft T.g) $$ [Hf HO]
  · isplitl [Hf]; · iexact Hf
    isplitl [HO]; · iexact HO
    iapply (gatherWaits_elim c O (slot16 lo)); iexact HM
  iintro ⟨Hd, Hi, HO⟩
  iapply Hk
  isplitl [Hd Hi HGk]
  · iapply HGk
    isplitl [Hd]; · iexact Hd
    iexact Hi
  isplitl [Hpos]; · iexact Hpos
  isplitl [Hloc]; · iexact Hloc
  isplitl [HO]; · iexists _; iexact HO
  iexact HM

theorem wp_pos_rides {α : Type} {Qa : α → sProp (MM F)} {lo hi : ℕ} {off : Fin 1 → ℕ} {j : ℕ} (hj : j < 2048) (ho : off = ![j]) (inb : ∀ a, off a + S1.size a ≤ S2048.size a)
    {h1 : (Rect.unit (s := S2048) off S1.size inb).shape.numel = 1} {hp : EltTy.i32.packing = 1}
    {k : Elt F .i32 → Prog (TpuEff nD τ sig (Elt F) Λ₀ .tc) α} :
    iprop(gatherAt c T lo hi ∗ rides c T O)
      ⊢ iprop((iprop(gatherAt c T lo hi ∗ rides c T O) -∗ wp frame (wpE (defs₀ (F := F)) 𝒱₀ (c : Thread nD τ) none) Set.univ (k (at1 T.pos j)) Qa)
        -∗ wp frame (wpE (defs₀ (F := F)) 𝒱₀ (c : Thread nD τ) none) Set.univ (smemLoad posM (Rect.unit (s := S2048) off S1.size inb) h1 hp >>= k) Qa) := by
  unfold rides
  iintro ⟨HG, Hpos, Hr⟩ Hk
  iapply (wp_pos c hj ho inb T.pos) $$ Hpos
  iintro Hpos
  iapply Hk
  isplitl [HG]; · iexact HG
  isplitl [Hpos]; · iexact Hpos
  iexact Hr

theorem wp_loc_rides {α : Type} {Qa : α → sProp (MM F)} {lo hi : ℕ} {off : Fin 1 → ℕ} {j : ℕ} (hj : j < 2048) (ho : off = ![j]) (inb : ∀ a, off a + S1.size a ≤ S2048.size a)
    {h1 : (Rect.unit (s := S2048) off S1.size inb).shape.numel = 1} {hp : EltTy.i32.packing = 1}
    {k : Elt F .i32 → Prog (TpuEff nD τ sig (Elt F) Λ₀ .tc) α} :
    iprop(gatherAt c T lo hi ∗ rides c T O)
      ⊢ iprop((iprop(gatherAt c T lo hi ∗ rides c T O) -∗ wp frame (wpE (defs₀ (F := F)) 𝒱₀ (c : Thread nD τ) none) Set.univ (k (at1 T.loc j)) Qa)
        -∗ wp frame (wpE (defs₀ (F := F)) 𝒱₀ (c : Thread nD τ) none) Set.univ (smemLoad locM (Rect.unit (s := S2048) off S1.size inb) h1 hp >>= k) Qa) := by
  unfold rides
  iintro ⟨HG, Hpos, Hloc, Hr⟩ Hk
  iapply (wp_loc c hj ho inb T.loc) $$ Hloc
  iintro Hloc
  iapply Hk
  isplitl [HG]; · iexact HG
  isplitl [Hpos]; · iexact Hpos
  isplitl [Hloc]; · iexact Hloc
  iexact Hr

theorem start_trip (hw : k0_chk1 T.s T.e) (k : Fin (k0_t1_loop T.s T.e).trips) (acc : BitVec 32) :
    iprop(gatherAt c T (T.s.toNat + (k.val - 16)) (T.s.toNat + k.val) ∗ rides c T O)
      ⊢ wp frame (wpE (defs₀ (F := F)) 𝒱₀ (c : Thread nD τ) none) Set.univ (startBody T.s T.e hw k acc)
        fun _ => iprop(gatherAt c T (T.s.toNat + (k.val + 1 - 16)) (T.s.toNat + (k.val + 1)) ∗ rides c T O) := by
  have hk := t1_lt T.hs T.he k
  have he := T.he
  by_cases h16 : 16 ≤ k.val
  · have hcond := (cond1_iff T.hs T.he k).mpr h16
    have hlo : T.s.toNat + (k.val - 16) = T.s.toNat + k.val - 16 := by omega
    simp only [startBody, k0_t1_body, dif_pos hcond]
    iintro H
    iapply (wp_loc_rides c T O (h1 := numel1_S1) (hp := rfl) (j := T.s.toNat + (k.val - 16)) (by omega) ((off3_eq T.hs T.he k h16).trans (by rw [hlo])) _) $$ H
    iintro H
    iapply (wp_assume 𝒱₀ (c : Thread nD τ) none Set.univ (fun _ => row_fits (T.hloc _ (by omega) (by omega))))
    iapply (wp_pos_rides c T O (h1 := numel1_S1) (hp := rfl) (j := T.s.toNat + (k.val - 16)) (by omega) ((off3_eq T.hs T.he k h16).trans (by rw [hlo])) _) $$ H
    iintro H
    iapply (wp_assume 𝒱₀ (c : Thread nD τ) none Set.univ (fun _ => row_fits (T.hpos _ (by omega) (by omega))))
    iapply (await_part c T O (lo := T.s.toNat + (k.val - 16)) (hi := T.s.toNat + k.val) (by omega) (by omega) (by omega) (by omega)
      ((off4_eq T.hs T.he k h16).trans (by rw [← hlo]; rfl)) _ _ _) $$ H
    rw [show T.s.toNat + (k.val - 16) + 1 = T.s.toNat + (k.val + 1 - 16) by omega]
    iintro H
    iapply (issue_part c T O (hi := T.s.toNat + k.val) (lo := T.s.toNat + (k.val + 1 - 16)) (by omega) (by omega) (by omega) (by omega)
      (off7_eq T.hs T.he k) (off8_eq T.hs T.he k) _ _) $$ H
  · have hcond := mt (cond1_iff T.hs T.he k).mp h16
    simp only [startBody, k0_t1_body, dif_neg hcond]
    rw [show T.s.toNat + (k.val - 16) = T.s.toNat + (k.val + 1 - 16) by omega]
    exact issue_part c T O (hi := T.s.toNat + k.val) (lo := T.s.toNat + (k.val + 1 - 16)) (by omega) (by omega) (by omega) (by omega)
      (off7_eq T.hs T.he k) (off8_eq T.hs T.he k) _ _

theorem drain_trip (hw : k0_chk1 T.s T.e) (k : Fin (k0_t3_loop T.s T.e).trips) (acc : BitVec 32) :
    iprop(gatherAt c T (max (T.e.toNat - 16) T.s.toNat + k.val) T.e.toNat ∗ rides c T O)
      ⊢ wp frame (wpE (defs₀ (F := F)) 𝒱₀ (c : Thread nD τ) none) Set.univ (drainBody T.s T.e hw k acc)
        fun _ => iprop(gatherAt c T (max (T.e.toNat - 16) T.s.toNat + (k.val + 1)) T.e.toNat ∗ rides c T O) := by
  have hk := t3_lt T.hs T.he k
  have he := T.he
  simp only [drainBody, k0_t3_body]
  iintro H
  iapply (wp_loc_rides c T O (h1 := numel1_S1) (hp := rfl) (j := max (T.e.toNat - 16) T.s.toNat + k.val) (by omega) (off19_eq T.hs T.he k) _) $$ H
  iintro H
  iapply (wp_assume 𝒱₀ (c : Thread nD τ) none Set.univ (row_fits (T.hloc _ (by omega) (by omega))))
  iapply (wp_pos_rides c T O (h1 := numel1_S1) (hp := rfl) (j := max (T.e.toNat - 16) T.s.toNat + k.val) (by omega) (off19_eq T.hs T.he k) _) $$ H
  iintro H
  iapply (wp_assume 𝒱₀ (c : Thread nD τ) none Set.univ (row_fits (T.hpos _ (by omega) (by omega))))
  iapply (await_part c T O (lo := max (T.e.toNat - 16) T.s.toNat + k.val) (hi := T.e.toNat) (by omega) (by omega) (by omega) (by omega)
    (off20_eq T.hs T.he k) _ _ _) $$ H
  iintro H
  iapply (wp_done c (0#32 : BitVec 32))
  iexact H

/-- The two loops that start the copies (the second is the remainder of an unrolling by one, and never runs). -/
theorem start_loops {α : Type} {Qa : α → sProp (MM F)} (hw : k0_chk1 T.s T.e) {ini : BitVec 32} {b2} {kk : BitVec 32 → Prog (TpuEff nD τ sig (Elt F) Λ₀ .tc) α} :
    iprop(gatherAt c T T.s.toNat T.s.toNat ∗ rides c T O)
      ⊢ iprop((∀ acc, iprop(gatherAt c T (max (T.e.toNat - 16) T.s.toNat) T.e.toNat ∗ rides c T O)
          -∗ wp frame (wpE (defs₀ (F := F)) 𝒱₀ (c : Thread nD τ) none) Set.univ (kk acc) Qa)
        -∗ wp frame (wpE (defs₀ (F := F)) 𝒱₀ (c : Thread nD τ) none) Set.univ
          (Scf.Loop.for (k0_t1_loop T.s T.e) (k0_t1_ok T.s T.e hw) ini (startBody T.s T.e hw) >>= fun v19 =>
            Scf.Loop.for (k0_t2_loop T.s T.e) (k0_t2_ok T.s T.e hw) v19 b2 >>= kk) Qa) := by
  have hs := T.hs
  have he := T.he
  have h0 := Scf.wp_for_bind frame (wpE (defs₀ (F := F)) 𝒱₀ (c : Thread nD τ) none) Set.univ (k0_t1_loop T.s T.e).lb (k0_t1_loop T.s T.e).ub (k0_t1_loop T.s T.e).st
    (k0_t1_ok T.s T.e hw) ini (startBody T.s T.e hw)
    (fun k _ => iprop(gatherAt c T (T.s.toNat + (k - 16)) (T.s.toNat + k) ∗ rides c T O)) (start_trip c T O hw)
    (kk := fun v19 => Scf.Loop.for (k0_t2_loop T.s T.e) (k0_t2_ok T.s T.e hw) v19 b2 >>= kk) (Q := Qa)
  refine h0.trans ?_
  iintro H Hk
  iapply H
  iintro %acc
  have ht : Scf.trips (k0_t1_loop T.s T.e).lb (k0_t1_loop T.s T.e).ub (k0_t1_loop T.s T.e).st = T.e.toNat - T.s.toNat := t1_trips hs he
  rw [ht, show T.s.toNat + (T.e.toNat - T.s.toNat - 16) = max (T.e.toNat - 16) T.s.toNat by omega, show T.s.toNat + (T.e.toNat - T.s.toNat) = T.e.toNat by omega]
  have h2 : (Scf.Loop.for (k0_t2_loop T.s T.e) (k0_t2_ok T.s T.e hw) acc b2 >>= kk) = kk acc := by
    show (Scf.for _ _ _ _ _ _ >>= kk) = _
    rw [Scf.for_rem_eq]
    rfl
  rw [h2]
  iintro HG
  iapply Hk
  iexact HG

/-- The two loops that wait for the last copies. -/
theorem drain_loops {α : Type} {Qa : α → sProp (MM F)} (hw : k0_chk1 T.s T.e) {ini : BitVec 32} {b2} {kk : BitVec 32 → Prog (TpuEff nD τ sig (Elt F) Λ₀ .tc) α} :
    iprop(gatherAt c T (max (T.e.toNat - 16) T.s.toNat) T.e.toNat ∗ rides c T O)
      ⊢ iprop((∀ acc, iprop(gatherAt c T T.e.toNat T.e.toNat ∗ rides c T O)
          -∗ wp frame (wpE (defs₀ (F := F)) 𝒱₀ (c : Thread nD τ) none) Set.univ (kk acc) Qa)
        -∗ wp frame (wpE (defs₀ (F := F)) 𝒱₀ (c : Thread nD τ) none) Set.univ
          (Scf.Loop.for (k0_t3_loop T.s T.e) (k0_t3_ok T.s T.e hw) ini (drainBody T.s T.e hw) >>= fun v28 =>
            Scf.Loop.for (k0_t4_loop T.s T.e) (k0_t4_ok T.s T.e hw) v28 b2 >>= kk) Qa) := by
  have hs := T.hs
  have he := T.he
  have h0 := Scf.wp_for_bind frame (wpE (defs₀ (F := F)) 𝒱₀ (c : Thread nD τ) none) Set.univ (k0_t3_loop T.s T.e).lb (k0_t3_loop T.s T.e).ub (k0_t3_loop T.s T.e).st
    (k0_t3_ok T.s T.e hw) ini (drainBody T.s T.e hw)
    (fun k _ => iprop(gatherAt c T (max (T.e.toNat - 16) T.s.toNat + k) T.e.toNat ∗ rides c T O)) (drain_trip c T O hw)
    (kk := fun v28 => Scf.Loop.for (k0_t4_loop T.s T.e) (k0_t4_ok T.s T.e hw) v28 b2 >>= kk) (Q := Qa)
  refine h0.trans ?_
  iintro H Hk
  iapply H
  iintro %acc
  have ht : Scf.trips (k0_t3_loop T.s T.e).lb (k0_t3_loop T.s T.e).ub (k0_t3_loop T.s T.e).st = T.e.toNat - max (T.e.toNat - 16) T.s.toNat := t3_trips hs he
  rw [ht, show max (T.e.toNat - 16) T.s.toNat + (T.e.toNat - max (T.e.toNat - 16) T.s.toNat) = T.e.toNat by omega]
  have h2 : (Scf.Loop.for (k0_t4_loop T.s T.e) (k0_t4_ok T.s T.e hw) acc b2 >>= kk) = kk acc := by
    show (Scf.for _ _ _ _ _ _ >>= kk) = _
    rw [Scf.for_rem_eq]
    rfl
  rw [h2]
  iintro HG
  iapply Hk
  iexact HG

/-! ## The other chunks' loops are the first's -/

theorem chk14_eq (s e : BitVec 32) : k0_chk14 s e = k0_chk1 s e := rfl
theorem chk27_eq (s e : BitVec 32) : k0_chk27 s e = k0_chk1 s e := rfl
theorem chk40_eq (s e : BitVec 32) : k0_chk40 s e = k0_chk1 s e := rfl

theorem start14 (d0 : Dev nD) (v8 v63 : BitVec 32) (s e : BitVec 32) (hw : k0_chk14 s e) :
    k0_t5_body (F := F) tabM (Memref.isWhole_whole _) posM (Memref.isWhole_whole _) locM (Memref.isWhole_whole _) bndM (Memref.isWhole_whole _)
      idxM (Memref.isWhole_whole _) outM (Memref.isWhole_whole _) gatM (Memref.isWhole_whole _) comM (Memref.isWhole_whole _) cc0_scratch2 cc0_scratch3 cc0_scratch4 d0 v8 v63 s e hw
      = startBody s e hw := rfl

end Cert.Proof.Lookup
-- ==== Proof.Ring.lean ====
/-
  The schedule of the ring. Every device has one barrier cell, six send cells and six receive cells. Chunk `j` of the result
  travels from device `j` around to device `j + 3`, gathering each device's rows on the way; then the finished chunk travels
  on around the ring until every device holds it. A receive cell's payload carries, beside the chunk that landed, the right
  to write that chunk on the devices further on, so no device writes a chunk another one still reads.
-/
module

public import proofs.«01_k».proof.Proof.Views
public import proofs.«01_k».proof.Proof.Gather

@[expose] public section

noncomputable section

namespace Cert.Proof.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Cells -/

abbrev barS : Sem sig := sig.barrier 0 rfl
abbrev sendS (k : Fin 6) : DmaSem sig := ⟨21 + k.val, by have := k.isLt; show 21 + k.val < 33; omega⟩
abbrev recvS (k : Fin 6) : DmaSem sig := ⟨27 + k.val, by have := k.isLt; show 27 + k.val < 33; omega⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- What a semaphore is to the ring. -/
inductive Role where
  | bar
  | send (k : Fin 6)
  | recv (k : Fin 6)
  | other
  deriving DecidableEq

def role : SemLoc sig → Role
  | .reg s => if s = barS then .bar else .other
  | .dma s =>
    if h : 21 ≤ s.val ∧ s.val < 27 then .send ⟨s.val - 21, by omega⟩
    else if h : 27 ≤ s.val ∧ s.val < 33 then .recv ⟨s.val - 27, by omega⟩
    else .other

theorem role_bar : role (.reg barS) = .bar := by decide
theorem role_send (k : Fin 6) : role (.dma (sendS k)) = .send k := by revert k; decide
theorem role_recv (k : Fin 6) : role (.dma (recvS k)) = .recv k := by revert k; decide
theorem role_gather (r : Fin 16) : role (gcell r) = .other := by revert r; decide

/-! ## What the chunks hold along the way -/

section Values

variable (own : Dev nD → Dev nD → ChunkC F)

/-- What device `c` sends at the first, second, third step, and holds after the third. -/
def part0 (c : Dev nD) : ChunkC F := own c c
def part1 (c : Dev nD) : ChunkC F := k0_pay5 (own c (c + 3)) (lead (part0 own (c + 3)))
def part2 (c : Dev nD) : ChunkC F := k0_pay5 (own c (c + 2)) (lead (part1 own (c + 3)))
def part3 (c : Dev nD) : ChunkC F := k0_pay5 (own c (c + 1)) (lead (part2 own (c + 3)))
/-- The finished chunk `j`. -/
def total (j : Dev nD) : ChunkC F := part3 own (j + 3)

end Values

/-! ## Holdings -/

abbrev outLoc (x : Dev nD) : Loc nD τ sig := outM.view.loc (x : Thread nD τ)
abbrev comLoc (x : Dev nD) : Loc nD τ sig := comM.view.loc (x : Thread nD τ)

/-- Chunk `j` of device `x`'s result: at some contents, at these. -/
def OutAny (x j : Dev nD) : sProp (MM F) := iprop(∃ f : OutC F, outLoc x ↦[chunkOf j.val]{fullShare} f)
def OutAt (x j : Dev nD) (v : ChunkC F) : sProp (MM F) := iprop(outLoc x ↦[chunkOf j.val]{fullShare} (spread v : OutC F))
/-- Slot `s` of device `x`'s landing buffer: at some contents, at these. -/
def ComAny (x : Dev nD) (s : ℕ) : sProp (MM F) := iprop(∃ f : ComC F, comLoc x ↦[slotOf s]{fullShare} f)
def ComAt (x : Dev nD) (s : ℕ) (v : ChunkC F) : sProp (MM F) := iprop(comLoc x ↦[slotOf s]{fullShare} (spreadC v : ComC F))

theorem OutAt_any (x j : Dev nD) (v : ChunkC F) : OutAt x j v ⊢ OutAny x j := by
  unfold OutAt OutAny; iintro H; iexists _; iexact H
theorem ComAt_any (x : Dev nD) (s : ℕ) (v : ChunkC F) : ComAt x s v ⊢ ComAny x s := by
  unfold ComAt ComAny; iintro H; iexists _; iexact H

/-! ## The schedule -/

section Schedule

variable (own : Dev nD → Dev nD → ChunkC F)

/-- Paid by the right-hand device with its signal: its landing slots, and that its receive cells are at their first round. -/
def barPay (c : Dev nD) : sProp (MM F) :=
  iprop((ComAny (c + 1) 0 ∗ ComAny (c + 1) 1 ∗ ComAny (c + 1) 2) ∗ bigSep Finset.univ fun k : Fin 6 => reached ER (recvCell (c + 1) k) 0)

/-- Paid to device `x`'s receive cell `k`: the chunk that landed, and the rights to write it further on. -/
def recvPay (x : Dev nD) : Fin 6 → sProp (MM F)
  | 0 => iprop(ComAt x 0 (part0 own (x + 3)) ∗ OutAny (x + 3) (x + 3))
  | 1 => iprop(ComAt x 1 (part1 own (x + 3)) ∗ OutAny (x + 3) (x + 2) ∗ OutAny (x + 2) (x + 2))
  | 2 => iprop(ComAt x 2 (part2 own (x + 3)) ∗ OutAny (x + 3) (x + 1) ∗ OutAny (x + 2) (x + 1) ∗ OutAny (x + 1) (x + 1))
  | 3 => iprop(OutAt x x (total own x) ∗ OutAny (x + 2) x ∗ OutAny (x + 1) x)
  | 4 => iprop(OutAt x (x + 3) (total own (x + 3)) ∗ OutAny (x + 1) (x + 3))
  | 5 => OutAt x (x + 2) (total own (x + 2))

/-- Given back at device `c`'s send cell `k`: in the first phase nothing (the chunk went with the copy), in the second the chunk. -/
def sendPay (c : Dev nD) : Fin 6 → sProp (MM F)
  | 0 => iprop(emp)
  | 1 => iprop(emp)
  | 2 => iprop(emp)
  | 3 => OutAt c (c + 1) (total own (c + 1))
  | 4 => OutAt c c (total own c)
  | 5 => OutAt c (c + 3) (total own (c + 3))

def rolePay (c : Dev nD) (d : Bool) : Role → sProp (MM F)
  | .bar => if d then iprop(emp) else barPay c
  | .send k => sendPay own c k
  | .recv k => recvPay own c k
  | .other => iprop(emp)

def roleDuties : Role → Finset Bool
  | .bar => {false, true}
  | .send _ => {false}
  | .recv _ => {false}
  | .other => ∅

/-- One round on every cell of the ring; the barrier's has two duties, one for each neighbour. -/
def ringRd : Rounds.Schedule (GSem nD τ sig) Bool (MM F) where
  duties g r := if r = 0 ∧ g.1.2 = .tc then roleDuties (role g.2) else ∅
  unitless _ := False
  amount g _ _ := if role g.2 = .bar then 1 else chunkN
  payload g _ d := rolePay own g.1.1 d (role g.2)
  amount_pos g _ _ _ := by
    by_cases h : role g.2 = .bar
    · rw [if_pos h]; exact Nat.one_pos
    · rw [if_neg h]; exact chunkN_pos

instance OutAny_storable (x j : Dev nD) : BI.Storable (upEmb : UEmb _ (MM F)) (OutAny (F := F) x j) := by unfold OutAny; infer_instance
instance OutAt_storable (x j : Dev nD) (v : ChunkC F) : BI.Storable (upEmb : UEmb _ (MM F)) (OutAt x j v) := by unfold OutAt; infer_instance
instance ComAny_storable (x : Dev nD) (s : ℕ) : BI.Storable (upEmb : UEmb _ (MM F)) (ComAny (F := F) x s) := by unfold ComAny; infer_instance
instance ComAt_storable (x : Dev nD) (s : ℕ) (v : ChunkC F) : BI.Storable (upEmb : UEmb _ (MM F)) (ComAt x s v) := by unfold ComAt; infer_instance
instance barPay_storable (c : Dev nD) : BI.Storable (upEmb : UEmb _ (MM F)) (barPay (F := F) c) := by unfold barPay; infer_instance
instance recvPay_storable (x : Dev nD) (k : Fin 6) : BI.Storable (upEmb : UEmb _ (MM F)) (recvPay own x k) := by
  fin_cases k <;> (dsimp only [recvPay]; infer_instance)
instance sendPay_storable (x : Dev nD) (k : Fin 6) : BI.Storable (upEmb : UEmb _ (MM F)) (sendPay own x k) := by
  fin_cases k <;> (dsimp only [sendPay]; infer_instance)
instance ringRd_payload_storable (g : GSem nD τ sig) (r : ℕ) (d : Bool) : BI.Storable (upEmb : UEmb _ (MM F)) ((ringRd own).payload g r d) := by
  show BI.Storable upEmb (rolePay own g.1.1 d (role g.2))
  cases role g.2 <;> dsimp only [rolePay] <;> (try split) <;> infer_instance

variable (c : Dev nD) (k : Fin 6)

theorem duties_bar : (ringRd own).duties (barCell c) 0 = {false, true} := by
  dsimp only [ringRd]; rw [if_pos ⟨rfl, rfl⟩, role_bar]; rfl
theorem duties_send : (ringRd own).duties (sendCell c k) 0 = {false} := by
  dsimp only [ringRd]; rw [if_pos ⟨rfl, rfl⟩, role_send]; rfl
theorem duties_recv : (ringRd own).duties (recvCell c k) 0 = {false} := by
  dsimp only [ringRd]; rw [if_pos ⟨rfl, rfl⟩, role_recv]; rfl
theorem duties_later (g : GSem nD τ sig) : ∀ r, 1 ≤ r → (ringRd own).duties g r = ∅ :=
  fun r hr => by dsimp only [ringRd]; rw [if_neg (fun h => by omega)]

theorem amount_bar (d : Bool) : (ringRd own).amount (barCell c) 0 d = 1 := by dsimp only [ringRd]; rw [role_bar]; rfl
theorem amount_send (d : Bool) : (ringRd own).amount (sendCell c k) 0 d = chunkN := by dsimp only [ringRd]; rw [role_send]; rfl
theorem amount_recv (d : Bool) : (ringRd own).amount (recvCell c k) 0 d = chunkN := by dsimp only [ringRd]; rw [role_recv]; rfl

theorem expect_bar : (ringRd own).expect (barCell c) 0 = 2 := by
  unfold Schedule.expect Schedule.amountOf
  rw [duties_bar, Finset.sum_pair (by decide), amount_bar, amount_bar]
theorem expect_send : (ringRd own).expect (sendCell c k) 0 = chunkN := by
  unfold Schedule.expect Schedule.amountOf; rw [duties_send, Finset.sum_singleton, amount_send]
theorem expect_recv : (ringRd own).expect (recvCell c k) 0 = chunkN := by
  unfold Schedule.expect Schedule.amountOf; rw [duties_recv, Finset.sum_singleton, amount_recv]

theorem payload_bar (d : Bool) : (ringRd own).payload (barCell c) 0 d = if d then iprop(emp) else barPay c := by
  dsimp only [ringRd]; rw [role_bar]; rfl
theorem payload_send (d : Bool) : (ringRd own).payload (sendCell c k) 0 d = sendPay own c k := by dsimp only [ringRd]; rw [role_send]; rfl
theorem payload_recv (d : Bool) : (ringRd own).payload (recvCell c k) 0 d = recvPay own c k := by dsimp only [ringRd]; rw [role_recv]; rfl

theorem rest_bar : bigSep ((ringRd own).duties (barCell c) 0 \ ∅) (fun u => (ringRd own).payload (barCell c) 0 u) = iprop(barPay c ∗ emp) := by
  rw [Finset.sdiff_empty, duties_bar, bigSep_insert (by decide), bigSep_singleton, payload_bar, payload_bar]; rfl
theorem rest_send : bigSep ((ringRd own).duties (sendCell c k) 0 \ ∅) (fun u => (ringRd own).payload (sendCell c k) 0 u) = sendPay own c k := by
  rw [Finset.sdiff_empty, duties_send, bigSep_singleton, payload_send]
theorem rest_recv : bigSep ((ringRd own).duties (recvCell c k) 0 \ ∅) (fun u => (ringRd own).payload (recvCell c k) 0 u) = recvPay own c k := by
  rw [Finset.sdiff_empty, duties_recv, bigSep_singleton, payload_recv]

end Schedule

/-! ## What a device owes, and the levels -/

/-- The receive credits of the right-hand device from the `k`-th on: this device's copies pay them. -/
def owedFrom (c : Dev nD) (k : ℕ) : CellTallies nD τ sig Unit :=
  ∑ j ∈ Finset.univ.filter (fun j : Fin 6 => k ≤ j.val), tallyAt (recvCell (c + 1) j) () chunkN

theorem owedFrom_step (c : Dev nD) (k : Fin 6) : owedFrom c k.val = owedFrom c (k.val + 1) + tallyAt (recvCell (c + 1) k) () chunkN := by
  unfold owedFrom
  rw [show (Finset.univ.filter fun j : Fin 6 => k.val ≤ j.val) = insert k (Finset.univ.filter fun j : Fin 6 => k.val + 1 ≤ j.val) from by
      revert k; decide,
    Finset.sum_insert (by revert k; decide), add_comm]
theorem owedFrom_end (c : Dev nD) : owedFrom c 6 = 0 := by
  unfold owedFrom; rw [show (Finset.univ.filter fun j : Fin 6 => 6 ≤ j.val) = ∅ from by decide, Finset.sum_empty]

/-- Those, and one unit at each neighbour's barrier. -/
def O₀ (c : Dev nD) : CellTallies nD τ sig Unit := owedFrom c 0 + tallyAt (barCell (c + 1)) () 1 + tallyAt (barCell (c + 3)) () 1

def L (g : GSem nD τ sig) : Finset Unit := if g.1.2 = .tc then {()} else ∅
def lvRole : Role → ℕ
  | .bar => 1
  | .recv k => k.val + 2
  | _ => 0
/-- Barrier cells at 1, receive cell `k` at `k + 2`, all else at 0. -/
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem owedFrom_pos {c : Dev nD} {k : ℕ} {g : GSem nD τ sig} {u : Unit} (h : 0 < owedFrom c k g u) :
    ∃ j : Fin 6, k ≤ j.val ∧ g = recvCell (c + 1) j := by
  unfold owedFrom at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tallyAt_pos (Nat.pos_iff_ne_zero.mpr hp)⟩

theorem O₀_pos {c : Dev nD} {g : GSem nD τ sig} {u : Unit} (h : 0 < O₀ c g u) :
    (∃ j : Fin 6, g = recvCell (c + 1) j) ∨ g = barCell (c + 1) ∨ g = barCell (c + 3) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, -, hj⟩ := owedFrom_pos h; exact .inl ⟨j, hj⟩
    · exact .inr (.inl (tallyAt_pos h))
  · exact .inr (.inr (tallyAt_pos h))

theorem O₀_cut {c : Dev nD} {g : GSem nD τ sig} {u : Unit} (h : 0 < O₀ c g u) : u ∈ L g ∧ 0 < lv g u := by
  rcases O₀_pos h with ⟨j, rfl⟩ | rfl | rfl
  · exact ⟨by rw [L_tc]; exact Finset.mem_singleton_self _, by dsimp only [lv]; rw [role_recv]; exact Nat.succ_pos _⟩
  · exact ⟨by rw [L_tc]; exact Finset.mem_singleton_self _, by dsimp only [lv]; rw [role_bar]; decide⟩
  · exact ⟨by rw [L_tc]; exact Finset.mem_singleton_self _, by dsimp only [lv]; rw [role_bar]; decide⟩

/-- A device may wait at a cell whose level is below all it owes. -/
theorem mayWait_of (c : Dev nD) (sm : SemLoc sig) (O : CellTallies nD τ sig Unit)
    (h : ∀ (g : GSem nD τ sig) (u : Unit), 0 < O g u → u ∈ L g ∧ lvRole (role sm) < lv g u) :
    (levAts L lv : sProp (MM F)) ⊢ MayWait (c : Thread nD τ) sm () O :=
  MayOwe.of_cut (L := L) (lev := lv) (lvRole (role sm))
    (fun p hp => by rw [Finset.mem_singleton.mp hp, L_tc]; exact Finset.mem_singleton_self _)
    (fun g u hg => (h g u hg).1)
    (fun p hp => by rw [Finset.mem_singleton.mp hp]; exact le_refl _)
    (fun g u hg => (h g u hg).2)

theorem mayWait_owed (c : Dev nD) (sm : SemLoc sig) (k : ℕ) (h : lvRole (role sm) < k + 2) :
    (levAts L lv : sProp (MM F)) ⊢ MayWait (c : Thread nD τ) sm () (owedFrom c k) :=
  mayWait_of c sm _ fun g u hg => by
    obtain ⟨j, hj, rfl⟩ := owedFrom_pos hg
    refine ⟨by rw [L_tc]; exact Finset.mem_singleton_self _, ?_⟩
    dsimp only [lv]; rw [role_recv]; show _ < j.val + 2; omega

theorem gatherWaits_start (c : Dev nD) : (levAts L lv : sProp (MM F)) ⊢ gatherWaits c (O₀ c) := by
  unfold gatherWaits
  exact BI.BIClass.forall_intro fun r => mayWait_of c _ _ fun g u hg => by rw [role_gather]; exact O₀_cut hg

theorem gatherWaits_owed (c : Dev nD) (k : ℕ) : (levAts L lv : sProp (MM F)) ⊢ gatherWaits c (owedFrom c k) := by
  unfold gatherWaits
  exact BI.BIClass.forall_intro fun r => mayWait_owed c _ k (by rw [role_gather]; exact Nat.succ_pos _)

end Cert.Proof.Lookup
-- ==== Proof.Steps.lean ====
/-
  The steps of the kernel's body outside the row copies: reading and writing a chunk of the result, reading a slot of the
  landing buffer, the membership words and the gathered rows, and sending a chunk to the right-hand device, waiting at a
  send or receive cell, and the barrier. Every step is stated at the offsets, devices and semaphores the body writes, with
  what they are as premises.
-/
module

public import proofs.«01_k».proof.Proof.Ring

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- Device `c`'s TensorCore runs `p` to `Q`. -/
abbrev Runs {α : Type} (c : Dev nD) (p : Prog (TpuEff nD τ sig (Elt F) Λ₀ .tc) α) (Q : α → sProp (MM F)) : sProp (MM F) :=
  wp frame (wpE (defs₀ (F := F)) 𝒱₀ (c : Thread nD τ) none) Set.univ p Q

variable (c : Dev nD) {α : Type} {Qa : α → sProp (MM F)}

/-- Asking which device this is. -/
theorem step_device {k : Dev nD → Prog (TpuEff nD τ sig (Elt F) Λ₀ .tc) α} : Runs c (k c) Qa ⊢ Runs c (.op .deviceId k) Qa := by
  exact Entails.of_eq (wp_deviceId ..).symm
/-- A side condition that holds. -/
theorem step_assume {P : Prop} {d : Decidable P} {k : PLift P → Prog (TpuEff nD τ sig (Elt F) Λ₀ .tc) α} (h : P) :
    Runs c (k ⟨h⟩) Qa ⊢ Runs c (.op (.assume P d) k) Qa := wp_assume 𝒱₀ (c : Thread nD τ) none Set.univ h

/-! ## Reading and writing -/

section Local

variable {off : Fin 2 → ℕ} {j : Dev nD} (ho : off = ![512 * j.val, 0])

include ho in
theorem step_store (inb : ∀ a, off a + S512x1024.size a ≤ S2048x1024.size a) (v : ChunkC F) {h1 h2}
    {k : PUnit → Prog (TpuEff nD τ sig (Elt F) Λ₀ .tc) α} :
    OutAny c j ⊢ iprop((OutAt c j v -∗ Runs c (k ⟨⟩) Qa)
      -∗ Runs c (.op (.store outM (Rect.unit (s := S2048x1024) off S512x1024.size inb) v Finset.univ h1 h2) k) Qa) := by
  unfold OutAny OutAt
  iintro ⟨%f, H⟩ Hk
  iapply (wp_store (c := (c : Thread nD τ)) 𝒱₀ none Set.univ (m := outM) (r := Rect.unit (s := S2048x1024) off S512x1024.size inb) (S := chunkOf j.val) (f := f)
    ((View.setOn_univ _).trans_subset (out_set ho inb).subset)) $$ H
  iintro H
  iapply Hk
  iapply (Entails.of_eq (pointsTo_congr fun i hi => out_write ho inb f v i hi)) $$ H

include ho in
theorem step_load (inb : ∀ a, off a + S512x1024.size a ≤ S2048x1024.size a) (v : ChunkC F) {h1}
    {k : (S512x1024.Idx → Elt F .bf16) → Prog (TpuEff nD τ sig (Elt F) Λ₀ .tc) α} :
    OutAt c j v ⊢ iprop((OutAt c j v -∗ Runs c (k v) Qa)
      -∗ Runs c (.op (.load outM (Rect.unit (s := S2048x1024) off S512x1024.size inb).toLoadRect h1) k) Qa) := by
  unfold OutAt
  iintro H Hk
  iapply (wp_load_rect (c := (c : Thread nD τ)) 𝒱₀ none Set.univ (m := outM) (r := Rect.unit (s := S2048x1024) off S512x1024.size inb) (S := chunkOf j.val)
    (f := spread v) (out_set ho inb).subset) $$ H
  iintro H
  rw [show (outM.access (Rect.unit (s := S2048x1024) off S512x1024.size inb)).read (Elt F) (spread v) = v from out_read ho inb v]
  iapply Hk
  iexact H

include ho in
theorem step_peek (inb : ∀ a, off a + S512x1024.size a ≤ S2048x1024.size a) {h1}
    {k : (S512x1024.Idx → Elt F .bf16) → Prog (TpuEff nD τ sig (Elt F) Λ₀ .tc) α} :
    OutAny c j ⊢ iprop((∀ w, OutAny c j -∗ Runs c (k w) Qa)
      -∗ Runs c (.op (.load outM (Rect.unit (s := S2048x1024) off S512x1024.size inb).toLoadRect h1) k) Qa) := by
  unfold OutAny
  iintro ⟨%f, H⟩ Hk
  iapply (wp_load_rect (c := (c : Thread nD τ)) 𝒱₀ none Set.univ (m := outM) (r := Rect.unit (s := S2048x1024) off S512x1024.size inb) (S := chunkOf j.val)
    (f := f) (out_set ho inb).subset) $$ H
  iintro H
  iapply Hk
  iexists f
  iexact H

/-- The membership words of a chunk's rows. -/
def chunkI (fi : S2048x1.Idx → BitVec 32) (j : Dev nD) : Vec F S512x1 .i32 :=
  fun x => fi (ix2 ⟨512 * j.val + (x 0).val, by have h : (x 0).val < 512 := (x 0).isLt; have := j.isLt; show _ < 2048; have h4 : j.val < 4 := j.isLt; omega⟩ 0)
/-- The gathered rows of a chunk. -/
def chunkG (f : GatC F) (j : Dev nD) : Vec F S512x1024 .f32 :=
  fun x => f (ix2 ⟨512 * j.val + (x 0).val, by have h : (x 0).val < 512 := (x 0).isLt; have h4 : j.val < 4 := j.isLt; omega⟩ (x 1))

abbrev idxLoc : Loc nD τ sig := idxM.view.loc (c : Thread nD τ)

include ho in
theorem step_members (inb : ∀ a, off a + S512x1.size a ≤ S2048x1.size a) (fi : S2048x1.Idx → BitVec 32) {h1}
    {k : (S512x1.Idx → Elt F .i32) → Prog (TpuEff nD τ sig (Elt F) Λ₀ .tc) α} :
    (idxLoc c ↦{fullShare} fi : sProp (MM F)) ⊢ iprop(((idxLoc c ↦{fullShare} fi) -∗ Runs c (k (chunkI (F := F) fi j)) Qa)
      -∗ Runs c (.op (.load idxM (Rect.unit (s := S2048x1) off S512x1.size inb).toLoadRect h1) k) Qa) := by
  have e : (idxM.access (Rect.unit (s := S2048x1) off S512x1.size inb)).read (Elt F) fi = chunkI (F := F) fi j := by
    subst ho
    funext x
    show fi ((Rect.unit (s := S2048x1) _ S512x1.size inb).emb x) = _
    unfold chunkI
    congr 1
    funext a
    match a with
    | ⟨0, _⟩ => apply Fin.ext; rw [Rect.emb_apply]; show 512 * j.val + 1 * (x 0).val = 512 * j.val + (x 0).val; omega
    | ⟨1, _⟩ => exact Subsingleton.elim (α := Fin 1) _ _
  iintro H Hk
  iapply (wp_load_rect (c := (c : Thread nD τ)) 𝒱₀ none Set.univ (m := idxM) (r := Rect.unit (s := S2048x1) off S512x1.size inb)
    (f := fi) (Finset.subset_univ _)) $$ H
  iintro H
  rw [e]
  iapply Hk
  iexact H

include ho in
theorem step_rows (inb : ∀ a, off a + S512x1024.size a ≤ S2048x1024.size a) (f : GatC F) {h1}
    {k : (S512x1024.Idx → Elt F .f32) → Prog (TpuEff nD τ sig (Elt F) Λ₀ .tc) α} :
    (gatLoc c ↦{fullShare} f : sProp (MM F)) ⊢ iprop(((gatLoc c ↦{fullShare} f) -∗ Runs c (k (chunkG f j)) Qa)
      -∗ Runs c (.op (.load gatM (Rect.unit (s := S2048x1024) off S512x1024.size inb).toLoadRect h1) k) Qa) := by
  have e : (gatM.access (Rect.unit (s := S2048x1024) off S512x1024.size inb)).read (Elt F) f = chunkG f j := by
    subst ho
    funext x
    show f ((Rect.unit (s := S2048x1024) _ S512x1024.size inb).emb x) = _
    unfold chunkG
    congr 1
    funext a
    match a with
    | ⟨0, _⟩ => apply Fin.ext; rw [Rect.emb_apply]; show 512 * j.val + 1 * (x 0).val = 512 * j.val + (x 0).val; omega
    | ⟨1, _⟩ => apply Fin.ext; rw [Rect.emb_apply]; show 0 + 1 * (x 1).val = (x 1).val; omega
  iintro H Hk
  iapply (wp_load_rect (c := (c : Thread nD τ)) 𝒱₀ none Set.univ (m := gatM) (r := Rect.unit (s := S2048x1024) off S512x1024.size inb)
    (f := f) (Finset.subset_univ _)) $$ H
  iintro H
  rw [e]
  iapply Hk
  iexact H

end Local

theorem step_slot {s : ℕ} (inc : ∀ a, (![s, 0, 0] : Fin 3 → ℕ) a + S1x512x1024.size a ≤ S3x512x1024.size a) (v : ChunkC F) {h1}
    {k : (S1x512x1024.Idx → Elt F .bf16) → Prog (TpuEff nD τ sig (Elt F) Λ₀ .tc) α} :
    ComAt c s v ⊢ iprop((ComAt c s v -∗ Runs c (k (lead v)) Qa)
      -∗ Runs c (.op (.load comM (Rect.unit (s := S3x512x1024) ![s, 0, 0] S1x512x1024.size inc).toLoadRect h1) k) Qa) := by
  unfold ComAt
  iintro H Hk
  iapply (wp_load_rect (c := (c : Thread nD τ)) 𝒱₀ none Set.univ (m := comM) (r := Rect.unit (s := S3x512x1024) ![s, 0, 0] S1x512x1024.size inc) (S := slotOf s)
    (f := spreadC v) ((set_rows _).trans (slot_set inc)).subset) $$ H
  iintro H
  rw [com_read inc v]
  iapply Hk
  iexact H

/-- The chunk bounds. -/
abbrev bndLoc : Loc nD τ sig := bndM.view.loc (c : Thread nD τ)
def at5 (f : S5.Idx → BitVec 32) (j : ℕ) : BitVec 32 := if h : j < 5 then f (ix1 ⟨j, h⟩) else 0

theorem step_bound {off : Fin 1 → ℕ} {j : ℕ} (hj : j < 5) (ho : off = ![j]) (inb : ∀ a, off a + S1.size a ≤ S5.size a)
    {h1 : (Rect.unit (s := S5) off S1.size inb).shape.numel = 1} {hp : EltTy.i32.packing = 1} (f : S5.Idx → BitVec 32)
    {k : Elt F .i32 → Prog (TpuEff nD τ sig (Elt F) Λ₀ .tc) α} :
    (bndLoc c ↦{fullShare} f : sProp (MM F))
      ⊢ iprop(((bndLoc c ↦{fullShare} f) -∗ Runs c (k (at5 f j)) Qa)
        -∗ Runs c (smemLoad bndM (Rect.unit (s := S5) off S1.size inb) h1 hp >>= k) Qa) := by
  have e : ∀ x, f ((Rect.unit (s := S5) off S1.size inb).emb x) = at5 f j := fun x => by
    subst ho
    unfold at5
    rw [dif_pos hj]
    congr 1
    funext a
    match a with
    | ⟨0, _⟩ =>
      apply Fin.ext
      rw [Rect.emb_apply]
      show j + 1 * (x 0).val = j
      have h : (x 0).val < 1 := (x 0).isLt
      omega
  rw [smemLoad_bind, ← e (Shape.Idx.first (h1.symm ▸ Nat.one_pos))]
  exact wp_smemLoadElt (k := k) (f := f) 𝒱₀ (c : Thread nD τ) none Set.univ (m := bndM) (r := Rect.unit (s := S5) off S1.size inb)
    (x := Shape.Idx.first (h1.symm ▸ Nat.one_pos)) (Finset.subset_univ _)

/-! ## The ring's steps -/

section Ring

variable (own : Dev nD → Dev nD → ChunkC F) (κ : GSem nD τ sig → ℕ)

/-- Cell `g`'s invariant. -/
def inv (g : GSem nD τ sig) : sProp (MM F) := cellInv ER (ringRd own) (κ g) g
instance inv_persistent (g : GSem nD τ sig) : BI.Persistent (inv own κ g) := by unfold inv; infer_instance

/-- What device `c` may always consult. -/
def book : sProp (MM F) :=
  iprop((inv own κ (barCell c) ∗ inv own κ (barCell (c + 1)) ∗ inv own κ (barCell (c + 3)))
    ∗ (bigSep Finset.univ fun k : Fin 6 => inv own κ (sendCell c k))
    ∗ (bigSep Finset.univ fun k : Fin 6 => inv own κ (recvCell c k))
    ∗ (bigSep Finset.univ fun k : Fin 6 => inv own κ (recvCell (c + 1) k))
    ∗ (reached ER (barCell (c + 1)) 0 ∗ reached ER (barCell (c + 3)) 0)
    ∗ (bigSep Finset.univ fun k : Fin 6 => reached ER (sendCell c k) 0)
    ∗ (bigSep Finset.univ fun k : Fin 6 => reached ER (recvCell c k) 0)
    ∗ levAts L lv)
instance book_persistent : BI.Persistent (book c own κ) := by unfold book; infer_instance

/-- That the right-hand device's receive cells are open: learnt at the barrier. -/
def met : sProp (MM F) := bigSep Finset.univ fun k : Fin 6 => reached ER (recvCell (c + 1) k) 0
instance met_persistent : BI.Persistent (met (F := F) c) := by unfold met; infer_instance

/-- The device owes `O`. -/
def Owe (O : CellTallies nD τ sig Unit) : sProp (MM F) := iprop(∃ W, owes (c : Thread nD τ) O W)
/-- The tokens of send `k`; its credit once started; what waits at the send and receive cells spend and leave. -/
def sendTok (k : Fin 6) : sProp (MM F) := iprop(dutyTok ER (sendCell c k) 0 false ∗ dutyTok ER (recvCell (c + 1) k) 0 false)
def sent (k : Fin 6) : sProp (MM F) := cred (tallyAt (sendCell c k) () chunkN)
def sendAt (k : Fin 6) (r : ℕ) : sProp (MM F) := atPos ER (sendCell c k) r ∅ 0
def recvAt (k : Fin 6) (r : ℕ) : sProp (MM F) := atPos ER (recvCell c k) r ∅ 0
def recvTok (k : Fin 6) : sProp (MM F) := iprop(recvAt c k 0 ∗ cred (tallyAt (recvCell c k) () chunkN))

theorem send_sem (k : Fin 6) (inb : ∀ a, (![k.val] : Fin 1 → ℕ) a + S1.size a ≤ S6.size a) :
    (((cc0_scratch3.slice (Rect.unit (s := S6) ![k.val] S1.size inb)).squeeze S_ squeezes_S1_S_).sem) = sendS k := by
  revert inb; revert k; decide
theorem recv_sem (k : Fin 6) (inb : ∀ a, (![k.val] : Fin 1 → ℕ) a + S1.size a ≤ S6.size a) :
    (((cc0_scratch4.slice (Rect.unit (s := S6) ![k.val] S1.size inb)).squeeze S_ squeezes_S1_S_).sem) = recvS k := by
  revert inb; revert k; decide

theorem each_of_all {Φ : Fin 6 → sProp (MM F)} (k : Fin 6) : (bigSep Finset.univ Φ : sProp (MM F)) ⊢ Φ k :=
  bigSep_elim (Finset.mem_univ k)

/-- The two invariants and the openings a send of step `k` consults. -/
theorem book_send (k : Fin 6) : book c own κ ⊢ iprop(inv own κ (sendCell c k) ∗ reached ER (sendCell c k) 0) := by
  unfold book
  iintro ⟨-, #Hs, -, -, -, #Hr, -, -⟩
  isplitr
  · iapply (each_of_all (Φ := fun k : Fin 6 => inv own κ (sendCell c k)) k) $$ Hs
  · iapply (each_of_all (Φ := fun k : Fin 6 => (reached ER (sendCell c k) 0 : sProp (MM F))) k) $$ Hr
theorem book_recv (k : Fin 6) : book c own κ ⊢ iprop(inv own κ (recvCell c k) ∗ levAts L lv) := by
  unfold book
  iintro ⟨-, -, #Hs, -, -, -, -, #Hr⟩
  isplitr
  · iapply (each_of_all (Φ := fun k : Fin 6 => inv own κ (recvCell c k)) k) $$ Hs
  · iexact Hr
theorem book_right (k : Fin 6) : book c own κ ⊢ inv own κ (recvCell (c + 1) k) := by
  unfold book
  iintro ⟨-, -, -, #Hs, -, -, -, -⟩
  iapply (each_of_all (Φ := fun k : Fin 6 => inv own κ (recvCell (c + 1) k)) k) $$ Hs
theorem met_at (k : Fin 6) : (met c : sProp (MM F)) ⊢ reached ER (recvCell (c + 1) k) 0 := by
  unfold met; exact bigSep_elim (Finset.mem_univ k)

/-- Waiting at the send cell `k`, the receive credits from `n` on still owed. -/
theorem step_wait_send (k : Fin 6) {n : ℕ} {sem : DmaSem sig} (hs : sem = sendS k) {sp sp' : Space} {s s' : Shape} {e e' : EltTy}
    {src : Memref sig .tc sp s e} {dst : Memref sig .tc sp' s' e'} (hN : dst.view.dmaCredit = chunkN) {w1 w2}
    {kk : PUnit → Prog (TpuEff nD τ sig (Elt F) Λ₀ .tc) α} :
    iprop(book c own κ ∗ sent c k ∗ sendAt c k 0 ∗ Owe c (owedFrom c n))
      ⊢ iprop((iprop(sendAt c k 1 ∗ sendPay own c k ∗ Owe c (owedFrom c n)) -∗ Runs c (kk ⟨⟩) Qa)
        -∗ Runs c (.op (.waitDma2 sem src dst w1 w2) kk) Qa) := by
  subst hs
  unfold sent sendAt Owe
  rw [← hN]
  iintro ⟨#Hb, Hc, Hat, ⟨%W, HO⟩⟩ Hk
  ihave ⟨#Hi, -⟩ := (book_send c own κ k) $$ Hb
  ihave ⟨-, #Hl⟩ := (book_recv c own κ k) $$ Hb
  unfold inv
  iapply (Rounds.wp_wait_rest_token 𝒱₀ ER (ringRd own) (c : Thread nD τ) none (κ := κ (sendCell c k))
      (wpE_waitDma2_eq (src := src) (dst := dst) 𝒱₀ (c : Thread nD τ) none Set.univ) (Set.mem_univ _) () (O := owedFrom c n) (W := W) (R := 0) (m := 0) (T := ∅)
      ((Nat.zero_add _).trans (hN.trans (expect_send own c k).symm))) $$ [Hc HO Hat]
  · isplitr; · iexact Hi
    isplitl [Hc]; · iexact Hc
    isplitl [HO]; · iexact HO
    isplitr; · iapply (mayWait_owed c _ n (by rw [role_send]; exact Nat.succ_pos _)); iexact Hl
    iexact Hat
  iintro ⟨HO, Hat, -, Hpay⟩
  ihave Hp := (Entails.of_eq (rest_send own c k)) $$ Hpay
  iapply Hk
  isplitl [Hat]; · iexact Hat
  isplitl [Hp]; · iexact Hp
  iexists _; iexact HO

/-- Waiting at the receive cell `k`, the receive credits from `n` on still owed, `k < n`. -/
theorem step_wait_recv (k : Fin 6) {n : ℕ} (hn : k.val < n) {sem : DmaSem sig} (hs : sem = recvS k) {sp sp' : Space} {s s' : Shape} {e e' : EltTy}
    {src : Memref sig .tc sp s e} {dst : Memref sig .tc sp' s' e'} (hN : dst.view.dmaCredit = chunkN) {w1 w2}
    {kk : PUnit → Prog (TpuEff nD τ sig (Elt F) Λ₀ .tc) α} :
    iprop(book c own κ ∗ recvTok c k ∗ Owe c (owedFrom c n))
      ⊢ iprop((iprop(recvAt c k 1 ∗ recvPay own c k ∗ Owe c (owedFrom c n)) -∗ Runs c (kk ⟨⟩) Qa)
        -∗ Runs c (.op (.waitDma2 sem src dst w1 w2) kk) Qa) := by
  subst hs
  unfold recvTok recvAt Owe
  rw [← hN]
  iintro ⟨#Hb, ⟨Hat, Hc⟩, ⟨%W, HO⟩⟩ Hk
  ihave ⟨#Hi, #Hl⟩ := (book_recv c own κ k) $$ Hb
  unfold inv
  iapply (Rounds.wp_wait_rest_token 𝒱₀ ER (ringRd own) (c : Thread nD τ) none (κ := κ (recvCell c k))
      (wpE_waitDma2_eq (src := src) (dst := dst) 𝒱₀ (c : Thread nD τ) none Set.univ) (Set.mem_univ _) () (O := owedFrom c n) (W := W) (R := 0) (m := 0) (T := ∅)
      ((Nat.zero_add _).trans (hN.trans (expect_recv own c k).symm))) $$ [Hc HO Hat]
  · isplitr; · iexact Hi
    isplitl [Hc]; · iexact Hc
    isplitl [HO]; · iexact HO
    isplitr; · iapply (mayWait_owed c _ n (by rw [role_recv]; show k.val + 2 < n + 2; omega)); iexact Hl
    iexact Hat
  iintro ⟨HO, Hat, -, Hpay⟩
  ihave Hp := (Entails.of_eq (rest_recv own c k)) $$ Hpay
  iapply Hk
  isplitl [Hat]; · iexact Hat
  isplitl [Hp]; · iexact Hp
  iexists _; iexact HO

section Send

variable {off : Fin 2 → ℕ} {j : Dev nD} (ho : off = ![512 * j.val, 0])

include ho in
/-- Sending chunk `j` into slot `s` of the right-hand device, the rights `Fr` going along. -/
theorem step_send_slot (k : Fin 6) {s : ℕ} (inb : ∀ a, off a + S512x1024.size a ≤ S2048x1024.size a)
    (inc : ∀ a, (![s, 0, 0] : Fin 3 → ℕ) a + S1x512x1024.size a ≤ S3x512x1024.size a) (v : ChunkC F) {Fr : sProp (MM F)}
    {d : Dev nD} (hd : d = c + 1) {s1 s2 : DmaSem sig} (hs1 : s1 = sendS k) (hs2 : s2 = recvS k)
    (hp1 : (emp : sProp (MM F)) ⊢ sendPay own c k)
    (hp2 : iprop((ComAt (c + 1) s v ∗ Fr) ∗ OutAt c j v) ⊢ recvPay own (c + 1) k) {hsc w1 w2 w3}
    {kk : PUnit → Prog (TpuEff nD τ sig (Elt F) Λ₀ .tc) α} :
    iprop(book c own κ ∗ met c ∗ sendTok c k ∗ OutAt c j v ∗ (ComAny (c + 1) s ∗ Fr) ∗ Owe c (owedFrom c k.val))
      ⊢ iprop((iprop(sent c k ∗ Owe c (owedFrom c (k.val + 1))) -∗ Runs c (kk ⟨⟩) Qa)
        -∗ Runs c (.op (.enqueueDma (outW off inb) (.remote (Dev.tc d) (comW s inc) (.dma s1) hsc) (.dma s2) w1 w2 w3) kk) Qa) := by
  subst hd hs1 hs2
  unfold sendTok Owe ComAny OutAt sent
  iintro ⟨#Hb, #Hm, ⟨Ht1, Ht2⟩, Hsrc, ⟨⟨%fd, Hdst⟩, HF⟩, ⟨%W, HO⟩⟩ Hk
  ihave ⟨#Hi, #Hr⟩ := (book_send c own κ k) $$ Hb
  ihave #Hi2 := (book_right c own κ k) $$ Hb
  ihave #Hr2 := (met_at c k) $$ Hm
  unfold inv
  iapply (Rounds.wp_send_landing_pointsTo_with 𝒱₀ ER (ringRd own) (c : Thread nD τ) none (c' := ((c + 1 : Dev nD) : Thread nD τ)) (src := outW off inb) (dst := comW s inc)
      (sS := .dma (sendS k)) (sem := .dma (recvS k)) (q := fullShare) (fs := (spread v : OutC F)) (fd := fd) (F := Fr)
      (κ₁ := κ (sendCell c k)) (κ₂ := κ (recvCell (c + 1) k)) (r₁ := 0) (r₂ := 0) (d₁ := false) (d₂ := false)
      (by rw [duties_send]; exact Finset.mem_singleton_self _) (by rw [duties_recv]; exact Finset.mem_singleton_self _) () () chunkN rfl
      (amount_send own c k false) (amount_recv own (c + 1) k false) (O₀ := owedFrom c k.val) (owedFrom c (k.val + 1)) (owedFrom_step c k)
      (by rw [payload_send]; exact hp1)
      (by rw [payload_recv, out_set ho inb, com_set inc, out_read ho inb v,
            pointsTo_congr fun i hi => com_write inc fd v i hi]; exact hp2)) $$ [Ht1 Ht2 Hsrc Hdst HF HO]
  · isplitr; · iexact Hi
    isplitr; · iexact Hi2
    isplitl [Hsrc]; · rw [out_set ho inb]; iexact Hsrc
    isplitl [Hdst HF]
    · isplitl [Hdst]; · rw [com_set inc]; iexact Hdst
      iexact HF
    isplitl [HO]; · iexact HO
    isplitl [Ht1]; · iexact Ht1
    isplitr; · iexact Hr
    isplitl [Ht2]; · iexact Ht2
    iexact Hr2
  iintro ⟨Hc, HO⟩
  iapply Hk
  isplitl [Hc]; · iexact Hc
  iexists _; iexact HO

include ho in
/-- Sending chunk `j` onto chunk `j` of the right-hand device, the rights `Fr` going along. -/
theorem step_send_chunk (k : Fin 6) (inb : ∀ a, off a + S512x1024.size a ≤ S2048x1024.size a) (v : ChunkC F) {Fr : sProp (MM F)}
    {d : Dev nD} (hd : d = c + 1) {s1 s2 : DmaSem sig} (hs1 : s1 = sendS k) (hs2 : s2 = recvS k)
    (hp1 : OutAt c j v ⊢ sendPay own c k)
    (hp2 : iprop(OutAt (c + 1) j v ∗ Fr) ⊢ recvPay own (c + 1) k) {hsc w1 w2 w3}
    {kk : PUnit → Prog (TpuEff nD τ sig (Elt F) Λ₀ .tc) α} :
    iprop(book c own κ ∗ met c ∗ sendTok c k ∗ OutAt c j v ∗ (OutAny (c + 1) j ∗ Fr) ∗ Owe c (owedFrom c k.val))
      ⊢ iprop((iprop(sent c k ∗ Owe c (owedFrom c (k.val + 1))) -∗ Runs c (kk ⟨⟩) Qa)
        -∗ Runs c (.op (.enqueueDma (outW off inb) (.remote (Dev.tc d) (outW off inb) (.dma s1) hsc) (.dma s2) w1 w2 w3) kk) Qa) := by
  subst hd hs1 hs2
  unfold sendTok Owe OutAny OutAt sent
  iintro ⟨#Hb, #Hm, ⟨Ht1, Ht2⟩, Hsrc, ⟨⟨%fd, Hdst⟩, HF⟩, ⟨%W, HO⟩⟩ Hk
  ihave ⟨#Hi, #Hr⟩ := (book_send c own κ k) $$ Hb
  ihave #Hi2 := (book_right c own κ k) $$ Hb
  ihave #Hr2 := (met_at c k) $$ Hm
  unfold inv
  iapply (Rounds.wp_send_pointsTo_with 𝒱₀ ER (ringRd own) (c : Thread nD τ) none (c' := ((c + 1 : Dev nD) : Thread nD τ)) (src := outW off inb) (dst := outW off inb)
      (sS := .dma (sendS k)) (sem := .dma (recvS k)) (q := fullShare) (fs := (spread v : OutC F)) (fd := fd) (F := Fr)
      (κ₁ := κ (sendCell c k)) (κ₂ := κ (recvCell (c + 1) k)) (r₁ := 0) (r₂ := 0) (d₁ := false) (d₂ := false)
      (by rw [duties_send]; exact Finset.mem_singleton_self _) (by rw [duties_recv]; exact Finset.mem_singleton_self _) () () chunkN rfl
      (amount_send own c k false) (amount_recv own (c + 1) k false) (O₀ := owedFrom c k.val) (owedFrom c (k.val + 1)) (owedFrom_step c k)
      (by rw [payload_send, out_set ho inb]; exact hp1)
      (by rw [payload_recv, out_set ho inb, out_read ho inb v,
            pointsTo_congr fun i hi => out_write ho inb fd v i hi]; exact hp2)) $$ [Ht1 Ht2 Hsrc Hdst HF HO]
  · isplitr; · iexact Hi
    isplitr; · iexact Hi2
    isplitl [Hsrc]; · rw [out_set ho inb]; iexact Hsrc
    isplitl [Hdst HF]
    · isplitl [Hdst]; · rw [out_set ho inb]; iexact Hdst
      iexact HF
    isplitl [HO]; · iexact HO
    isplitl [Ht1]; · iexact Ht1
    isplitr; · iexact Hr
    isplitl [Ht2]; · iexact Ht2
    iexact Hr2
  iintro ⟨Hc, HO⟩
  iapply Hk
  isplitl [Hc]; · iexact Hc
  iexists _; iexact HO

end Send

/-! ## The barrier -/

/-- The tokens, credits and place of the barrier. -/
def barTok : sProp (MM F) :=
  iprop(dutyTok ER (barCell (c + 3)) 0 false ∗ dutyTok ER (barCell (c + 1)) 0 true ∗ cred (tallyAt (barCell c) () 2) ∗ atPos ER (barCell c) 0 ∅ 0)
/-- What the left-hand device is handed: this device's landing buffer. -/
def slots (x : Dev nD) : sProp (MM F) := iprop(ComAny x 0 ∗ ComAny x 1 ∗ ComAny x 2)

theorem step_barrier {a b : Dev nD} (ha : a = c + 3) (hb : b = c + 1) {s : Sem sig} (hs : s = barS)
    {kk : PUnit → Prog (TpuEff nD τ sig (Elt F) Λ₀ .tc) α} :
    iprop(book c own κ ∗ barTok c ∗ slots c ∗ Owe c (O₀ c))
      ⊢ iprop((iprop(atPos ER (barCell c) 1 ∅ 0 ∗ met c ∗ slots (c + 1) ∗ Owe c (owedFrom c 0)) -∗ Runs c (kk ⟨⟩) Qa)
        -∗ Runs c (semSignalWord (a : Dev nD) s 1#32 >>= fun _ => semSignalWord (b : Dev nD) s 1#32 >>= fun _ => semWaitWord s 2#32 >>= kk) Qa) := by
  subst ha hb hs
  have e1 : ((c + 3) + 1 : Dev nD) = c := by revert c; decide
  have hlev : (book c own κ) ⊢ (levAts L lv : sProp (MM F)) := (book_recv c own κ 0).trans (by iintro ⟨-, H⟩; iexact H)
  have hmay : lvRole (role (.reg barS)) < 0 + 2 := by rw [role_bar]; decide
  unfold barTok Owe
  iintro ⟨#Hb, ⟨Ht3, Ht1, Hc, Hat⟩, Hsl, ⟨%W, HO⟩⟩ Hk
  ihave #Hl := hlev $$ Hb
  unfold book
  icases Hb with ⟨⟨#Hic, #Hi1, #Hi3⟩, -, -, -, ⟨#Hr1, #Hr3⟩, -, #Hrr, -⟩
  iapply (Rounds.wp_signal 𝒱₀ ER (ringRd own) (c : Thread nD τ) none (dst := ((c + 3 : Dev nD) : Thread nD τ)) (sem := barS) (r := 0) (d := false) (κ := κ (barCell (c + 3)))
      (by rw [duties_bar]; decide) (amount_bar own (c + 3) false) () (owedFrom c 0 + tallyAt (barCell (c + 1)) () 1) rfl) $$ [Ht3 Hsl HO]
  · isplitr; · unfold inv; iexact Hi3
    isplitl [HO]; · iexact HO
    isplitl [Ht3]; · iexact Ht3
    isplitl [Hsl]
    · rw [payload_bar, if_neg (by decide)]
      unfold barPay slots
      rw [e1]
      isplitl [Hsl]; · iexact Hsl
      iexact Hrr
    iexact Hr3
  iintro HO
  iapply (Rounds.wp_signal 𝒱₀ ER (ringRd own) (c : Thread nD τ) none (dst := ((c + 1 : Dev nD) : Thread nD τ)) (sem := barS) (r := 0) (d := true) (κ := κ (barCell (c + 1)))
      (by rw [duties_bar]; decide) (amount_bar own (c + 1) true) () (owedFrom c 0) rfl) $$ [Ht1 HO]
  · isplitr; · unfold inv; iexact Hi1
    isplitl [HO]; · iexact HO
    isplitl [Ht1]; · iexact Ht1
    isplitr; · rw [payload_bar, if_pos rfl]; iempintro
    iexact Hr1
  iintro HO
  iapply (Rounds.wp_wait_rest_token 𝒱₀ ER (ringRd own) (c : Thread nD τ) none (κ := κ (barCell c))
      (wpE_semWait_eq 𝒱₀ (c : Thread nD τ) none Set.univ) (Set.mem_univ _) () (O := owedFrom c 0) (W := W) (R := 0) (m := 0) (T := ∅)
      ((Nat.zero_add 2).trans (expect_bar own c).symm)) $$ [Hc HO Hat]
  · isplitr; · unfold inv; iexact Hic
    isplitl [Hc]; · iexact Hc
    isplitl [HO]; · iexact HO
    isplitr; · iapply (mayWait_owed c _ 0 hmay); iexact Hl
    iexact Hat
  iintro ⟨HO, Hat, -, Hpay⟩
  ihave Hp := (Entails.of_eq (rest_bar own c)) $$ Hpay
  unfold barPay
  icases Hp with ⟨⟨Hs, Hm⟩, -⟩
  iapply Hk
  isplitl [Hat]; · iexact Hat
  isplitl [Hm]; · unfold met; iexact Hm
  isplitl [Hs]; · unfold slots; iexact Hs
  iexists _; iexact HO

end Ring

end Cert.Proof.Lookup
-- ==== Proof.Sheet.lean ====
/-
  What one device brings to the kernel: its block of the table, the sorted lists of positions and block rows, the bounds of
  each chunk in them, the indices; and the chunk a device makes from its gathered rows, the unowned rows blanked.
-/
module

public import proofs.«01_k».proof.Proof.Steps

@[expose] public section

noncomputable section

namespace Cert.Proof.Lookup

open Cert.KernelIdeal Cert.KernelIdeal.Gen
open Idealize.ShloMosaic Idealize.ShloMosaic.TcCoe Idealize.ShloMosaic.ValueIdx
open Idealize.SL

variable {F : FTy → Type} [FloatOps F]

/-! ## The chunk made from gathered rows -/

/-- The first table row of device `c`, as the kernel computes it. -/
def lowWord (c : Dev nD) : BitVec 32 := Scalar.muli (Scalar.remsi (Scalar.divsi (Dev.word c) 1#32) 4#32) 8192#32
/-- Whether row `w` is one of the 8192 from `v` on. -/
def mine (v w : BitVec 32) : BitVec 1 := IntOp.andi (IntOp.cmpi .sge w v) (IntOp.cmpi .slt w (Scalar.addi v 8192#32))

theorem column_apply (m : IVec S512x1 1) (x : S512x1024.Idx) : broadcastTo S512x1024 m broadcasts_S512x1_S512x1024 x = m (ix2 (x 0) 0) :=
  broadcastTo_apply m _ x (ix2 (x 0) 0) fun a => by match a with | ⟨0, _⟩ => rfl | ⟨1, _⟩ => rfl

theorem pay8_apply (v : BitVec 32) (i : Vec F S512x1 .i32) (f : Vec F S512x1024 .f32) (x : S512x1024.Idx) :
    k0_pay8 v i i f x = FloatOps.truncf (F := F) .bf16 bitsLt_bf16_f32
      (Scalar.select (mine v (i (ix2 (x 0) 0))) (f x) (Scalar.ofBits .f32 0x00000000#32)) := by
  unfold k0_pay8
  simp only [shapeCast_self]
  exact congrArg (fun b => FloatOps.truncf (F := F) .bf16 bitsLt_bf16_f32 (Scalar.select b (f x) (Scalar.ofBits .f32 0x00000000#32))) (column_apply _ x)

/-- Only the owned rows matter. -/
theorem pay8_congr (v : BitVec 32) (i : Vec F S512x1 .i32) (f g : Vec F S512x1024 .f32)
    (h : ∀ x : S512x1024.Idx, mine v (i (ix2 (x 0) 0)) = 1 → f x = g x) : k0_pay8 v i i f = k0_pay8 v i i g := by
  funext x
  rw [pay8_apply, pay8_apply]
  unfold Scalar.select
  split
  · next hm => rw [h x hm]
  · rfl

theorem pay2_eq (c : Dev nD) (i : Vec F S512x1 .i32) (f : Vec F S512x1024 .f32) :
    k0_pay2 (lowWord c) (k0_pay1 c i) i f = k0_pay8 (lowWord c) i i f := rfl
theorem pay4_eq (v : BitVec 32) (i : Vec F S512x1 .i32) (f : Vec F S512x1024 .f32) : k0_pay4 (k0_pay3 v i i) f = k0_pay8 v i i f := rfl
theorem pay6_eq (v : BitVec 32) (i : Vec F S512x1 .i32) (f : Vec F S512x1024 .f32) : k0_pay6 v i i f = k0_pay8 v i i f := rfl
theorem pay7_eq (a : Vec F S512x1024 .bf16) (b : Vec F S1x512x1024 .bf16) : k0_pay7 a b = k0_pay5 a b := rfl
theorem pay9_eq (a : Vec F S512x1024 .bf16) (b : Vec F S1x512x1024 .bf16) : k0_pay9 a b = k0_pay5 a b := rfl

/-! ## A device's sheet -/

/-- What device `c` is given, and the rows `g` it should gather. -/
structure Sheet (F : FTy → Type) (c : Dev nD) where
  ft : TabC F
  pos : S2048.Idx → BitVec 32
  loc : S2048.Idx → BitVec 32
  bnd : S5.Idx → BitVec 32
  idx : S2048x1.Idx → BitVec 32
  g : GatC F
  hs : ∀ j : Dev nD, (at5 bnd j.val).toNat ≤ (at5 bnd (j.val + 1)).toNat
  he : ∀ j : Dev nD, (at5 bnd (j.val + 1)).toNat ≤ 2048
  hpos : ∀ (j : Dev nD) q, (at5 bnd j.val).toNat ≤ q → q < (at5 bnd (j.val + 1)).toNat → (at1 pos q).toNat < 2048
  hinj : ∀ (j : Dev nD) q q', (at5 bnd j.val).toNat ≤ q → q < (at5 bnd (j.val + 1)).toNat → (at5 bnd j.val).toNat ≤ q' →
    q' < (at5 bnd (j.val + 1)).toNat → (at1 pos q).toNat = (at1 pos q').toNat → q = q'
  hloc : ∀ (j : Dev nD) q, (at5 bnd j.val).toNat ≤ q → q < (at5 bnd (j.val + 1)).toNat → (at1 loc q).toNat < 8192
  hg : ∀ (j : Dev nD) q (h1 : (at5 bnd j.val).toNat ≤ q) (h2 : q < (at5 bnd (j.val + 1)).toNat), ∀ i ∈ rowOf (a := 2048) (b := 1024) (at1 pos q).toNat,
    g i = ft (ix2 ⟨(at1 loc q).toNat, hloc j q h1 h2⟩ (i 1))
  cover : ∀ (j : Dev nD) (p : Fin 2048), 512 * j.val ≤ p.val → p.val < 512 * j.val + 512 → mine (lowWord c) (idx (ix2 p 0)) = 1 →
    ∃ q, (at5 bnd j.val).toNat ≤ q ∧ q < (at5 bnd (j.val + 1)).toNat ∧ (at1 pos q).toNat = p.val

variable {c : Dev nD} (D : Sheet F c)

/-- Chunk `j`'s stretch of the lists. -/
def Sheet.T (j : Dev nD) : Stretch F where
  s := at5 D.bnd j.val
  e := at5 D.bnd (j.val + 1)
  pos := D.pos
  loc := D.loc
  ft := D.ft
  g := D.g
  hs := D.hs j
  he := D.he j
  hpos := D.hpos j
  hinj := D.hinj j
  hloc := D.hloc j
  hg := D.hg j

/-- Chunk `j` as device `c` first writes it. -/
def Sheet.own (j : Dev nD) : ChunkC F := k0_pay8 (lowWord c) (chunkI D.idx j) (chunkI D.idx j) (chunkG D.g j)

/-- Any contents right on the stretch's rows make the same chunk. -/
theorem Sheet.own_of (j : Dev nD) (f : GatC F)
    (hf : ∀ q, (D.T j).s.toNat ≤ q → q < (D.T j).e.toNat → ∀ i ∈ rowOf (a := 2048) (b := 1024) (at1 (D.T j).pos q).toNat, f i = (D.T j).g i) :
    k0_pay8 (lowWord c) (chunkI D.idx j) (chunkI D.idx j) (chunkG f j) = D.own j := by
  refine pay8_congr _ _ _ _ fun x hx => ?_
  have hj : j.val < 4 := j.isLt
  have hx0 : (x 0).val < 512 := (x 0).isLt
  obtain ⟨q, h1, h2, h3⟩ := D.cover j ⟨512 * j.val + (x 0).val, by omega⟩ (by show 512 * j.val ≤ 512 * j.val + (x 0).val; omega)
    (by show 512 * j.val + (x 0).val < 512 * j.val + 512; omega) hx
  refine hf q h1 h2 _ ?_
  rw [show (at1 (D.T j).pos q).toNat = 512 * j.val + (x 0).val from h3]
  exact Finset.mem_filter.mpr ⟨Finset.mem_univ _, rfl⟩

end Cert.Proof.Lookup
-- ==== Proof.Reads.lean ====
/-
What the host stretches leave in the lists the kernel is given, as functions of the indices.
-/
module

public import proofs.«01_k».proof.Proof.Gen.KernelIdeal.Regions
public import proofs.«01_k».proof.Proof.Sheet

@[expose] public section

noncomputable section

namespace Cert.Proof.Lookup

open Cert.KernelIdeal Cert.KernelIdeal.Gen
open Idealize.ShloMosaic Idealize.ShloMosaic.TcCoe Idealize.ShloMosaic.ValueIdx
open Idealize.ShloMosaic.StableHlo (after)

variable {F : FTy → Type} [FloatOps F]

/-- The first table row of device `c`, as the host computes it. -/
def hostLow (c : Dev nD) : IVec S_ 32 :=
  muli (id (Host.remui (Host.divui (constantI S_ 32 (Dev.word c)) (constantI S_ 32 1#32)) (constantI S_ 32 4#32))) (constantI S_ 32 8192#32)
/-- Which indices device `c` owns. -/
def hostMask (c : Dev nD) (x : IVec S2048 32) : IVec S2048 1 :=
  andi (cmpi .sge x (broadcastInDim S2048 ![] bcast_S_S2048 (hostLow c)))
    (cmpi .slt x (broadcastInDim S2048 ![] bcast_S_S2048 (addi (hostLow c) (constantI S_ 32 8192#32))))
/-- What the positions are sorted by. -/
def hostKey (c : Dev nD) (x : IVec S2048 32) : IVec S2048 32 :=
  select (hostMask c x) (iotaInDim S2048 32 0) (addi (broadcastInDim S2048 ![] bcast_S_S2048 (constantI S_ 32 2048#32)) (iotaInDim S2048 32 0))
/-- The row of the block each position reads, kept inside the block. -/
def hostLoc (c : Dev nD) (x : IVec S2048 32) : IVec S2048 32 :=
  minsi (broadcastInDim S2048 ![] bcast_S_S2048 (id (constantI S_ 32 8191#32)))
    (maxsi (broadcastInDim S2048 ![] bcast_S_S2048 (id (constantI S_ 32 0#32))) (subi x (broadcastInDim S2048 ![] bcast_S_S2048 (hostLow c))))
/-- How many indices of each chunk are owned. -/
def hostCount (k : IVec S2048 1) : IVec S4 32 :=
  Host.reduce IntOp.addi (extui 32 (fun i => shapeCast S4x512 k shapeCasts_S2048_S4x512 i) natLt_1_32) (constantI S_ 32 0#32) reducesTo_S4x512_S4_d1 h_S_
/-- The running counts, from zero. -/
def hostBound (k : IVec S4 32) : IVec S5 32 :=
  concatenate S5 0 [⟨S1, broadcastInDim S1 ![] bcast_S_S1 (constantI S_ 32 0#32)⟩,
    ⟨S4, Host.reduceWindow IntOp.addi ![4] ![1] ![3] ![0] k (broadcastInDim S_ ![] bcast_S_S_ (constantI S_ 32 0#32)) reduceWindows_S4_S4_w4s1p3_0 h_S_⟩] concatenates_S1_S4_S5_d0

variable (V : Valuation τ sig (Elt F)) (c : Dev nD)

theorem read0_v12 : after (hostOps0 c) V (Proc.devRef .tc main_v12) = hostMask c (V (Proc.devRef .tc main_arg1)) := by
  after_results <;> rfl
theorem read0_v5 : after (hostOps0 c) V (Proc.devRef .tc main_v5) = hostLow c := by
  after_results <;> rfl
theorem read0_v6 : after (hostOps0 c) V (Proc.devRef .tc main_v6) = iotaInDim S2048 32 0 := by
  after_results <;> rfl
theorem read0_v14 : after (hostOps0 c) V (Proc.devRef .tc main_v14)
    = addi (broadcastInDim S2048 ![] bcast_S_S2048 (constantI S_ 32 2048#32)) (iotaInDim S2048 32 0) := by
  after_results <;> rfl
theorem read1_v15 : after hostOps0_1 V (Proc.devRef .tc main_v15)
    = select (α := BitVec 32) (V (Proc.devRef .tc main_v12) : IVec S2048 1) (V (Proc.devRef .tc main_v6)) (V (Proc.devRef .tc main_v14)) := by
  after_results <;> rfl
theorem read2_v17 : after hostOps0_2 V (Proc.devRef .tc main_v17)
    = subi (V (Proc.devRef .tc main_arg1) : IVec S2048 32) (broadcastInDim S2048 ![] bcast_S_S2048 (V (Proc.devRef .tc main_v5) : IVec S_ 32)) := by
  after_results <;> rfl
theorem read2_c4 : after hostOps0_2 V (Proc.devRef .tc main_c_4) = constantI S_ 32 0#32 := by
  after_results <;> rfl
theorem read2_c5 : after hostOps0_2 V (Proc.devRef .tc main_c_5) = constantI S_ 32 8191#32 := by
  after_results <;> rfl
theorem read3_v18 : after hostOps0_3 V (Proc.devRef .tc main_v18)
    = minsi (broadcastInDim S2048 ![] bcast_S_S2048 (id (V (Proc.devRef .tc main_c_5) : IVec S_ 32)))
        (maxsi (broadcastInDim S2048 ![] bcast_S_S2048 (id (V (Proc.devRef .tc main_c_4) : IVec S_ 32))) (V (Proc.devRef .tc main_v17) : IVec S2048 32)) := by
  after_results <;> rfl
theorem read4_v19_1 : after hostOps0_4 V (Proc.devRef .tc main_v19_1)
    = (Host.sort3 S2048 0 comparator_i32_i32_i32_d0 (V (Proc.devRef .tc main_v15) : IVec S2048 32) (V (Proc.devRef .tc main_v6) : IVec S2048 32)
        (V (Proc.devRef .tc main_v18) : IVec S2048 32)).2.1 := by
  after_results <;> rfl
theorem read4_v19_2 : after hostOps0_4 V (Proc.devRef .tc main_v19_2)
    = (Host.sort3 S2048 0 comparator_i32_i32_i32_d0 (V (Proc.devRef .tc main_v15) : IVec S2048 32) (V (Proc.devRef .tc main_v6) : IVec S2048 32)
        (V (Proc.devRef .tc main_v18) : IVec S2048 32)).2.2 := by
  after_results <;> rfl
theorem read4_v22 : after hostOps0_4 V (Proc.devRef .tc main_v22) = hostCount (V (Proc.devRef .tc main_v12) : IVec S2048 1) := by
  after_results <;> rfl
theorem read4_v23 : after hostOps0_4 V (Proc.devRef .tc main_v23) = broadcastInDim S1 ![] bcast_S_S1 (constantI S_ 32 0#32) := by
  after_results <;> rfl
theorem read5_v24 : after hostOps0_5 V (Proc.devRef .tc main_v24)
    = Host.reduceWindow IntOp.addi ![4] ![1] ![3] ![0] (V (Proc.devRef .tc main_v22) : IVec S4 32)
        (broadcastInDim S_ ![] bcast_S_S_ (constantI S_ 32 0#32)) reduceWindows_S4_S4_w4s1p3_0 h_S_ := by
  after_results <;> rfl
theorem read6_v25 : after hostOps0_6 V (Proc.devRef .tc main_v25)
    = concatenate S5 0 [⟨S1, (V (Proc.devRef .tc main_v23) : IVec S1 32)⟩, ⟨S4, (V (Proc.devRef .tc main_v24) : IVec S4 32)⟩] concatenates_S1_S4_S5_d0 := by
  after_results <;> rfl
theorem read6_v26 : after hostOps0_6 V (Proc.devRef .tc main_v26)
    = broadcastInDim S2048x1 ![0] bcast_S2048_S2048x1_0 (V (Proc.devRef .tc main_arg1) : IVec S2048 32) := by
  after_results <;> rfl

end Cert.Proof.Lookup
-- ==== Proof.Ranks.lean ====
/-
Where the owned positions stand in the sorted list.

A list of 2048 positions, some of them owned.  Sorting by the key that keeps an owned position as it is and sends any other
2048 further puts the owned ones first, in their order; so the owned positions below a bound are a first stretch of the list,
as long as there are such positions.
-/
module

public import Mathlib.Data.Fintype.Card
public import Mathlib.Data.Finset.Card
public import Mathlib.Order.Interval.Finset.Fin

@[expose] public section

namespace Cert.Proof.Lookup

variable (M : Fin 2048 → Prop) [DecidablePred M]

/-- The key a position is sorted by. -/
def key (p : Fin 2048) : Nat := if M p then p.val else 2048 + p.val

/-- How many owned positions lie below `k`. -/
def before (k : Nat) : Nat := (Finset.univ.filter fun p : Fin 2048 => M p ∧ p.val < k).card

theorem key_inj {p p' : Fin 2048} (h : key M p = key M p') : p = p' := by
  have hp := p.isLt
  have hp' := p'.isLt
  unfold key at h
  split at h <;> split at h <;> exact Fin.ext (by omega)

theorem before_mono {k k' : Nat} (h : k ≤ k') : before M k ≤ before M k' :=
  Finset.card_le_card fun p hp => by
    rw [Finset.mem_filter] at hp ⊢
    exact ⟨hp.1, hp.2.1, by omega⟩

theorem before_le (k : Nat) : before M k ≤ 2048 := by
  unfold before
  exact (Finset.card_filter_le _ _).trans (by rw [Finset.card_univ, Fintype.card_fin])

/-- One more owned position, one more counted. -/
theorem before_lt {p : Fin 2048} {k : Nat} (hM : M p) (h : p.val < k) : before M p.val < before M k := by
  refine Finset.card_lt_card ((Finset.ssubset_iff_of_subset fun x hx => ?_).mpr ⟨p, ?_, ?_⟩)
  · rw [Finset.mem_filter] at hx ⊢
    exact ⟨hx.1, hx.2.1, by omega⟩
  · exact Finset.mem_filter.mpr ⟨Finset.mem_univ _, hM, h⟩
  · intro hx
    exact absurd (Finset.mem_filter.mp hx).2.2 (lt_irrefl _)

variable (σ : Fin 2048 → Fin 2048) (hσ : Function.Injective σ) (hord : ∀ i j, i < j → ¬ key M (σ j) < key M (σ i))

include hσ hord

theorem key_lt_iff (i j : Fin 2048) : key M (σ i) < key M (σ j) ↔ i < j := by
  constructor
  · intro h
    by_contra hn
    rcases lt_or_eq_of_le (not_lt.mp hn) with hlt | heq
    · exact hord j i hlt h
    · subst heq
      exact lt_irrefl _ h
  · intro h
    rcases lt_trichotomy (key M (σ i)) (key M (σ j)) with hl | he | hg
    · exact hl
    · exact absurd (hσ (key_inj M he)) (ne_of_lt h)
    · exact absurd hg (hord i j h)

/-- A place in the sorted list is the number of positions sorted before the one it holds. -/
theorem place_eq (q : Fin 2048) : (Finset.univ.filter fun p : Fin 2048 => key M p < key M (σ q)).card = q.val := by
  have hs : Function.Surjective σ := Finite.injective_iff_surjective.mp hσ
  have h : (Finset.univ.filter fun p : Fin 2048 => key M p < key M (σ q)) = (Finset.Iio q).image σ := by
    ext p
    simp only [Finset.mem_filter, Finset.mem_univ, true_and, Finset.mem_image, Finset.mem_Iio]
    constructor
    · intro hp
      obtain ⟨i, rfl⟩ := hs p
      exact ⟨i, (key_lt_iff M σ hσ hord i q).mp hp, rfl⟩
    · rintro ⟨i, hi, rfl⟩
      exact (key_lt_iff M σ hσ hord i q).mpr hi
  rw [h, Finset.card_image_of_injective _ hσ, Fin.card_Iio]

/-- An owned position stands at the number of owned positions below it. -/
theorem place_owned {q : Fin 2048} (hM : M (σ q)) : q.val = before M (σ q).val := by
  rw [← place_eq M σ hσ hord q]
  unfold before
  congr 1
  ext p
  simp only [Finset.mem_filter, Finset.mem_univ, true_and]
  have hp := p.isLt
  have hq := (σ q).isLt
  unfold key
  rw [if_pos hM]
  split
  · next h => exact ⟨fun hl => ⟨h, hl⟩, fun hl => hl.2⟩
  · next h => exact ⟨fun hl => by omega, fun hl => absurd hl.1 h⟩

/-- The first places, as many as there are owned positions, hold owned ones. -/
theorem owned_of_place {q : Fin 2048} (h : q.val < before M 2048) : M (σ q) := by
  by_contra hM
  rw [← place_eq M σ hσ hord q] at h
  refine absurd h (not_lt.mpr (Finset.card_le_card fun p hp => ?_))
  rw [Finset.mem_filter] at hp ⊢
  refine ⟨hp.1, ?_⟩
  have hp' := p.isLt
  unfold key
  rw [if_pos hp.2.1, if_neg hM]
  omega

/-- A place in the stretch of positions from `a` to `b` holds an owned position there. -/
theorem stretch {a b : Nat} (hb : b ≤ 2048) {q : Fin 2048} (h1 : before M a ≤ q.val) (h2 : q.val < before M b) :
    M (σ q) ∧ a ≤ (σ q).val ∧ (σ q).val < b := by
  have hM : M (σ q) := owned_of_place M σ hσ hord (lt_of_lt_of_le h2 (before_mono M hb))
  have hq := place_owned M σ hσ hord hM
  refine ⟨hM, ?_, ?_⟩
  · by_contra hn
    have := before_lt M hM (not_le.mp hn)
    omega
  · by_contra hn
    have := before_mono M (not_lt.mp hn)
    omega

/-- Every owned position from `a` to `b` has a place in that stretch. -/
theorem covered {a b : Nat} {p : Fin 2048} (hM : M p) (h1 : a ≤ p.val) (h2 : p.val < b) :
    ∃ q : Fin 2048, before M a ≤ q.val ∧ q.val < before M b ∧ σ q = p := by
  obtain ⟨q, rfl⟩ := Finite.injective_iff_surjective.mp hσ p
  refine ⟨q, ?_, ?_, rfl⟩
  · rw [place_owned M σ hσ hord hM]
    exact before_mono M h1
  · rw [place_owned M σ hσ hord hM]
    exact before_lt M hM h2

end Cert.Proof.Lookup
-- ==== Proof.Bounds.lean ====
/-
The bounds of the chunks in the sorted list: the running counts of owned indices.
-/
module

public import proofs.«01_k».proof.Proof.Reads
public import proofs.«01_k».proof.Proof.Ranks
public import Idealize.ShloMosaic.Lib.IndicatorCount

@[expose] public section

noncomputable section

namespace Cert.Proof.Lookup

open Cert.KernelIdeal Cert.KernelIdeal.Gen
open Idealize.ShloMosaic Idealize.ShloMosaic.TcCoe Idealize.ShloMosaic.ValueIdx

/-! ## The running sums -/

theorem window_eq (w : Fin 4 → BitVec 32) (j : Fin 4) :
    Host.reduceWindow (s := S4) (t := S4) (u := S_) IntOp.addi ![4] ![1] ![3] ![0] (fun i => w (i 0)) (broadcastInDim S_ ![] bcast_S_S_ (constantI S_ 32 0#32))
      reduceWindows_S4_S4_w4s1p3_0 h_S_ (ix1 j)
      = (![0 + 0 + 0 + 0 + w 0, 0 + 0 + 0 + w 0 + w 1, 0 + 0 + w 0 + w 1 + w 2, 0 + w 0 + w 1 + w 2 + w 3] : Fin 4 → BitVec 32) j := by
  match j with
  | ⟨0, _⟩ => rfl
  | ⟨1, _⟩ => rfl
  | ⟨2, _⟩ => rfl
  | ⟨3, _⟩ => rfl

theorem hostBound_eq (w : Fin 4 → BitVec 32) (j : Fin 5) :
    hostBound (fun i => w (i 0)) (ix1 j) = (![0, w 0, w 0 + w 1, w 0 + w 1 + w 2, w 0 + w 1 + w 2 + w 3] : Fin 5 → BitVec 32) j := by
  have h : ∀ (x : IVec S1 32) (y : Fin 4 → BitVec 32), concatenate S5 0 [⟨S1, x⟩, ⟨S4, fun i => y (i 0)⟩] concatenates_S1_S4_S5_d0 (ix1 j)
      = (![x (ix1 0), y 0, y 1, y 2, y 3] : Fin 5 → BitVec 32) j := by
    intro x y
    match j with
    | ⟨0, _⟩ => exact congrArg x (funext fun a => by match a with | ⟨0, _⟩ => rfl)
    | ⟨1, _⟩ => rfl
    | ⟨2, _⟩ => rfl
    | ⟨3, _⟩ => rfl
    | ⟨4, _⟩ => rfl
  unfold hostBound
  rw [show Host.reduceWindow (s := S4) (t := S4) (u := S_) IntOp.addi ![4] ![1] ![3] ![0] (fun i => w (i 0)) (broadcastInDim S_ ![] bcast_S_S_ (constantI S_ 32 0#32))
      reduceWindows_S4_S4_w4s1p3_0 h_S_
      = fun i => (![0 + 0 + 0 + 0 + w 0, 0 + 0 + 0 + w 0 + w 1, 0 + 0 + w 0 + w 1 + w 2, 0 + w 0 + w 1 + w 2 + w 3] : Fin 4 → BitVec 32) (i 0) from
    funext fun i => by
      rw [show i = ix1 (i 0) from funext fun a => by match a with | ⟨0, _⟩ => rfl]
      exact window_eq w (i 0)]
  rw [h]
  match j with
  | ⟨0, _⟩ => rfl
  | ⟨1, _⟩ => simp
  | ⟨2, _⟩ => simp
  | ⟨3, _⟩ => simp
  | ⟨4, _⟩ => simp

/-! ## The counts of a chunk -/

/-- How many of chunk `j`'s positions are marked. -/
def marked (k : IVec S2048 1) (j : Fin 4) : Nat := (Finset.univ.filter fun p : Fin 512 => k (ix1 ⟨512 * j.val + p.val, by omega⟩) = 1#1).card

theorem hostCount_eq (k : IVec S2048 1) (j : Fin 4) : hostCount k (ix1 j) = BitVec.ofNat 32 (marked k j) := by
  unfold hostCount
  have hr : S4x512.Reduces [1] S4 := by decide
  rw [Host.reduce_eq_fold_single IntOp.addi _ _ reducesTo_S4x512_S4_d1 hr h_S_ (ix1 j)]
  have h : (extui 32 (fun i => shapeCast S4x512 k shapeCasts_S2048_S4x512 i) natLt_1_32 ∘ hr.lift (ix1 j))
      = fun p : Fin 512 => (k (ix1 ⟨512 * j.val + p.val, by omega⟩)).setWidth 32 := by
    funext p
    show (shapeCast S4x512 k shapeCasts_S2048_S4x512 (hr.lift (ix1 j) p)).setWidth 32 = _
    refine congrArg (BitVec.setWidth 32) (shapeCast_apply k shapeCasts_S2048_S4x512 _ (ix1 ⟨512 * j.val + p.val, by have : p.val < 512 := p.isLt; omega⟩) ?_)
    rw [Shape.rowMajor_val_two, Shape.rowMajor_val_one]
    show 512 * j.val + p.val = j.val * 512 + p.val
    omega
  refine Eq.trans (congrArg (Finset.fold IntOp.addi _ · (Finset.univ : Finset (Fin 512))) h) (IndicatorCount.fold_addi_setWidth_eq_card (w := 32) (fun p : Fin 512 => k (ix1 ⟨512 * j.val + p.val, by omega⟩)) Finset.univ)

/-- A position is marked. -/
def Marked (k : IVec S2048 1) (p : Fin 2048) : Prop := k (ix1 p) = 1#1

instance (k : IVec S2048 1) : DecidablePred (Marked k) := fun p => inferInstanceAs (Decidable (k (ix1 p) = 1#1))

theorem before_zero (k : IVec S2048 1) : before (Marked k) 0 = 0 :=
  Finset.card_eq_zero.mpr (Finset.filter_eq_empty_iff.mpr fun p _ h => absurd h.2 (Nat.not_lt_zero _))

/-- A chunk more, its marked positions more. -/
theorem before_chunk (k : IVec S2048 1) (j : Fin 4) : before (Marked k) (512 * (j.val + 1)) = before (Marked k) (512 * j.val) + marked k j := by
  have hj := j.isLt
  let e : Fin 512 → Fin 2048 := fun p => ⟨512 * j.val + p.val, by omega⟩
  have he : Function.Injective e := fun p p' h => Fin.ext (by have := congrArg Fin.val h; simp only [e] at this; omega)
  unfold before marked
  rw [← Finset.card_image_of_injective (Finset.univ.filter fun p : Fin 512 => k (ix1 (e p)) = 1#1) he, ← Finset.card_union_of_disjoint]
  · congr 1
    ext p
    simp only [Finset.mem_filter, Finset.mem_univ, true_and, Finset.mem_union, Finset.mem_image]
    constructor
    · rintro ⟨hm, hp⟩
      by_cases hl : p.val < 512 * j.val
      · exact Or.inl ⟨hm, hl⟩
      · have hep : e ⟨p.val - 512 * j.val, by omega⟩ = p := Fin.ext (by simp only [e]; omega)
        exact Or.inr ⟨⟨p.val - 512 * j.val, by omega⟩, by rw [hep]; exact hm, hep⟩
    · rintro (⟨hm, hp⟩ | ⟨q, hq, rfl⟩)
      · exact ⟨hm, by omega⟩
      · refine ⟨hq, ?_⟩
        have := q.isLt
        simp only [e]
        omega
  · refine Finset.disjoint_left.mpr fun p h1 h2 => ?_
    obtain ⟨q, _, rfl⟩ := Finset.mem_image.mp h2
    have := (Finset.mem_filter.mp h1).2.2
    simp only [e] at this
    omega

/-- The count of a chunk as a word. -/
def count (k : IVec S2048 1) (j : Fin 4) : BitVec 32 := BitVec.ofNat 32 (marked k j)

/-- The bounds the kernel is given count the marked positions before each chunk. -/
theorem bound_eq (k : IVec S2048 1) (j : Nat) (hj : j ≤ 4) :
    (at5 (hostBound (hostCount k)) j).toNat = before (Marked k) (512 * j) := by
  have hc : hostCount k = fun i => count k (i 0) := funext fun i => by
    rw [show i = ix1 (i 0) from funext fun a => by match a with | ⟨0, _⟩ => rfl]
    exact hostCount_eq k (i 0)
  have h0 : before (Marked k) (512 * 1) = before (Marked k) (512 * 0) + marked k 0 := before_chunk k 0
  have h1 : before (Marked k) (512 * 2) = before (Marked k) (512 * 1) + marked k 1 := before_chunk k 1
  have h2 : before (Marked k) (512 * 3) = before (Marked k) (512 * 2) + marked k 2 := before_chunk k 2
  have h3 : before (Marked k) (512 * 4) = before (Marked k) (512 * 3) + marked k 3 := before_chunk k 3
  have hz : before (Marked k) (512 * 0) = 0 := before_zero k
  have hl : before (Marked k) (512 * 4) ≤ 2048 := before_le (Marked k) _
  rw [hc]
  unfold at5
  rw [dif_pos (by omega), hostBound_eq (count k)]
  have e : ∀ n : Nat, n ≤ 2048 → (BitVec.ofNat 32 n).toNat = n := fun n hn => by rw [BitVec.toNat_ofNat]; exact Nat.mod_eq_of_lt (by omega)
  match j, hj with
  | 0, _ => exact hz.symm
  | 1, _ =>
    show (BitVec.ofNat 32 (marked k 0)).toNat = _
    rw [e _ (by omega)]; omega
  | 2, _ =>
    show (BitVec.ofNat 32 (marked k 0) + BitVec.ofNat 32 (marked k 1)).toNat = _
    rw [← BitVec.ofNat_add, e _ (by omega)]; omega
  | 3, _ =>
    show (BitVec.ofNat 32 (marked k 0) + BitVec.ofNat 32 (marked k 1) + BitVec.ofNat 32 (marked k 2)).toNat = _
    rw [← BitVec.ofNat_add, ← BitVec.ofNat_add, e _ (by omega)]; omega
  | 4, _ =>
    show (BitVec.ofNat 32 (marked k 0) + BitVec.ofNat 32 (marked k 1) + BitVec.ofNat 32 (marked k 2) + BitVec.ofNat 32 (marked k 3)).toNat = _
    rw [← BitVec.ofNat_add, ← BitVec.ofNat_add, ← BitVec.ofNat_add, e _ (by omega)]; omega

end Cert.Proof.Lookup
-- ==== Proof.Order.lean ====
/-
The sorted positions: which position the host's sort puts at each place, and the lists read there.
-/
module

public import proofs.«01_k».proof.Proof.Bounds
public import Idealize.ShloMosaic.Lib.SortFacts

@[expose] public section

noncomputable section

namespace Cert.Proof.Lookup

open Cert.KernelIdeal Cert.KernelIdeal.Gen
open Idealize.ShloMosaic Idealize.ShloMosaic.TcCoe Idealize.ShloMosaic.ValueIdx

variable (c : Dev nD) (x : IVec S2048 32)

theorem hostLow_eq (i : S_.Idx) : hostLow c i = lowWord c := by
  have h : ∀ c : Dev nD, hostLow c (fun a => a.elim0) = lowWord c := by decide
  exact h c

theorem lowWord_eq : lowWord c = BitVec.ofNat 32 (8192 * c.val) := by
  revert c
  decide

theorem low_nat : (lowWord c).toNat = 8192 * c.val := by
  revert c
  decide

/-- The host's mark is the kernel's. -/
theorem hostMask_eq (p : Fin 2048) : hostMask c x (ix1 p) = mine (lowWord c) (x (ix1 p)) := by
  have h := hostLow_eq c
  show IntOp.andi (IntOp.cmpi .sge (x (ix1 p)) (hostLow c _)) (IntOp.cmpi .slt (x (ix1 p)) (IntOp.addi (hostLow c _) 8192#32)) = _
  rw [h]
  rfl

/-- Device `c` owns the index at position `p`. -/
abbrev Owned : Fin 2048 → Prop := Marked (hostMask c x)

theorem iota_apply (p : Fin 2048) : (iotaInDim S2048 32 0 : IVec S2048 32) (ix1 p) = BitVec.ofNat 32 p.val := rfl

theorem hostKey_eq (p : Fin 2048) : hostKey c x (ix1 p) = BitVec.ofNat 32 (key (Owned c x) p) := by
  have e : hostKey c x (ix1 p) = Scalar.select (hostMask c x (ix1 p)) (BitVec.ofNat 32 p.val) (2048#32 + BitVec.ofNat 32 p.val) := rfl
  rw [e]
  unfold key Scalar.select
  by_cases h : hostMask c x (ix1 p) = 1#1
  · rw [if_pos (show Owned c x p from h)]
    exact if_pos h
  · rw [if_neg (show ¬ Owned c x p from h), BitVec.ofNat_add]
    exact if_neg h

theorem key_bound (M : Fin 2048 → Prop) [DecidablePred M] (p : Fin 2048) : key M p < 4096 := by
  have := p.isLt
  unfold key
  split <;> omega

/-- Small words compare as the numbers they write. -/
theorem slt_small {a b : Nat} (ha : a < 4096) (hb : b < 4096) :
    (IntOp.cmpi .slt (BitVec.ofNat 32 a) (BitVec.ofNat 32 b) == 1#1) = decide (a < b) := by
  have e : IntOp.cmpi .slt (BitVec.ofNat 32 a) (BitVec.ofNat 32 b) = BitVec.ofBool ((BitVec.ofNat 32 a).slt (BitVec.ofNat 32 b)) := rfl
  have h : (BitVec.ofNat 32 a).slt (BitVec.ofNat 32 b) = decide (a < b) := by
    have e : ∀ n : Nat, n < 4096 → (BitVec.ofNat 32 n).toInt = n := fun n hn => by
      rw [BitVec.toInt_eq_toNat_cond, BitVec.toNat_ofNat, Nat.mod_eq_of_lt (by omega), if_pos (by omega)]
    rw [BitVec.slt_eq_decide, e a ha, e b hb]
    exact decide_eq_decide.mpr (by omega)
  rw [e, h]
  by_cases hab : a < b <;> simp [hab]

/-- The position sorted before another. -/
def earlier (p p' : Fin 2048) : Bool :=
  comparator_i32_i32_i32_d0 (hostKey c x (ix1 p), (iotaInDim S2048 32 0 : IVec S2048 32) (ix1 p), hostLoc c x (ix1 p))
    (hostKey c x (ix1 p'), (iotaInDim S2048 32 0 : IVec S2048 32) (ix1 p'), hostLoc c x (ix1 p')) == 1#1

theorem earlier_eq (p p' : Fin 2048) : earlier c x p p' = decide (key (Owned c x) p < key (Owned c x) p') := by
  show (IntOp.cmpi .slt (hostKey c x (ix1 p)) (hostKey c x (ix1 p')) == 1#1) = _
  rw [hostKey_eq, hostKey_eq]
  exact slt_small (key_bound _ p) (key_bound _ p')

/-- The position at each place of the sorted list. -/
def place : Fin 2048 → Fin 2048 := sortedFrom (earlier c x)

theorem place_inj : Function.Injective (place c x) := sortedFrom_injective _

theorem place_ord (i j : Fin 2048) (h : i < j) : ¬ key (Owned c x) (place c x j) < key (Owned c x) (place c x i) := by
  have := sortedFrom_noInversion (earlier c x) (earlier c x)
    (fun a b hab => by rw [earlier_eq] at hab ⊢; exact decide_eq_false (by have := of_decide_eq_true hab; omega))
    (fun _ _ h => h)
    (fun a b d h1 h2 => by
      rw [earlier_eq] at h1 h2 ⊢
      have h1 := of_decide_eq_false h1
      have h2 := of_decide_eq_false h2
      exact decide_eq_false (by omega)) i j h
  rw [earlier_eq] at this
  exact of_decide_eq_false this

/-- The three lists sorted together. -/
abbrev hostSort : IVec S2048 32 × IVec S2048 32 × IVec S2048 32 :=
  Host.sort3 S2048 0 comparator_i32_i32_i32_d0 (hostKey c x) (iotaInDim S2048 32 0) (hostLoc c x)

theorem along_ix1 (q k : Fin 2048) : (Shape.Idx.along (s := S2048) (ix1 q) 0 k) = ix1 k := by
  funext a
  match a with
  | ⟨0, _⟩ => rfl

/-- Three lists sorted together, read at a place: each at the position the sort puts there. -/
theorem sort3_apply (cmp : BitVec 32 × BitVec 32 × BitVec 32 → BitVec 32 × BitVec 32 × BitVec 32 → BitVec 1) (a b d : IVec S2048 32) (q : Fin 2048) :
    (Host.sort3 S2048 0 cmp a b d).2.1 (ix1 q) = b (ix1 (sortedFrom (fun k k' : Fin 2048 => cmp (a (ix1 k), b (ix1 k), d (ix1 k)) (a (ix1 k'), b (ix1 k'), d (ix1 k')) == 1#1) q))
    ∧ (Host.sort3 S2048 0 cmp a b d).2.2 (ix1 q) = d (ix1 (sortedFrom (fun k k' : Fin 2048 => cmp (a (ix1 k), b (ix1 k), d (ix1 k)) (a (ix1 k'), b (ix1 k'), d (ix1 k')) == 1#1) q)) := by
  unfold Host.sort3
  rw [dif_pos (show 0 < S2048.rank by decide)]
  have e : ∀ k k' : Fin 2048, (cmp (a (Shape.Idx.along (s := S2048) (ix1 q) 0 k), b (Shape.Idx.along (s := S2048) (ix1 q) 0 k), d (Shape.Idx.along (s := S2048) (ix1 q) 0 k))
      (a (Shape.Idx.along (s := S2048) (ix1 q) 0 k'), b (Shape.Idx.along (s := S2048) (ix1 q) 0 k'), d (Shape.Idx.along (s := S2048) (ix1 q) 0 k')) == 1#1)
      = (cmp (a (ix1 k), b (ix1 k), d (ix1 k)) (a (ix1 k'), b (ix1 k'), d (ix1 k')) == 1#1) := fun k k' => by rw [along_ix1, along_ix1]
  have hf := funext fun k => funext (e k)
  have hs := congrArg (fun f : Fin 2048 → Fin 2048 → Bool => sortedFrom f q) hf
  exact ⟨(congrArg (fun k : Fin 2048 => b (Shape.Idx.along (s := S2048) (ix1 q) 0 k)) hs).trans (congrArg b (along_ix1 q _)),
    (congrArg (fun k : Fin 2048 => d (Shape.Idx.along (s := S2048) (ix1 q) 0 k)) hs).trans (congrArg d (along_ix1 q _))⟩

theorem sort_pos (q : Fin 2048) : (hostSort c x).2.1 (ix1 q) = BitVec.ofNat 32 (place c x q).val :=
  (sort3_apply _ _ _ _ q).1

theorem sort_loc (q : Fin 2048) : (hostSort c x).2.2 (ix1 q) = hostLoc c x (ix1 (place c x q)) :=
  (sort3_apply _ _ _ _ q).2

/-- A signed word kept between 0 and 8191. -/
theorem clip_lt (w : BitVec 32) : (IntOp.minsi 8191#32 (IntOp.maxsi 0#32 w)).toNat < 8192 := by
  unfold IntOp.minsi IntOp.maxsi
  rw [BitVec.slt_eq_decide, BitVec.slt_eq_decide]
  by_cases h : w.toInt < 0
  · simp [h]
  · have e : (0#32 : BitVec 32).toInt = 0 := rfl
    have e' : (8191#32 : BitVec 32).toInt = 8191 := rfl
    rw [e, e']
    have ht := BitVec.toInt_eq_toNat_cond w
    have hw := w.isLt
    simp only [h, decide_false, Bool.false_eq_true, if_false]
    split
    · simp
    · next hn =>
      have hn' : ¬ (8191 : Int) < w.toInt := by simpa using hn
      split at ht <;> omega

/-- A block row is within the block. -/
theorem hostLoc_lt (p : Fin 2048) : (hostLoc c x (ix1 p)).toNat < 8192 :=
  clip_lt (IntOp.subi (x (ix1 p)) (hostLow c _))

theorem cmpi_and {a b d e : BitVec 32} : IntOp.andi (IntOp.cmpi .sge a b) (IntOp.cmpi .slt d e) = 1#1 ↔ b.toInt ≤ a.toInt ∧ d.toInt < e.toInt := by
  have h1 : IntOp.cmpi .sge a b = BitVec.ofBool (b.sle a) := rfl
  have h2 : IntOp.cmpi .slt d e = BitVec.ofBool (d.slt e) := rfl
  have h3 : ∀ p q : Bool, IntOp.andi (BitVec.ofBool p) (BitVec.ofBool q) = 1#1 ↔ p = true ∧ q = true := by decide
  rw [h1, h2, h3, BitVec.sle_eq_decide, BitVec.slt_eq_decide, decide_eq_true_iff, decide_eq_true_iff]

/-- A device owns the rows of its block of the table. -/
theorem mine_iff (w : BitVec 32) : mine (lowWord c) w = 1#1 ↔ 8192 * (c.val : Int) ≤ w.toInt ∧ w.toInt < 8192 * (c.val : Int) + 8192 := by
  unfold mine
  rw [cmpi_and]
  have h1 : (lowWord c).toInt = 8192 * (c.val : Int) := by revert c; decide
  have h2 : (Scalar.addi (lowWord c) 8192#32).toInt = 8192 * (c.val : Int) + 8192 := by revert c; decide
  rw [h1, h2]

/-- An owned index's row of the block is its distance from the block's first row. -/
theorem hostLoc_owned (p : Fin 2048) (h : mine (lowWord c) (x (ix1 p)) = 1#1) :
    ((hostLoc c x (ix1 p)).toNat : Int) = (x (ix1 p)).toInt - 8192 * c.val := by
  obtain ⟨h1, h2⟩ := (mine_iff c _).mp h
  have e : hostLoc c x (ix1 p) = IntOp.minsi 8191#32 (IntOp.maxsi 0#32 (IntOp.subi (x (ix1 p)) (hostLow c (fun a => a.elim0)))) := rfl
  rw [e, hostLow_eq]
  have hc : c.val < 4 := c.isLt
  have hl : (lowWord c).toNat = 8192 * c.val := low_nat c
  generalize x (ix1 p) = w at h1 h2
  have ht := BitVec.toInt_eq_toNat_cond w
  have hw := w.isLt
  have hn : (w.toNat : Int) = w.toInt := by split at ht <;> omega
  have hs : (IntOp.subi w (lowWord c)).toNat = w.toNat - 8192 * c.val := by
    show (w - lowWord c).toNat = _
    rw [BitVec.toNat_sub_of_le (by rw [BitVec.le_def, hl]; omega), hl]
  generalize IntOp.subi w (lowWord c) = d at hs
  have hd := BitVec.toInt_eq_toNat_cond d
  have hdi : d.toInt = (d.toNat : Int) := by split at hd <;> omega
  unfold IntOp.minsi IntOp.maxsi
  rw [BitVec.slt_eq_decide, BitVec.slt_eq_decide]
  rw [show (0#32 : BitVec 32).toInt = 0 from rfl, show (8191#32 : BitVec 32).toInt = 8191 from rfl]
  rw [if_neg (c := decide (d.toInt < 0) = true) (by rw [decide_eq_true_iff]; omega), if_neg (by rw [decide_eq_true_iff]; omega), hs]
  omega

end Cert.Proof.Lookup
-- ==== Proof.Fetch.lean ====
/-
  Gathering one chunk's rows, as the body does it: the loops that start the row copies, then the loops that wait for them.
-/
module

public import proofs.«01_k».proof.Proof.Sheet

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} (D : Sheet F c)

/-- The bounds and the indices. -/
def words : sProp (MM F) := iprop((bndLoc c ↦{fullShare} D.bnd) ∗ (idxLoc c ↦{fullShare} D.idx))
/-- The lists of positions and of block rows. -/
def lists : sProp (MM F) := iprop((posLoc c ↦{fullShare} D.pos) ∗ (locLoc c ↦{fullShare} D.loc))
/-- Between gathers: the semaphores of the row copies at rest, the gather buffer at some contents. -/
def rest : sProp (MM F) := iprop((∃ f : GatC F, gatLoc c ↦{fullShare} f) ∗ bigSep (Finset.univ : Finset (Fin 16)) (Idle c D.ft))
/-- Chunk `j`'s copies all started, the last sixteen under way. -/
def midway (j : Dev nD) : sProp (MM F) :=
  iprop(gatherAt c (D.T j) (max ((D.T j).e.toNat - 16) (D.T j).s.toNat) (D.T j).e.toNat
    ∗ ∃ f : GatC F, gatLoc c ↦[Finset.univ \ (Finset.Ico (D.T j).s.toNat (D.T j).e.toNat).biUnion fun q => rowOf (at1 (D.T j).pos q).toNat]{fullShare} f)
/-- Chunk `j` gathered: whatever owned rows make of the buffer's contents is the chunk the sheet says. -/
def gathered (j : Dev nD) : sProp (MM F) :=
  iprop((∃ f : GatC F, ⌜k0_pay8 (lowWord c) (chunkI D.idx j) (chunkI D.idx j) (chunkG f j) = D.own j⌝ ∗ gatLoc c ↦{fullShare} f)
    ∗ bigSep (Finset.univ : Finset (Fin 16)) (Idle c D.ft))

theorem Sheet.chk (j : Dev nD) : k0_chk1 (at5 D.bnd j.val) (at5 D.bnd (j.val + 1)) := chk1_of (D.hs j) (D.he j)

variable (O : CellTallies nD τ sig Unit) {α : Type} {Qa : α → sProp (MM F)} (j : Dev nD)

theorem step_start (hw : k0_chk1 (D.T j).s (D.T j).e) {ini : BitVec 32} {b2} {kk : BitVec 32 → Prog (TpuEff nD τ sig (Elt F) Λ₀ .tc) α} :
    iprop(rest D ∗ lists D ∗ Owe c O ∗ gatherWaits c O)
      ⊢ iprop((∀ acc, iprop(midway D j ∗ lists D ∗ Owe c O) -∗ Runs c (kk acc) Qa)
        -∗ Runs c (Scf.Loop.for (k0_t1_loop (D.T j).s (D.T j).e) (k0_t1_ok (D.T j).s (D.T j).e hw) ini (startBody (D.T j).s (D.T j).e hw) >>= fun v19 =>
            Scf.Loop.for (k0_t2_loop (D.T j).s (D.T j).e) (k0_t2_ok (D.T j).s (D.T j).e hw) v19 b2 >>= kk) Qa) := by
  have hst : iprop((∃ f : GatC F, gatLoc c ↦{fullShare} f) ∗ bigSep (Finset.univ : Finset (Fin 16)) (Idle c D.ft)) ⊢ _ := gatherAt_start c (D.T j)
  unfold rest lists midway Owe
  iintro ⟨Hr, ⟨Hp, Hl⟩, HO, #Hw⟩ Hk
  ihave Hr := hst $$ Hr
  icases Hr with ⟨Hg, Hrest⟩
  iapply (start_loops c (D.T j) O hw) $$ [Hg Hp Hl HO]
  · isplitl [Hg]; · iexact Hg
    unfold rides
    isplitl [Hp]; · iexact Hp
    isplitl [Hl]; · iexact Hl
    isplitl [HO]; · iexact HO
    iexact Hw
  iintro %acc ⟨Hg, Hri⟩
  unfold rides
  icases Hri with ⟨Hp, Hl, HO, -⟩
  iapply Hk
  isplitl [Hg Hrest]
  · isplitl [Hg]; · iexact Hg
    iexact Hrest
  isplitl [Hp Hl]
  · isplitl [Hp]; · iexact Hp
    iexact Hl
  iexact HO

theorem step_drain (hw : k0_chk1 (D.T j).s (D.T j).e) {ini : BitVec 32} {b2} {kk : BitVec 32 → Prog (TpuEff nD τ sig (Elt F) Λ₀ .tc) α} :
    iprop(midway D j ∗ lists D ∗ Owe c O ∗ gatherWaits c O)
      ⊢ iprop((∀ acc, iprop(gathered D j ∗ lists D ∗ Owe c O) -∗ Runs c (kk acc) Qa)
        -∗ Runs c (Scf.Loop.for (k0_t3_loop (D.T j).s (D.T j).e) (k0_t3_ok (D.T j).s (D.T j).e hw) ini (drainBody (D.T j).s (D.T j).e hw) >>= fun v28 =>
            Scf.Loop.for (k0_t4_loop (D.T j).s (D.T j).e) (k0_t4_ok (D.T j).s (D.T j).e hw) v28 b2 >>= kk) Qa) := by
  unfold gathered lists midway Owe
  iintro ⟨⟨Hg, Hrest⟩, ⟨Hp, Hl⟩, HO, #Hw⟩ Hk
  iapply (drain_loops c (D.T j) O hw) $$ [Hg Hp Hl HO]
  · isplitl [Hg]; · iexact Hg
    unfold rides
    isplitl [Hp]; · iexact Hp
    isplitl [Hl]; · iexact Hl
    isplitl [HO]; · iexact HO
    iexact Hw
  iintro %acc ⟨Hg, Hri⟩
  unfold rides
  icases Hri with ⟨Hp, Hl, HO, -⟩
  ihave He := (gatherAt_end c (D.T j)) $$ [Hg Hrest]
  · isplitl [Hg]; · iexact Hg
    iexact Hrest
  icases He with ⟨⟨%f, %hf, Hgat⟩, Hi⟩
  iapply Hk
  isplitl [Hgat Hi]
  · isplitl [Hgat]
    · iexists f
      isplitr
      · ipureintro; exact D.own_of j f hf
      iexact Hgat
    iexact Hi
  isplitl [Hp Hl]
  · isplitl [Hp]; · iexact Hp
    iexact Hl
  iexact HO

/-- Reading the gathered rows: the chunk made from them is the sheet's, and the gather buffer is at rest again. -/
theorem step_gathered {off : Fin 2 → ℕ} (ho : off = ![512 * j.val, 0]) (inb : ∀ a, off a + S512x1024.size a ≤ S2048x1024.size a) {h1}
    {k : (S512x1024.Idx → Elt F .f32) → Prog (TpuEff nD τ sig (Elt F) Λ₀ .tc) α} :
    gathered D j ⊢ iprop((∀ f, iprop(rest D ∗ ⌜k0_pay8 (lowWord c) (chunkI D.idx j) (chunkI D.idx j) f = D.own j⌝) -∗ Runs c (k f) Qa)
      -∗ Runs c (.op (.load gatM (Rect.unit (s := S2048x1024) off S512x1024.size inb).toLoadRect h1) k) Qa) := by
  unfold gathered rest
  iintro ⟨⟨%f, %hf, H⟩, Hi⟩ Hk
  iapply (step_rows c ho inb f) $$ H
  iintro H
  iapply Hk
  isplitl
  · isplitl [H]
    · iexists f; iexact H
    iexact Hi
  ipureintro; exact hf

end Cert.Proof.Lookup
-- ==== Proof.Parts1.lean ====
/-
  The first three parts of the body on device `c`: its own chunk gathered and written, the barrier, the first send, and the
  left-hand neighbour's chunk gathered.
-/
module

public import proofs.«01_k».proof.Proof.Fetch

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (S : ∀ c : Dev nD, Sheet F c) (κ : GSem nD τ sig → ℕ) (c : Dev nD)

/-- What each device first writes into each chunk. -/
def own (c j : Dev nD) : ChunkC F := (S c).own j

theorem book_waits_start : book c (own S) κ ⊢ gatherWaits c (O₀ c) := by
  have h := gatherWaits_start (F := F) c
  iintro #H
  ihave ⟨-, #Hl⟩ := (book_recv c (own S) κ 0) $$ H
  iapply h $$ Hl
theorem book_waits (n : ℕ) : book c (own S) κ ⊢ gatherWaits c (owedFrom c n) := by
  have h := gatherWaits_owed (F := F) c n
  iintro #H
  ihave ⟨-, #Hl⟩ := (book_recv c (own S) κ 0) $$ H
  iapply h $$ Hl

/-- Part `n` of the body on the buffers the kernel is called with. -/
abbrev P1 := k0_part1 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P2 := k0_part2 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P3 := k0_part3 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4

theorem part1_run {Qa} :
    iprop(book c (own S) κ ∗ words (S c) ∗ lists (S c) ∗ rest (S c) ∗ Owe c (O₀ c))
      ⊢ iprop((∀ v2 v5 v7 v30, iprop(words (S c) ∗ lists (S c) ∗ gathered (S c) c ∗ Owe c (O₀ c))
          -∗ Qa ⟨c, v2, v5, v7, lowWord c, v30, k0_pay1 c (chunkI (F := F) (S c).idx c)⟩)
        -∗ Runs c (P1 (F := F)) Qa) := by
  unfold P1 words
  simp only [k0_part1_eq_skeleton, k0_part1_skel, lift_then]
  iintro ⟨#Hb, ⟨Hbnd, Hidx⟩, Hl, Hr, HO⟩ Hk
  ihave #Hw := (book_waits_start S κ c) $$ Hb
  iapply (step_device c)
  iapply (step_bound c (j := c.val) (by have := c.isLt; show c.val < 5; have h : c.val < 4 := c.isLt; omega) (o1 c).1 _ (S c).bnd) $$ Hbnd
  iintro Hbnd
  iapply (step_bound c (j := c.val + 1) (by have h : c.val < 4 := c.isLt; omega) (o1 c).2 _ (S c).bnd) $$ Hbnd
  iintro Hbnd
  iapply (step_assume c ((S c).chk c))
  iapply (step_start (S c) (O₀ c) c ((S c).chk c)) $$ [Hl Hr HO]
  · isplitl [Hr]; · iexact Hr
    isplitl [Hl]; · iexact Hl
    isplitl [HO]; · iexact HO
    iexact Hw
  iintro %acc ⟨Hr, Hl, HO⟩
  iapply (step_drain (S c) (O₀ c) c ((S c).chk c)) $$ [Hl Hr HO]
  · isplitl [Hr]; · iexact Hr
    isplitl [Hl]; · iexact Hl
    isplitl [HO]; · iexact HO
    iexact Hw
  iintro %acc2 ⟨Hr, Hl, HO⟩
  iapply (step_members c (o27 c) _ (S c).idx) $$ Hidx
  iintro Hidx
  iapply (wp_done c)
  unfold lowWord
  iapply Hk
  isplitl [Hbnd Hidx]
  · isplitl [Hbnd]; · iexact Hbnd
    iexact Hidx
  isplitl [Hl]; · iexact Hl
  isplitl [Hr]; · iexact Hr
  iexact HO

theorem part2_run (v2 v5 v7 v30 : BitVec 32) {Qa} :
    iprop(book c (own S) κ ∗ words (S c) ∗ gathered (S c) c ∗ OutAny c c ∗ barTok c ∗ slots c ∗ Owe c (O₀ c))
      ⊢ iprop((∀ v63, iprop(words (S c) ∗ rest (S c) ∗ OutAt c c (own S c c) ∗ atPos ER (barCell c) 1 ∅ 0 ∗ met c ∗ slots (c + 1) ∗ Owe c (owedFrom c 0))
          -∗ Qa v63)
        -∗ Runs c (P2 (F := F) c v2 v5 v7 (lowWord c) v30 (k0_pay1 c (chunkI (F := F) (S c).idx c))) Qa) := by
  unfold P2 words
  simp only [k0_part2_eq_skeleton, k0_part2_skel, lift_then]
  iintro ⟨#Hb, ⟨Hbnd, Hidx⟩, Hg, Ho, Ht, Hs, HO⟩ Hk
  iapply (step_members c (o27 c) _ (S c).idx) $$ Hidx
  iintro Hidx
  iapply (step_gathered (S c) c (o28 c)) $$ Hg
  iintro %f ⟨Hr, %hf⟩
  iapply (step_peek c (o28 c)) $$ Ho
  iintro %w Ho
  iapply (step_store c (o28 c)) $$ Ho
  iintro Ho
  iapply (step_barrier c (own S) κ (dev1 c) (dev2 c) (s := (SemArray.scalar (sig.barrier 0 rfl) : Sems sig S_).sem) rfl) $$ [Ht Hs HO]
  · isplitr; · iexact Hb
    isplitl [Ht]; · iexact Ht
    isplitl [Hs]; · iexact Hs
    iexact HO
  iintro ⟨Hat, Hm, Hs, HO⟩
  iapply (wp_done c)
  iapply Hk
  isplitl [Hbnd Hidx]
  · isplitl [Hbnd]; · iexact Hbnd
    iexact Hidx
  isplitl [Hr]; · iexact Hr
  isplitl [Ho]
  · rw [pay2_eq, hf]
    iexact Ho
  isplitl [Hat]; · iexact Hat
  isplitl [Hm]; · iexact Hm
  isplitl [Hs]; · iexact Hs
  iexact HO

theorem send0_pay : iprop((ComAt (c + 1) 0 (own S c c) ∗ emp) ∗ OutAt c c (own S c c)) ⊢ recvPay (own S) (c + 1) 0 := by
  have e3 : (c + 1 + 3 : Dev nD) = c := by revert c; decide
  show _ ⊢ iprop(ComAt (c + 1) 0 (part0 (own S) (c + 1 + 3)) ∗ OutAny (c + 1 + 3) (c + 1 + 3))
  rw [e3]
  iintro ⟨⟨H, -⟩, Ho⟩
  isplitl [H]; · iexact H
  iapply OutAt_any
  iexact Ho

theorem part3_run (v63 : BitVec 32) {Qa} :
    iprop(book c (own S) κ ∗ met c ∗ words (S c) ∗ lists (S c) ∗ rest (S c) ∗ OutAt c c (own S c c) ∗ ComAny (c + 1) 0 ∗ sendTok c 0 ∗ Owe c (owedFrom c 0))
      ⊢ iprop((∀ v95, iprop(words (S c) ∗ lists (S c) ∗ gathered (S c) (c + 3) ∗ sent c 0 ∗ Owe c (owedFrom c 1))
          -∗ Qa ⟨v95, k0_pay3 (lowWord c) (chunkI (F := F) (S c).idx (c + 3)) (chunkI (F := F) (S c).idx (c + 3))⟩)
        -∗ Runs c (P3 (F := F) c (lowWord c) v63) Qa) := by
  unfold P3 words
  simp only [k0_part3_eq_skeleton, k0_part3_skel, lift_then]
  iintro ⟨#Hb, #Hm, ⟨Hbnd, Hidx⟩, Hl, Hr, Ho, Hd, Ht, HO⟩ Hk
  ihave #Hw := (book_waits S κ c 1) $$ Hb
  iapply (step_send_slot c (own S) κ (o29 c) 0 _ _ (own S c c) (Fr := iprop(emp)) (dev3 c) (send_sem 0 _) (recv_sem 0 _) .rfl (send0_pay S c)) $$ [Ho Hd Ht HO]
  · isplitr; · iexact Hb
    isplitr; · iexact Hm
    isplitl [Ht]; · iexact Ht
    isplitl [Ho]; · iexact Ho
    isplitl [Hd]
    · isplitl [Hd]; · iexact Hd
      iempintro
    iexact HO
  iintro ⟨Hs, HO⟩
  have hj : (c + 3 : Dev nD).val < 4 := (c + 3 : Dev nD).isLt
  iapply (step_bound c (j := (c + 3 : Dev nD).val) (by omega) (o30 c).1 _ (S c).bnd) $$ Hbnd
  iintro Hbnd
  iapply (step_bound c (j := (c + 3 : Dev nD).val + 1) (by omega) (o30 c).2 _ (S c).bnd) $$ Hbnd
  iintro Hbnd
  iapply (step_assume c ((S c).chk (c + 3)))
  iapply (step_start (S c) (owedFrom c 1) (c + 3) ((S c).chk (c + 3))) $$ [Hl Hr HO]
  · isplitl [Hr]; · iexact Hr
    isplitl [Hl]; · iexact Hl
    isplitl [HO]; · iexact HO
    iexact Hw
  iintro %acc ⟨Hr, Hl, HO⟩
  iapply (step_drain (S c) (owedFrom c 1) (c + 3) ((S c).chk (c + 3))) $$ [Hl Hr HO]
  · isplitl [Hr]; · iexact Hr
    isplitl [Hl]; · iexact Hl
    isplitl [HO]; · iexact HO
    iexact Hw
  iintro %acc2 ⟨Hr, Hl, HO⟩
  iapply (step_members c (o56 c) _ (S c).idx) $$ Hidx
  iintro Hidx
  iapply (step_members c (o56 c) _ (S c).idx) $$ Hidx
  iintro Hidx
  iapply (wp_done c)
  iapply Hk
  isplitl [Hbnd Hidx]
  · isplitl [Hbnd]; · iexact Hbnd
    iexact Hidx
  isplitl [Hl]; · iexact Hl
  isplitl [Hr]; · iexact Hr
  isplitl [Hs]; · iexact Hs
  iexact HO

end Cert.Proof.Lookup
-- ==== Proof.Parts2.lean ====
/-
  The body's fourth to seventh parts on device `c`: the second and third chunks gathered, each added to what lands from the
  left-hand neighbour and sent on.
-/
module

public import proofs.«01_k».proof.Proof.Parts1

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (S : ∀ c : Dev nD, Sheet F c) (κ : GSem nD τ sig → ℕ) (c : Dev nD)

abbrev P4 := k0_part4 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P5 := k0_part5 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P6 := k0_part6 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P7 := k0_part7 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4

theorem part4_run (v2 v7 v63 v95 : BitVec 32) {Qa} :
    iprop(book c (own S) κ ∗ gathered (S c) (c + 3) ∗ OutAny c (c + 3) ∗ sent c 0 ∗ sendAt c 0 0 ∗ recvTok c 0 ∗ Owe c (owedFrom c 1))
      ⊢ iprop((∀ v138, iprop(rest (S c) ∗ OutAt c (c + 3) (part1 (own S) c) ∗ sendAt c 0 1 ∗ recvAt c 0 1 ∗ ComAny c 0 ∗ OutAny (c + 3) (c + 3) ∗ Owe c (owedFrom c 1))
          -∗ Qa ⟨v138, 4#32⟩)
        -∗ Runs c (P4 (F := F) c v2 v7 v63 v95 (k0_pay3 (lowWord c) (chunkI (F := F) (S c).idx (c + 3)) (chunkI (F := F) (S c).idx (c + 3)))) Qa) := by
  unfold P4
  simp only [k0_part4_eq_skeleton, k0_part4_skel, lift_then]
  iintro ⟨#Hb, Hg, Ho, Hs, Hsa, Ht, HO⟩ Hk
  iapply (step_gathered (S c) (c + 3) (o57 c)) $$ Hg
  iintro %f ⟨Hr, %hf⟩
  iapply (step_peek c (o57 c)) $$ Ho
  iintro %w Ho
  rw [pay4_eq, hf]
  iapply (step_store c (o57 c)) $$ Ho
  iintro Ho
  iapply (step_wait_send c (own S) κ 0 (n := 1) (send_sem 0 _) rfl) $$ [Hs Hsa HO]
  · isplitr; · iexact Hb
    isplitl [Hs]; · iexact Hs
    isplitl [Hsa]; · iexact Hsa
    iexact HO
  iintro ⟨Hsa, -, HO⟩
  iapply (step_wait_recv c (own S) κ 0 (n := 1) (by decide) (recv_sem 0 _) rfl) $$ [Ht HO]
  · isplitr; · iexact Hb
    isplitl [Ht]; · iexact Ht
    iexact HO
  iintro ⟨Hra, Hp, HO⟩
  ihave Hp := (Entails.of_eq (show recvPay (own S) c 0 = iprop(ComAt c 0 (part0 (own S) (c + 3)) ∗ OutAny (c + 3) (c + 3)) from rfl)) $$ Hp
  icases Hp with ⟨Hc, Hn⟩
  iapply (step_load c (o57 c)) $$ Ho
  iintro Ho
  iapply (step_slot c) $$ Hc
  iintro Hc
  iapply (step_load c (o57 c)) $$ Ho
  iintro Ho
  ihave Ho := (OutAt_any c (c + 3) _) $$ Ho
  iapply (step_store c (o57 c)) $$ Ho
  iintro Ho
  iapply (wp_done c)
  iapply Hk
  isplitl [Hr]; · iexact Hr
  isplitl [Ho]; · iexact Ho
  isplitl [Hsa]; · iexact Hsa
  isplitl [Hra]; · iexact Hra
  isplitl [Hc]
  · iapply (ComAt_any c 0 _) $$ Hc
  isplitl [Hn]; · iexact Hn
  iexact HO

theorem send1_pay : iprop((ComAt (c + 1) 1 (part1 (own S) c) ∗ OutAny (c + 3) (c + 3)) ∗ OutAt c (c + 3) (part1 (own S) c)) ⊢ recvPay (own S) (c + 1) 1 := by
  have e3 : (c + 1 + 3 : Dev nD) = c := by revert c; decide
  have e2 : (c + 1 + 2 : Dev nD) = c + 3 := by revert c; decide
  show _ ⊢ iprop(ComAt (c + 1) 1 (part1 (own S) (c + 1 + 3)) ∗ OutAny (c + 1 + 3) (c + 1 + 2) ∗ OutAny (c + 1 + 2) (c + 1 + 2))
  rw [e3, e2]
  iintro ⟨⟨H, Hn⟩, Ho⟩
  isplitl [H]; · iexact H
  isplitl [Ho]
  · iapply OutAt_any
    iexact Ho
  iexact Hn

theorem part5_run (v2 v7 v138 c4 : BitVec 32) {Qa} :
    iprop(book c (own S) κ ∗ met c ∗ words (S c) ∗ lists (S c) ∗ rest (S c) ∗ OutAt c (c + 3) (part1 (own S) c) ∗ (ComAny (c + 1) 1 ∗ OutAny (c + 3) (c + 3))
        ∗ sendTok c 1 ∗ Owe c (owedFrom c 1))
      ⊢ iprop((∀ v144 v168 v173, iprop(words (S c) ∗ lists (S c) ∗ midway (S c) (c + 2) ∗ sent c 1 ∗ Owe c (owedFrom c 2))
          -∗ Qa ⟨v144, at5 (S c).bnd (c + 2 : Dev nD).val, at5 (S c).bnd ((c + 2 : Dev nD).val + 1), (S c).chk (c + 2), v168, 0#32, v173, 1#32⟩)
        -∗ Runs c (P5 (F := F) c v2 v7 v138 c4) Qa) := by
  unfold P5 words
  simp only [k0_part5_eq_skeleton, k0_part5_skel, lift_then]
  iintro ⟨#Hb, #Hm, ⟨Hbnd, Hidx⟩, Hl, Hr, Ho, Hd, Ht, HO⟩ Hk
  ihave #Hw := (book_waits S κ c 2) $$ Hb
  iapply (step_send_slot c (own S) κ (o58 c) 1 _ _ (part1 (own S) c) (Fr := OutAny (c + 3) (c + 3)) (dev4 c) (send_sem 1 _) (recv_sem 1 _) .rfl (send1_pay S c)) $$ [Ho Hd Ht HO]
  · isplitr; · iexact Hb
    isplitr; · iexact Hm
    isplitl [Ht]; · iexact Ht
    isplitl [Ho]; · iexact Ho
    isplitl [Hd]; · iexact Hd
    iexact HO
  iintro ⟨Hs, HO⟩
  have hj : (c + 2 : Dev nD).val < 4 := (c + 2 : Dev nD).isLt
  iapply (step_bound c (j := (c + 2 : Dev nD).val) (by omega) (o59 c).1 _ (S c).bnd) $$ Hbnd
  iintro Hbnd
  iapply (step_bound c (j := (c + 2 : Dev nD).val + 1) (by omega) (o59 c).2 _ (S c).bnd) $$ Hbnd
  iintro Hbnd
  iapply (step_assume c ((S c).chk (c + 2)))
  iapply (step_start (S c) (owedFrom c 2) (c + 2) ((S c).chk (c + 2))) $$ [Hl Hr HO]
  · isplitl [Hr]; · iexact Hr
    isplitl [Hl]; · iexact Hl
    isplitl [HO]; · iexact HO
    iexact Hw
  iintro %acc ⟨Hr, Hl, HO⟩
  iapply (wp_done c)
  iapply Hk
  isplitl [Hbnd Hidx]
  · isplitl [Hbnd]; · iexact Hbnd
    iexact Hidx
  isplitl [Hl]; · iexact Hl
  isplitl [Hr]; · iexact Hr
  isplitl [Hs]; · iexact Hs
  iexact HO

theorem part6_run (v7 v144 v168 v173 : BitVec 32) {Qa} :
    iprop(book c (own S) κ ∗ words (S c) ∗ lists (S c) ∗ midway (S c) (c + 2) ∗ OutAny c (c + 2) ∗ sent c 1 ∗ sendAt c 1 0 ∗ Owe c (owedFrom c 2))
      ⊢ iprop((iprop(words (S c) ∗ lists (S c) ∗ rest (S c) ∗ OutAt c (c + 2) (own S c (c + 2)) ∗ sendAt c 1 1 ∗ Owe c (owedFrom c 2))
          -∗ Qa ⟨⟩)
        -∗ Runs c (P6 (F := F) c v7 (lowWord c) v144 (at5 (S c).bnd (c + 2 : Dev nD).val) (at5 (S c).bnd ((c + 2 : Dev nD).val + 1)) ((S c).chk (c + 2)) v168 0#32 v173 1#32) Qa) := by
  unfold P6 words
  simp only [k0_part6_eq_skeleton, k0_part6_skel, lift_then]
  iintro ⟨#Hb, ⟨Hbnd, Hidx⟩, Hl, Hr, Ho, Hs, Hsa, HO⟩ Hk
  ihave #Hw := (book_waits S κ c 2) $$ Hb
  iapply (step_drain (S c) (owedFrom c 2) (c + 2) ((S c).chk (c + 2))) $$ [Hl Hr HO]
  · isplitl [Hr]; · iexact Hr
    isplitl [Hl]; · iexact Hl
    isplitl [HO]; · iexact HO
    iexact Hw
  iintro %acc ⟨Hg, Hl, HO⟩
  iapply (step_members c (o85 c) _ (S c).idx) $$ Hidx
  iintro Hidx
  iapply (step_members c (o85 c) _ (S c).idx) $$ Hidx
  iintro Hidx
  iapply (step_gathered (S c) (c + 2) (o86 c)) $$ Hg
  iintro %f ⟨Hr, %hf⟩
  iapply (step_peek c (o86 c)) $$ Ho
  iintro %w Ho
  rw [pay6_eq, hf]
  iapply (step_store c (o86 c)) $$ Ho
  iintro Ho
  iapply (step_wait_send c (own S) κ 1 (n := 2) (send_sem 1 _) rfl) $$ [Hs Hsa HO]
  · isplitr; · iexact Hb
    isplitl [Hs]; · iexact Hs
    isplitl [Hsa]; · iexact Hsa
    iexact HO
  iintro ⟨Hsa, -, HO⟩
  iapply (wp_done c)
  iapply Hk
  isplitl [Hbnd Hidx]
  · isplitl [Hbnd]; · iexact Hbnd
    iexact Hidx
  isplitl [Hl]; · iexact Hl
  isplitl [Hr]; · iexact Hr
  isplitl [Ho]; · iexact Ho
  isplitl [Hsa]; · iexact Hsa
  iexact HO

theorem send2_pay : iprop((ComAt (c + 1) 2 (part2 (own S) c) ∗ (OutAny (c + 3) (c + 2) ∗ OutAny (c + 2) (c + 2))) ∗ OutAt c (c + 2) (part2 (own S) c))
    ⊢ recvPay (own S) (c + 1) 2 := by
  have e3 : (c + 1 + 3 : Dev nD) = c := by revert c; decide
  have e2 : (c + 1 + 2 : Dev nD) = c + 3 := by revert c; decide
  have e1 : (c + 1 + 1 : Dev nD) = c + 2 := by revert c; decide
  show _ ⊢ iprop(ComAt (c + 1) 2 (part2 (own S) (c + 1 + 3)) ∗ OutAny (c + 1 + 3) (c + 1 + 1) ∗ OutAny (c + 1 + 2) (c + 1 + 1) ∗ OutAny (c + 1 + 1) (c + 1 + 1))
  rw [e3, e2, e1]
  iintro ⟨⟨H, Hn⟩, Ho⟩
  isplitl [H]; · iexact H
  isplitl [Ho]
  · iapply OutAt_any
    iexact Ho
  iexact Hn

theorem part7_run (v2 v7 v144 : BitVec 32) {Qa} :
    iprop(book c (own S) κ ∗ met c ∗ words (S c) ∗ OutAt c (c + 2) (own S c (c + 2)) ∗ ComAny (c + 1) 2 ∗ recvTok c 1 ∗ sendTok c 2 ∗ Owe c (owedFrom c 2))
      ⊢ iprop((∀ v225, iprop(words (S c) ∗ recvAt c 1 1 ∗ ComAny c 1 ∗ sent c 2 ∗ Owe c (owedFrom c 3))
          -∗ Qa ⟨v225, at5 (S c).bnd (c + 1 : Dev nD).val, at5 (S c).bnd ((c + 1 : Dev nD).val + 1), (S c).chk (c + 1), 0#32⟩)
        -∗ Runs c (P7 (F := F) c v2 v7 v144) Qa) := by
  unfold P7 words
  simp only [k0_part7_eq_skeleton, k0_part7_skel, lift_then]
  iintro ⟨#Hb, #Hm, ⟨Hbnd, Hidx⟩, Ho, Hd, Ht, Hst, HO⟩ Hk
  iapply (step_wait_recv c (own S) κ 1 (n := 2) (by decide) (recv_sem 1 _) rfl) $$ [Ht HO]
  · isplitr; · iexact Hb
    isplitl [Ht]; · iexact Ht
    iexact HO
  iintro ⟨Hra, Hp, HO⟩
  ihave Hp := (Entails.of_eq (show recvPay (own S) c 1 = iprop(ComAt c 1 (part1 (own S) (c + 3)) ∗ OutAny (c + 3) (c + 2) ∗ OutAny (c + 2) (c + 2)) from rfl)) $$ Hp
  icases Hp with ⟨Hc, Hn⟩
  iapply (step_load c (o86 c)) $$ Ho
  iintro Ho
  iapply (step_slot c) $$ Hc
  iintro Hc
  iapply (step_load c (o86 c)) $$ Ho
  iintro Ho
  ihave Ho := (OutAt_any c (c + 2) _) $$ Ho
  rw [pay7_eq]
  iapply (step_store c (o86 c)) $$ Ho
  iintro Ho
  iapply (step_send_slot c (own S) κ (o87 c) 2 _ _ (part2 (own S) c) (Fr := iprop(OutAny (c + 3) (c + 2) ∗ OutAny (c + 2) (c + 2))) (dev5 c) (send_sem 2 _) (recv_sem 2 _) .rfl (send2_pay S c)) $$ [Ho Hd Hn Hst HO]
  · isplitr; · iexact Hb
    isplitr; · iexact Hm
    isplitl [Hst]; · iexact Hst
    isplitl [Ho]; · iexact Ho
    isplitl [Hd Hn]
    · isplitl [Hd]; · iexact Hd
      iexact Hn
    iexact HO
  iintro ⟨Hs, HO⟩
  have hj : (c + 1 : Dev nD).val < 4 := (c + 1 : Dev nD).isLt
  iapply (step_bound c (j := (c + 1 : Dev nD).val) (by omega) (o88 c).1 _ (S c).bnd) $$ Hbnd
  iintro Hbnd
  iapply (step_bound c (j := (c + 1 : Dev nD).val + 1) (by omega) (o88 c).2 _ (S c).bnd) $$ Hbnd
  iintro Hbnd
  iapply (step_assume c ((S c).chk (c + 1)))
  iapply (wp_done c)
  iapply Hk
  isplitl [Hbnd Hidx]
  · isplitl [Hbnd]; · iexact Hbnd
    iexact Hidx
  isplitl [Hra]; · iexact Hra
  isplitl [Hc]
  · iapply (ComAt_any c 1 _) $$ Hc
  isplitl [Hs]; · iexact Hs
  iexact HO

end Cert.Proof.Lookup
-- ==== Proof.Parts3.lean ====
/-
  The body's last parts on device `c`: the fourth chunk gathered and added, which completes it; then the finished chunks go once
  around the ring, and every device ends with all four.
-/
module

public import proofs.«01_k».proof.Proof.Parts2

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (S : ∀ c : Dev nD, Sheet F c) (κ : GSem nD τ sig → ℕ) (c : Dev nD)

abbrev P8 := k0_part8 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P9 := k0_part9 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P10 := k0_part10 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4
abbrev P11 := k0_part11 (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4

theorem part8_run (v225 : BitVec 32) {Qa} :
    iprop(book c (own S) κ ∗ words (S c) ∗ lists (S c) ∗ rest (S c) ∗ OutAny c (c + 1) ∗ Owe c (owedFrom c 3))
      ⊢ iprop((iprop(words (S c) ∗ lists (S c) ∗ rest (S c) ∗ OutAt c (c + 1) (own S c (c + 1)) ∗ Owe c (owedFrom c 3))
          -∗ Qa ⟨⟩)
        -∗ Runs c (P8 (F := F) c (lowWord c) v225 (at5 (S c).bnd (c + 1 : Dev nD).val) (at5 (S c).bnd ((c + 1 : Dev nD).val + 1)) ((S c).chk (c + 1)) 0#32) Qa) := by
  unfold P8 words
  simp only [k0_part8_eq_skeleton, k0_part8_skel, lift_then]
  iintro ⟨#Hb, ⟨Hbnd, Hidx⟩, Hl, Hr, Ho, HO⟩ Hk
  ihave #Hw := (book_waits S κ c 3) $$ Hb
  iapply (step_start (S c) (owedFrom c 3) (c + 1) ((S c).chk (c + 1))) $$ [Hl Hr HO]
  · isplitl [Hr]; · iexact Hr
    isplitl [Hl]; · iexact Hl
    isplitl [HO]; · iexact HO
    iexact Hw
  iintro %acc ⟨Hr, Hl, HO⟩
  iapply (step_drain (S c) (owedFrom c 3) (c + 1) ((S c).chk (c + 1))) $$ [Hl Hr HO]
  · isplitl [Hr]; · iexact Hr
    isplitl [Hl]; · iexact Hl
    isplitl [HO]; · iexact HO
    iexact Hw
  iintro %acc' ⟨Hg, Hl, HO⟩
  iapply (step_members c (o114 c) _ (S c).idx) $$ Hidx
  iintro Hidx
  iapply (step_members c (o114 c) _ (S c).idx) $$ Hidx
  iintro Hidx
  iapply (step_gathered (S c) (c + 1) (o115 c)) $$ Hg
  iintro %f ⟨Hr, %hf⟩
  iapply (step_peek c (o115 c)) $$ Ho
  iintro %w Ho
  rw [hf]
  iapply (step_store c (o115 c)) $$ Ho
  iintro Ho
  iapply (wp_done c)
  iapply Hk
  isplitl [Hbnd Hidx]
  · isplitl [Hbnd]; · iexact Hbnd
    iexact Hidx
  isplitl [Hl]; · iexact Hl
  isplitl [Hr]; · iexact Hr
  isplitl [Ho]; · iexact Ho
  iexact HO

theorem total_next : total (own S) (c + 1) = part3 (own S) c := by
  have e3 : (c + 1 + 3 : Dev nD) = c := by revert c; decide
  show part3 (own S) (c + 1 + 3) = _
  rw [e3]

theorem part9_run (v2 v7 v225 : BitVec 32) {Qa} :
    iprop(book c (own S) κ ∗ OutAt c (c + 1) (own S c (c + 1)) ∗ sent c 2 ∗ sendAt c 2 0 ∗ recvTok c 2 ∗ Owe c (owedFrom c 3))
      ⊢ iprop((iprop(OutAt c (c + 1) (total (own S) (c + 1)) ∗ sendAt c 2 1 ∗ recvAt c 2 1 ∗ ComAny c 2
            ∗ (OutAny (c + 3) (c + 1) ∗ OutAny (c + 2) (c + 1) ∗ OutAny (c + 1) (c + 1)) ∗ Owe c (owedFrom c 3))
          -∗ Qa ⟨⟩)
        -∗ Runs c (P9 (F := F) c v2 v7 v225) Qa) := by
  unfold P9
  simp only [k0_part9_eq_skeleton, k0_part9_skel, lift_then]
  rw [total_next]
  iintro ⟨#Hb, Ho, Hs, Hsa, Ht, HO⟩ Hk
  iapply (step_wait_send c (own S) κ 2 (n := 3) (send_sem 2 _) rfl) $$ [Hs Hsa HO]
  · isplitr; · iexact Hb
    isplitl [Hs]; · iexact Hs
    isplitl [Hsa]; · iexact Hsa
    iexact HO
  iintro ⟨Hsa, -, HO⟩
  iapply (step_wait_recv c (own S) κ 2 (n := 3) (by decide) (recv_sem 2 _) rfl) $$ [Ht HO]
  · isplitr; · iexact Hb
    isplitl [Ht]; · iexact Ht
    iexact HO
  iintro ⟨Hra, Hp, HO⟩
  ihave Hp := (Entails.of_eq (show recvPay (own S) c 2 = iprop(ComAt c 2 (part2 (own S) (c + 3)) ∗ OutAny (c + 3) (c + 1) ∗ OutAny (c + 2) (c + 1) ∗ OutAny (c + 1) (c + 1)) from rfl)) $$ Hp
  icases Hp with ⟨Hc, Hn⟩
  iapply (step_load c (o115 c)) $$ Ho
  iintro Ho
  iapply (step_slot c) $$ Hc
  iintro Hc
  iapply (step_load c (o115 c)) $$ Ho
  iintro Ho
  ihave Ho := (OutAt_any c (c + 1) _) $$ Ho
  rw [pay9_eq]
  iapply (step_store c (o115 c)) $$ Ho
  iintro Ho
  iapply (wp_done c)
  iapply Hk
  isplitl [Ho]; · iexact Ho
  isplitl [Hsa]; · iexact Hsa
  isplitl [Hra]; · iexact Hra
  isplitl [Hc]
  · iapply (ComAt_any c 2 _) $$ Hc
  isplitl [Hn]; · iexact Hn
  iexact HO

theorem send3_pay : iprop(OutAt (c + 1) (c + 1) (total (own S) (c + 1)) ∗ (OutAny (c + 3) (c + 1) ∗ OutAny (c + 2) (c + 1))) ⊢ recvPay (own S) (c + 1) 3 := by
  have e2 : (c + 1 + 2 : Dev nD) = c + 3 := by revert c; decide
  have e1 : (c + 1 + 1 : Dev nD) = c + 2 := by revert c; decide
  show _ ⊢ iprop(OutAt (c + 1) (c + 1) (total (own S) (c + 1)) ∗ OutAny (c + 1 + 2) (c + 1) ∗ OutAny (c + 1 + 1) (c + 1))
  rw [e2, e1]

theorem send4_pay : iprop(OutAt (c + 1) c (total (own S) c) ∗ OutAny (c + 2) c) ⊢ recvPay (own S) (c + 1) 4 := by
  have e3 : (c + 1 + 3 : Dev nD) = c := by revert c; decide
  have e1 : (c + 1 + 1 : Dev nD) = c + 2 := by revert c; decide
  show _ ⊢ iprop(OutAt (c + 1) (c + 1 + 3) (total (own S) (c + 1 + 3)) ∗ OutAny (c + 1 + 1) (c + 1 + 3))
  rw [e3, e1]

theorem send5_pay : iprop(OutAt (c + 1) (c + 3) (total (own S) (c + 3)) ∗ emp) ⊢ recvPay (own S) (c + 1) 5 := by
  have e2 : (c + 1 + 2 : Dev nD) = c + 3 := by revert c; decide
  show _ ⊢ OutAt (c + 1) (c + 1 + 2) (total (own S) (c + 1 + 2))
  rw [e2]
  iintro ⟨H, -⟩
  iexact H

theorem part10_run (v2 v7 : BitVec 32) {Qa} :
    iprop(book c (own S) κ ∗ met c ∗ OutAt c (c + 1) (total (own S) (c + 1)) ∗ (OutAny (c + 3) (c + 1) ∗ OutAny (c + 2) (c + 1) ∗ OutAny (c + 1) (c + 1))
        ∗ sendTok c 3 ∗ sendAt c 3 0 ∗ recvTok c 3 ∗ sendTok c 4 ∗ Owe c (owedFrom c 3))
      ⊢ iprop((iprop(OutAt c (c + 1) (total (own S) (c + 1)) ∗ sendAt c 3 1 ∗ recvAt c 3 1 ∗ sent c 4 ∗ Owe c (owedFrom c 5))
          -∗ Qa ⟨⟩)
        -∗ Runs c (P10 (F := F) c v2 v7) Qa) := by
  unfold P10
  simp only [k0_part10_eq_skeleton, k0_part10_skel, lift_then]
  iintro ⟨#Hb, #Hm, Ho, ⟨Hn1, Hn2, Hn3⟩, Hst, Hsa, Ht, Hst4, HO⟩ Hk
  iapply (step_send_chunk c (own S) κ (o117_0 c) 3 _ (total (own S) (c + 1)) (Fr := iprop(OutAny (c + 3) (c + 1) ∗ OutAny (c + 2) (c + 1))) (dev6 c) (send_sem 3 _) (recv_sem 3 _) .rfl (send3_pay S c)) $$ [Ho Hn1 Hn2 Hn3 Hst HO]
  · isplitr; · iexact Hb
    isplitr; · iexact Hm
    isplitl [Hst]; · iexact Hst
    isplitl [Ho]; · iexact Ho
    isplitl [Hn1 Hn2 Hn3]
    · isplitl [Hn3]; · iexact Hn3
      isplitl [Hn1]; · iexact Hn1
      iexact Hn2
    iexact HO
  iintro ⟨Hs, HO⟩
  iapply (step_wait_send c (own S) κ 3 (n := 4) (send_sem 3 _) rfl) $$ [Hs Hsa HO]
  · isplitr; · iexact Hb
    isplitl [Hs]; · iexact Hs
    isplitl [Hsa]; · iexact Hsa
    iexact HO
  iintro ⟨Hsa, Ho, HO⟩
  ihave Ho := (Entails.of_eq (show sendPay (own S) c 3 = OutAt c (c + 1) (total (own S) (c + 1)) from rfl)) $$ Ho
  iapply (step_wait_recv c (own S) κ 3 (n := 4) (by decide) (recv_sem 3 _) rfl) $$ [Ht HO]
  · isplitr; · iexact Hb
    isplitl [Ht]; · iexact Ht
    iexact HO
  iintro ⟨Hra, Hp, HO⟩
  ihave Hp := (Entails.of_eq (show recvPay (own S) c 3 = iprop(OutAt c c (total (own S) c) ∗ OutAny (c + 2) c ∗ OutAny (c + 1) c) from rfl)) $$ Hp
  icases Hp with ⟨Hc, Hn2, Hn1⟩
  iapply (step_send_chunk c (own S) κ (o117_1 c) 4 _ (total (own S) c) (Fr := OutAny (c + 2) c) (dev7 c) (send_sem 4 _) (recv_sem 4 _) .rfl (send4_pay S c)) $$ [Hc Hn1 Hn2 Hst4 HO]
  · isplitr; · iexact Hb
    isplitr; · iexact Hm
    isplitl [Hst4]; · iexact Hst4
    isplitl [Hc]; · iexact Hc
    isplitl [Hn1 Hn2]
    · isplitl [Hn1]; · iexact Hn1
      iexact Hn2
    iexact HO
  iintro ⟨Hs, HO⟩
  iapply (wp_done c)
  iapply Hk
  isplitl [Ho]; · iexact Ho
  isplitl [Hsa]; · iexact Hsa
  isplitl [Hra]; · iexact Hra
  isplitl [Hs]; · iexact Hs
  iexact HO

theorem part11_run (v2 v7 : BitVec 32) {Qa} :
    iprop(book c (own S) κ ∗ met c ∗ sent c 4 ∗ sendAt c 4 0 ∗ recvTok c 4 ∗ sendTok c 5 ∗ sendAt c 5 0 ∗ Owe c (owedFrom c 5))
      ⊢ iprop((iprop(OutAt c c (total (own S) c) ∗ OutAt c (c + 3) (total (own S) (c + 3)) ∗ sendAt c 4 1 ∗ recvAt c 4 1 ∗ sendAt c 5 1 ∗ Owe c (owedFrom c 6))
          -∗ Qa ⟨⟩)
        -∗ Runs c (P11 (F := F) c v2 v7) Qa) := by
  unfold P11
  simp only [k0_part11_eq_skeleton, k0_part11_skel, lift_then]
  iintro ⟨#Hb, #Hm, Hs, Hsa, Ht, Hst, Hsa5, HO⟩ Hk
  iapply (step_wait_send c (own S) κ 4 (n := 5) (send_sem 4 _) rfl) $$ [Hs Hsa HO]
  · isplitr; · iexact Hb
    isplitl [Hs]; · iexact Hs
    isplitl [Hsa]; · iexact Hsa
    iexact HO
  iintro ⟨Hsa, Ho, HO⟩
  ihave Ho := (Entails.of_eq (show sendPay (own S) c 4 = OutAt c c (total (own S) c) from rfl)) $$ Ho
  iapply (step_wait_recv c (own S) κ 4 (n := 5) (by decide) (recv_sem 4 _) rfl) $$ [Ht HO]
  · isplitr; · iexact Hb
    isplitl [Ht]; · iexact Ht
    iexact HO
  iintro ⟨Hra, Hp, HO⟩
  ihave Hp := (Entails.of_eq (show recvPay (own S) c 4 = iprop(OutAt c (c + 3) (total (own S) (c + 3)) ∗ OutAny (c + 1) (c + 3)) from rfl)) $$ Hp
  icases Hp with ⟨Hc, Hn⟩
  iapply (step_send_chunk c (own S) κ (o117_2 c) 5 _ (total (own S) (c + 3)) (Fr := iprop(emp)) (dev8 c) (send_sem 5 _) (recv_sem 5 _) .rfl (send5_pay S c)) $$ [Hc Hn Hst HO]
  · isplitr; · iexact Hb
    isplitr; · iexact Hm
    isplitl [Hst]; · iexact Hst
    isplitl [Hc]; · iexact Hc
    isplitl [Hn]
    · isplitl [Hn]; · iexact Hn
      iempintro
    iexact HO
  iintro ⟨Hs, HO⟩
  iapply (step_wait_send c (own S) κ 5 (n := 6) (send_sem 5 _) rfl) $$ [Hs Hsa5 HO]
  · isplitr; · iexact Hb
    isplitl [Hs]; · iexact Hs
    isplitl [Hsa5]; · iexact Hsa5
    iexact HO
  iintro ⟨Hsa5, Ho5, HO⟩
  ihave Ho5 := (Entails.of_eq (show sendPay (own S) c 5 = OutAt c (c + 3) (total (own S) (c + 3)) from rfl)) $$ Ho5
  iapply (wp_done c)
  iapply Hk
  isplitl [Ho]; · iexact Ho
  isplitl [Ho5]; · iexact Ho5
  isplitl [Hsa]; · iexact Hsa
  isplitl [Hra]; · iexact Hra
  isplitl [Hsa5]; · iexact Hsa5
  iexact HO

end Cert.Proof.Lookup
-- ==== Proof.Body.lean ====
/-
  The whole body on device `c`: from its own buffers, the barrier's tokens and the six copies' tokens to the four finished
  chunks of the output.
-/
module

public import proofs.«01_k».proof.Proof.Parts3

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (S : ∀ c : Dev nD, Sheet F c) (κ : GSem nD τ sig → ℕ) (c : Dev nD)

/-- What belongs to copy `k` before it is started: its two duties, and the standing of its two cells. -/
def copyTok (k : Fin 6) : sProp (MM F) := iprop(sendTok c k ∗ sendAt c k 0 ∗ recvTok c k)
/-- The copies' cells once every copy is waited for. -/
def copyEnd (k : Fin 6) : sProp (MM F) := iprop(sendAt c k 1 ∗ recvAt c k 1)

/-- The output's chunks before the body. -/
def outStart : sProp (MM F) := iprop(OutAny c c ∗ OutAny c (c + 1) ∗ OutAny c (c + 2) ∗ OutAny c (c + 3))
/-- The output's chunks after it: each the sum over the devices. -/
def outEnd (w : Dev nD → ChunkC F) : sProp (MM F) := iprop(OutAt c c (w c) ∗ OutAt c (c + 1) (w (c + 1)) ∗ OutAt c (c + 2) (w (c + 2)) ∗ OutAt c (c + 3) (w (c + 3)))

def ready : sProp (MM F) :=
  iprop(words (S c) ∗ lists (S c) ∗ rest (S c) ∗ outStart c ∗ slots c ∗ barTok c
    ∗ (copyTok c 0 ∗ copyTok c 1 ∗ copyTok c 2 ∗ copyTok c 3 ∗ copyTok c 4 ∗ copyTok c 5) ∗ Owe c (O₀ c))
def finished : sProp (MM F) :=
  iprop(words (S c) ∗ lists (S c) ∗ rest (S c) ∗ outEnd c (total (own S)) ∗ slots c ∗ atPos ER (barCell c) 1 ∅ 0
    ∗ (copyEnd c 0 ∗ copyEnd c 1 ∗ copyEnd c 2 ∗ copyEnd c 3 ∗ copyEnd c 4 ∗ copyEnd c 5) ∗ Owe c (owedFrom c 6))

abbrev theBody : Prog (TpuEff nD τ sig (Elt F) Λ₀ .tc) PUnit := cc0_body (F := F) tabM (Memref.isWhole_whole _) posM (Memref.isWhole_whole _) locM (Memref.isWhole_whole _) bndM (Memref.isWhole_whole _) idxM (Memref.isWhole_whole _) outM (Memref.isWhole_whole _) gatM (Memref.isWhole_whole _) comM (Memref.isWhole_whole _) cc0_scratch2 cc0_scratch3 cc0_scratch4

theorem step_bind {α β : Type} (p : Prog (TpuEff nD τ sig (Elt F) Λ₀ .tc) α) (kk : α → Prog (TpuEff nD τ sig (Elt F) Λ₀ .tc) β) {Qa : β → sProp (MM F)} :
    Runs c p (fun a => Runs c (kk a) Qa) ⊢ Runs c (p >>= kk) Qa := Entails.of_eq (wp_bind _ _ _ p kk Qa).symm

theorem body_run {Qa} :
    iprop(book c (own S) κ ∗ ready S c) ⊢ iprop((finished S c -∗ Qa ⟨⟩) -∗ Runs c (theBody (F := F)) Qa) := by
  unfold ready copyTok outStart
  unfold theBody
  simp only [cc0_body_eq_skeleton, cc0_body_skel, lift_then]
  iintro ⟨#Hb, Hw, Hl, Hr, ⟨Ho0, Ho1, Ho2, Ho3⟩, Hsl, Hbar, ⟨⟨St0, Sa0, Rt0⟩, ⟨St1, Sa1, Rt1⟩, ⟨St2, Sa2, Rt2⟩, ⟨St3, Sa3, Rt3⟩, ⟨St4, Sa4, Rt4⟩, ⟨St5, Sa5, Rt5⟩⟩, HO⟩ Hk
  iapply (step_bind c)
  iapply (part1_run S κ c) $$ [Hw Hl Hr HO]
  · isplitr; · iexact Hb
    isplitl [Hw]; · iexact Hw
    isplitl [Hl]; · iexact Hl
    isplitl [Hr]; · iexact Hr
    iexact HO
  iintro %v2 %v5 %v7 %v30 ⟨Hw, Hl, Hg, HO⟩
  iapply (step_bind c)
  iapply (part2_run S κ c v2 v5 v7 v30) $$ [Hw Hg Ho0 Hbar Hsl HO]
  · isplitr; · iexact Hb
    isplitl [Hw]; · iexact Hw
    isplitl [Hg]; · iexact Hg
    isplitl [Ho0]; · iexact Ho0
    isplitl [Hbar]; · iexact Hbar
    isplitl [Hsl]; · iexact Hsl
    iexact HO
  iintro %v63 ⟨Hw, Hr, Ho0, Hbar, #Hm, Hsl, HO⟩
  ihave Hsl := (Entails.of_eq (show slots (F := F) (c + 1) = iprop(ComAny (c + 1) 0 ∗ ComAny (c + 1) 1 ∗ ComAny (c + 1) 2) from rfl)) $$ Hsl
  icases Hsl with ⟨Hs0, Hs1, Hs2⟩
  iapply (step_bind c)
  iapply (part3_run S κ c v63) $$ [Hw Hl Hr Ho0 Hs0 St0 HO]
  · isplitr; · iexact Hb
    isplitr; · iexact Hm
    isplitl [Hw]; · iexact Hw
    isplitl [Hl]; · iexact Hl
    isplitl [Hr]; · iexact Hr
    isplitl [Ho0]; · iexact Ho0
    isplitl [Hs0]; · iexact Hs0
    isplitl [St0]; · iexact St0
    iexact HO
  iintro %v95 ⟨Hw, Hl, Hg, Se0, HO⟩
  iapply (step_bind c)
  iapply (part4_run S κ c v2 v7 v63 v95) $$ [Hg Ho3 Se0 Sa0 Rt0 HO]
  · isplitr; · iexact Hb
    isplitl [Hg]; · iexact Hg
    isplitl [Ho3]; · iexact Ho3
    isplitl [Se0]; · iexact Se0
    isplitl [Sa0]; · iexact Sa0
    isplitl [Rt0]; · iexact Rt0
    iexact HO
  iintro %v138 ⟨Hr, Ho3, Sa0, Ra0, Hc0, Hn, HO⟩
  iapply (step_bind c)
  iapply (part5_run S κ c v2 v7 v138 4#32) $$ [Hw Hl Hr Ho3 Hs1 Hn St1 HO]
  · isplitr; · iexact Hb
    isplitr; · iexact Hm
    isplitl [Hw]; · iexact Hw
    isplitl [Hl]; · iexact Hl
    isplitl [Hr]; · iexact Hr
    isplitl [Ho3]; · iexact Ho3
    isplitl [Hs1 Hn]
    · isplitl [Hs1]; · iexact Hs1
      iexact Hn
    isplitl [St1]; · iexact St1
    iexact HO
  iintro %v144 %v168 %v173 ⟨Hw, Hl, Hr, Se1, HO⟩
  iapply (step_bind c)
  iapply (part6_run S κ c v7 v144 v168 v173) $$ [Hw Hl Hr Ho2 Se1 Sa1 HO]
  · isplitr; · iexact Hb
    isplitl [Hw]; · iexact Hw
    isplitl [Hl]; · iexact Hl
    isplitl [Hr]; · iexact Hr
    isplitl [Ho2]; · iexact Ho2
    isplitl [Se1]; · iexact Se1
    isplitl [Sa1]; · iexact Sa1
    iexact HO
  iintro ⟨Hw, Hl, Hr, Ho2, Sa1, HO⟩
  iapply (step_bind c)
  iapply (part7_run S κ c v2 v7 v144) $$ [Hw Ho2 Hs2 Rt1 St2 HO]
  · isplitr; · iexact Hb
    isplitr; · iexact Hm
    isplitl [Hw]; · iexact Hw
    isplitl [Ho2]; · iexact Ho2
    isplitl [Hs2]; · iexact Hs2
    isplitl [Rt1]; · iexact Rt1
    isplitl [St2]; · iexact St2
    iexact HO
  iintro %v225 ⟨Hw, Ra1, Hc1, Se2, HO⟩
  iapply (step_bind c)
  iapply (part8_run S κ c v225) $$ [Hw Hl Hr Ho1 HO]
  · isplitr; · iexact Hb
    isplitl [Hw]; · iexact Hw
    isplitl [Hl]; · iexact Hl
    isplitl [Hr]; · iexact Hr
    isplitl [Ho1]; · iexact Ho1
    iexact HO
  iintro ⟨Hw, Hl, Hr, Ho1, HO⟩
  iapply (step_bind c)
  iapply (part9_run S κ c v2 v7 v225) $$ [Ho1 Se2 Sa2 Rt2 HO]
  · isplitr; · iexact Hb
    isplitl [Ho1]; · iexact Ho1
    isplitl [Se2]; · iexact Se2
    isplitl [Sa2]; · iexact Sa2
    isplitl [Rt2]; · iexact Rt2
    iexact HO
  iintro ⟨Ho1, Sa2, Ra2, Hc2, Hn, HO⟩
  iapply (step_bind c)
  iapply (part10_run S κ c v2 v7) $$ [Ho1 Hn St3 Sa3 Rt3 St4 HO]
  · isplitr; · iexact Hb
    isplitr; · iexact Hm
    isplitl [Ho1]; · iexact Ho1
    isplitl [Hn]; · iexact Hn
    isplitl [St3]; · iexact St3
    isplitl [Sa3]; · iexact Sa3
    isplitl [Rt3]; · iexact Rt3
    isplitl [St4]; · iexact St4
    iexact HO
  iintro ⟨Ho1, Sa3, Ra3, Se4, HO⟩
  iapply (step_bind c)
  iapply (part11_run S κ c v2 v7) $$ [Se4 Sa4 Rt4 St5 Sa5 HO]
  · isplitr; · iexact Hb
    isplitr; · iexact Hm
    isplitl [Se4]; · iexact Se4
    isplitl [Sa4]; · iexact Sa4
    isplitl [Rt4]; · iexact Rt4
    isplitl [St5]; · iexact St5
    isplitl [Sa5]; · iexact Sa5
    iexact HO
  iintro ⟨Ho0, Ho3, Sa4, Ra4, Sa5, HO⟩
  iapply (step_wait_recv c (own S) κ 5 (n := 6) (by decide) (recv_sem 5 _) rfl) $$ [Rt5 HO]
  · isplitr; · iexact Hb
    isplitl [Rt5]; · iexact Rt5
    iexact HO
  iintro ⟨Ra5, Ho2, HO⟩
  ihave Ho2 := (Entails.of_eq (show recvPay (own S) c 5 = OutAt c (c + 2) (total (own S) (c + 2)) from rfl)) $$ Ho2
  iapply (wp_done c)
  iapply Hk
  unfold finished outEnd copyEnd slots
  isplitl [Hw]; · iexact Hw
  isplitl [Hl]; · iexact Hl
  isplitl [Hr]; · iexact Hr
  isplitl [Ho0 Ho1 Ho2 Ho3]
  · isplitl [Ho0]; · iexact Ho0
    isplitl [Ho1]; · iexact Ho1
    isplitl [Ho2]; · iexact Ho2
    iexact Ho3
  isplitl [Hc0 Hc1 Hc2]
  · isplitl [Hc0]; · iexact Hc0
    isplitl [Hc1]; · iexact Hc1
    iexact Hc2
  isplitl [Hbar]; · iexact Hbar
  isplitr [HO]
  · isplitl [Sa0 Ra0]; · isplitl [Sa0]; · iexact Sa0
                         iexact Ra0
    isplitl [Sa1 Ra1]; · isplitl [Sa1]; · iexact Sa1
                         iexact Ra1
    isplitl [Sa2 Ra2]; · isplitl [Sa2]; · iexact Sa2
                         iexact Ra2
    isplitl [Sa3 Ra3]; · isplitl [Sa3]; · iexact Sa3
                         iexact Ra3
    isplitl [Sa4 Ra4]; · isplitl [Sa4]; · iexact Sa4
                         iexact Ra4
    isplitl [Sa5]; · iexact Sa5
    iexact Ra5
  iexact HO

end Cert.Proof.Lookup
-- ==== Proof.Ghost.lean ====
/-
  What the launch deals to the devices: the cells of the ring, the tokens of the duties, the rights to open the scoped cells,
  and the credits for what each device is owed.
-/
module

public import proofs.«01_k».proof.Proof.Body

@[expose] public section

noncomputable section

namespace Cert.Proof.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Cells and tokens -/

/-- The semaphores of the twelve copies: sending side, landing side. -/
def copySem : Bool × Fin 6 → SemLoc sig
  | (false, k) => .dma (sendS k)
  | (true, k) => .dma (recvS k)

theorem copySem_inj : Function.Injective copySem := by decide
theorem copySem_ne_bar : ∀ p : Bool × Fin 6, copySem p ≠ .reg barS := by decide

def barAt : Dev nD ↪ GSem nD τ sig := ⟨fun c => barCell c, fun _ _ h => congrArg (fun g : GSem nD τ sig => g.1.1) h⟩
def copyAt : Dev nD × (Bool × Fin 6) ↪ GSem nD τ sig :=
  ⟨fun p => ((p.1 : Thread nD τ), copySem p.2), fun _ _ h =>
    Prod.ext (congrArg (fun g : GSem nD τ sig => g.1.1) h) (copySem_inj (congrArg Prod.snd h))⟩

/-- The barrier cells start open, the copies' cells dormant. -/
abbrev barCells : Finset (GSem nD τ sig) := Finset.univ.map barAt
abbrev copyCells : Finset (GSem nD τ sig) := Finset.univ.map copyAt

/-- The duties of one device's cells. -/
def dutySem : Bool ⊕ (Bool × Fin 6) → SemLoc sig × Bool
  | .inl b => (.reg barS, b)
  | .inr p => (copySem p, false)
theorem dutySem_inj : Function.Injective dutySem := by decide

def allToks : Finset (GSem nD τ sig × ℕ × Bool) :=
  Finset.univ.map ⟨fun p : Dev nD × (Bool ⊕ (Bool × Fin 6)) => (((p.1 : Thread nD τ), (dutySem p.2).1), 0, (dutySem p.2).2), fun _ _ h =>
    Prod.ext (congrArg (fun t : GSem nD τ sig × ℕ × Bool => t.1.1.1) h)
      (dutySem_inj (Prod.ext (congrArg (fun t : GSem nD τ sig × ℕ × Bool => t.1.2) h) (congrArg (fun t : GSem nD τ sig × ℕ × Bool => t.2.2) h)))⟩

theorem cells_apart : Disjoint (barCells : Finset (GSem nD τ sig)) copyCells := by
  refine Finset.disjoint_left.mpr fun g h₁ h₂ => ?_
  obtain ⟨c, -, rfl⟩ := Finset.mem_map.mp h₁
  obtain ⟨p, -, h⟩ := Finset.mem_map.mp h₂
  exact copySem_ne_bar p.2 (congrArg Prod.snd h)

theorem bar_mem (c : Dev nD) : barCell c ∈ (barCells ∪ copyCells : Finset (GSem nD τ sig)) :=
  Finset.mem_union_left _ (Finset.mem_map_of_mem barAt (Finset.mem_univ c))
theorem send_mem (c : Dev nD) (k : Fin 6) : sendCell c k ∈ (barCells ∪ copyCells : Finset (GSem nD τ sig)) :=
  Finset.mem_union_right _ (Finset.mem_map_of_mem copyAt (Finset.mem_univ (c, (false, k))))
theorem recv_mem (c : Dev nD) (k : Fin 6) : recvCell c k ∈ (barCells ∪ copyCells : Finset (GSem nD τ sig)) :=
  Finset.mem_union_right _ (Finset.mem_map_of_mem copyAt (Finset.mem_univ (c, (true, k))))

/-! ## A big star read piece by piece -/

theorem stars_bool (Φ : Bool → sProp (MM F)) : bigSep Finset.univ Φ = iprop(Φ false ∗ Φ true) := by
  rw [show (Finset.univ : Finset Bool) = {false, true} from by decide, bigSep_insert (by decide), bigSep_singleton]; rfl

theorem stars_six (Φ : Fin 6 → sProp (MM F)) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

theorem stars_pair {Φ Ψ : Dev nD → sProp (MM F)} :
    iprop(bigSep Finset.univ Φ ∗ bigSep Finset.univ Ψ) ⊢ bigSep Finset.univ fun c => iprop(Φ c ∗ Ψ c) :=
  Entails.of_eq (bigSep_sep' _ _ _).symm

/-- The devices, each named by its left-hand neighbour, and by its right-hand one. -/
def turnRight : Dev nD ≃ Dev nD := ⟨fun c => c + 1, fun c => c + 3, by decide, by decide⟩
def turnLeft : Dev nD ≃ Dev nD := ⟨fun c => c + 3, fun c => c + 1, by decide, by decide⟩

/-! ## The launch element -/

def copyTokens : URing := launchOf barCells copyCells allToks

def u₀ : UU :=
  (initOf (Pipeline.cells (Pipeline.pin (pcfgs (F := F)) adm) cellOf_inj) (Pipeline.launchToks (Pipeline.pin (pcfgs (F := F)) adm) cellOf_inj),
    (copyTokens, 1))

/-- Parked on device 0 until all devices' shares are cut at once. -/
def parked (c : Dev nD) : sProp (MM F) := if c = 0 then BI.own (ER copyTokens) else iprop(emp)

theorem parked_all : bigSep Finset.univ (parked (F := F)) = BI.own (ER copyTokens) := by
  rw [bigSep_univ_at _ (0 : Dev nD), bigSep_congr (s := Finset.univ.erase (0 : Dev nD)) (Ψ := fun _ => (BI.emp : sProp (MM F)))
      fun c hc => by unfold parked; rw [if_neg (Finset.ne_of_mem_erase hc)]; rfl, BI.bigSep_emp_const]
  unfold parked; rw [if_pos rfl]
  exact BI.equiv_iff.mp sep_emp

theorem launch_split : (ownU (u₀ (F := F)) : sProp (MM F))
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (parked (F := F))) := by
  rw [parked_all]
  unfold u₀
  iintro Hu
  ihave H := (ownU_pair _ _) $$ Hu
  icases H with ⟨HP, HX⟩
  imodintro
  isplitl [HP]; · iexact HP
  ihave H2 := (own_pair_emb (embR (nD := nD) (sig := sig) (Ix := Unit) (Val := Elt F) (Name := ℕ) (Lvl := ℕ) (A := UR sig nD τ) (B := URing × Counters)) copyTokens (1 : Counters)) $$ HX
  icases H2 with ⟨HR, -⟩
  iexact HR

/-! ## Records, and what stays with one device -/

section Shares

variable (own : Dev nD → Dev nD → ChunkC F)

/-- What every device may consult. -/
def records (κ : GSem nD τ sig → ℕ) : sProp (MM F) :=
  iprop((bigSep (barCells ∪ copyCells) fun g => inv own κ g) ∗ (bigSep barCells fun g => reached ER g 0) ∗ levAts L lv)
instance records_persistent (κ : GSem nD τ sig → ℕ) : BI.Persistent (records own κ) := by unfold records; infer_instance

theorem inv_at (κ : GSem nD τ sig → ℕ) {g : GSem nD τ sig} (hg : g ∈ (barCells ∪ copyCells : Finset (GSem nD τ sig))) :
    (bigSep (barCells ∪ copyCells) fun g => (inv own κ g : sProp (MM F))) ⊢ inv own κ g := bigSep_elim hg
theorem reached_at (c : Dev nD) : (bigSep barCells fun g => (reached ER g 0 : sProp (MM F))) ⊢ reached ER (barCell c) 0 :=
  bigSep_elim (Finset.mem_map_of_mem barAt (Finset.mem_univ c))

/-- The tokens of the duties device `c` pays. -/
def pays (c : Dev nD) : sProp (MM F) :=
  iprop((dutyTok ER (barCell (c + 3)) 0 false ∗ dutyTok ER (barCell (c + 1)) 0 true)
    ∗ (bigSep Finset.univ fun k : Fin 6 => dutyTok ER (sendCell c k) 0 false)
    ∗ (bigSep Finset.univ fun k : Fin 6 => dutyTok ER (recvCell (c + 1) k) 0 false))
/-- Its rights to open the copies' cells. -/
def opens (c : Dev nD) : sProp (MM F) :=
  iprop((bigSep Finset.univ fun k : Fin 6 => openTok ER (sendCell c k)) ∗ (bigSep Finset.univ fun k : Fin 6 => openTok ER (recvCell c k)))
/-- What it is owed. -/
def dues (c : Dev nD) : sProp (MM F) :=
  iprop(cred (tallyAt (barCell c) () 2) ∗ bigSep Finset.univ fun k : Fin 6 => cred (tallyAt (recvCell c k) () chunkN))

/-- A device's part of the ring protocol, on entry. -/
def talk (c : Dev nD) : sProp (MM F) :=
  iprop((∃ κ : GSem nD τ sig → ℕ, records own κ ∗ atPos ER (barCell c) 0 ∅ 0 ∗ opens c ∗ pays c) ∗ dues c)

end Shares

theorem toks_eq : bigSep allToks (fun x => (dutyTok ER x.1 x.2.1 x.2.2 : sProp (MM F)))
    = bigSep Finset.univ fun c : Dev nD => iprop((dutyTok ER (barCell c) 0 false ∗ dutyTok ER (barCell c) 0 true)
      ∗ (bigSep Finset.univ fun k : Fin 6 => dutyTok ER (sendCell c k) 0 false)
      ∗ (bigSep Finset.univ fun k : Fin 6 => dutyTok ER (recvCell c k) 0 false)) := by
  unfold allToks
  rw [bigSep_map, bigSep_univ_prod]
  refine bigSep_congr fun c _ => ?_
  rw [bigSep_univ_sum, bigSep_univ_prod, stars_bool, stars_bool]
  rfl

/-- The barrier's and the landing sides' tokens go to the devices that pay them. -/
theorem toks_out : bigSep allToks (fun x => (dutyTok ER x.1 x.2.1 x.2.2 : sProp (MM F))) = bigSep Finset.univ fun c : Dev nD => pays c := by
  rw [toks_eq]; unfold pays
  rw [bigSep_sep', bigSep_sep', bigSep_sep', bigSep_sep', bigSep_sep', bigSep_sep',
    bigSep_univ_equiv turnLeft (fun c : Dev nD => (dutyTok ER (barCell c) 0 false : sProp (MM F))),
    bigSep_univ_equiv turnRight (fun c : Dev nD => (dutyTok ER (barCell c) 0 true : sProp (MM F))),
    bigSep_univ_equiv turnRight (fun c : Dev nD => (bigSep Finset.univ fun k : Fin 6 => dutyTok ER (recvCell c k) 0 false : sProp (MM F)))]
  rfl

theorem opens_out : bigSep copyCells (fun g => (openTok ER g : sProp (MM F))) = bigSep Finset.univ fun c : Dev nD => opens c := by
  rw [bigSep_map, bigSep_univ_prod]
  refine bigSep_congr fun c _ => ?_
  rw [bigSep_univ_prod, stars_bool]; rfl

/-! ## Credits -/

theorem before_iff : ∀ d c : Dev nD, d + 1 = c ↔ d = c + 3 := by decide
theorem after_iff : ∀ d c : Dev nD, d + 3 = c ↔ d = c + 1 := by decide

theorem barCell_iff (a c : Dev nD) : (barCell c = barCell a) ↔ c = a :=
  ⟨fun h => congrArg (fun g : GSem nD τ sig => g.1.1) h, fun h => h ▸ rfl⟩

theorem recv_sem_inj : ∀ j k : Fin 6, (SemLoc.dma (recvS j) : SemLoc sig) = .dma (recvS k) → j = k := by decide

theorem tally_bar (a c : Dev nD) (n : ℕ) : (tallyAt (barCell a) () n : CellTallies nD τ sig Unit) (barCell c) () = if a = c then n else 0 := by
  rw [tallyAt_apply]
  by_cases h : a = c
  · subst h; rw [if_pos ⟨rfl, rfl⟩, if_pos rfl]
  · rw [if_neg (fun h' => h ((barCell_iff a c).mp h'.1).symm), if_neg h]

theorem tally_recv (a c : Dev nD) (j k : Fin 6) (n : ℕ) :
    (tallyAt (recvCell a j) () n : CellTallies nD τ sig Unit) (recvCell c k) () = if j = k then (if a = c then n else 0) else 0 := by
  rw [tallyAt_apply]
  by_cases hj : j = k
  · subst hj
    by_cases h : a = c
    · subst h; rw [if_pos ⟨rfl, rfl⟩, if_pos rfl, if_pos rfl]
    · rw [if_neg (fun h' => h (congrArg (fun g : GSem nD τ sig => g.1.1) h'.1).symm), if_pos rfl, if_neg h]
  · rw [if_neg (fun h' => hj (recv_sem_inj k j (congrArg Prod.snd h'.1)).symm), if_neg hj]

theorem owedFrom_bar (d c : Dev nD) : owedFrom d 0 (barCell c) () = 0 := by
  unfold owedFrom
  rw [Finset.sum_apply, Finsupp.finset_sum_apply]
  refine Finset.sum_eq_zero fun j _ => ?_
  rw [tallyAt_apply, if_neg (fun h => copySem_ne_bar (true, j) (congrArg Prod.snd h.1).symm)]

theorem owedFrom_recv (d c : Dev nD) (k : Fin 6) : owedFrom d 0 (recvCell c k) () = if d + 1 = c then chunkN else 0 := by
  unfold owedFrom
  rw [Finset.sum_apply, Finsupp.finset_sum_apply, Finset.sum_congr rfl fun j _ => tally_recv (d + 1) c j k chunkN,
    show (Finset.univ.filter fun j : Fin 6 => 0 ≤ j.val) = Finset.univ from by decide, Finset.sum_ite_eq', if_pos (Finset.mem_univ k)]

theorem O₀_bar (d c : Dev nD) : O₀ d (barCell c) () = (if d = c + 3 then 1 else 0) + (if d = c + 1 then 1 else 0) := by
  unfold O₀
  rw [Pi.add_apply, Finsupp.add_apply, Pi.add_apply, Finsupp.add_apply, owedFrom_bar, tally_bar, tally_bar, Nat.zero_add]
  simp only [before_iff, after_iff]

theorem tally_apart (a c : Dev nD) (k : Fin 6) (n : ℕ) : (tallyAt (barCell a) () n : CellTallies nD τ sig Unit) (recvCell c k) () = 0 := by
  rw [tallyAt_apply, if_neg (fun h => copySem_ne_bar (true, k) (congrArg Prod.snd h.1))]

theorem O₀_recv (d c : Dev nD) (k : Fin 6) : O₀ d (recvCell c k) () = if d = c + 3 then chunkN else 0 := by
  unfold O₀
  rw [Pi.add_apply, Finsupp.add_apply, Pi.add_apply, Finsupp.add_apply, owedFrom_recv, tally_apart, tally_apart]
  simp only [before_iff, Nat.add_zero]

theorem due_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (c + 3) fun _ => 1, Finset.sum_ite_eq' Finset.univ (c + 1) fun _ => 1, if_pos (Finset.mem_univ _), if_pos (Finset.mem_univ _)]

theorem due_recv (c : Dev nD) (k : Fin 6) :
    tallyOn (recvCell c k) (launchCredit (Pipeline.owing O₀) 0 (recvCell c k)) = (tallyAt (recvCell c k) () chunkN : CellTallies nD τ sig Unit) := by
  unfold tallyAt; refine congrArg _ (Finsupp.ext fun u => ?_); cases u
  rw [Pipeline.launchCredit_owing, Finsupp.single_eq_same, Finset.sum_congr rfl fun d _ => O₀_recv d c k,
    Finset.sum_ite_eq' Finset.univ (c + 3) fun _ => chunkN, if_pos (Finset.mem_univ _)]

def recvSem : Fin 6 ↪ SemLoc sig := ⟨fun k => .dma (recvS k), recv_sem_inj⟩

theorem dues_of (c : Dev nD) : (Pipeline.launchCred O₀ c : sProp (MM F)) ⊢ dues c := by
  unfold Pipeline.launchCred dues
  rw [bigSep_univ_at _ (SemLoc.reg barS), due_bar]
  refine sep_mono_right ?_
  refine BI.Entails.trans (bigSep_subset (t := Finset.univ.map recvSem) ?_) ?_
  · intro sm hs
    obtain ⟨k, -, rfl⟩ := Finset.mem_map.mp hs
    exact Finset.mem_erase.mpr ⟨copySem_ne_bar (true, k), Finset.mem_univ _⟩
  · rw [bigSep_map]
    exact Entails.of_eq (bigSep_congr fun k _ => congrArg cred (due_recv c k))

/-! ## The launch -/

theorem unscoped_eq : ∀ sm : SemLoc sig, sm.isScoped .tc = false → sm = .reg barS := by decide

theorem unscoped_bar (c : Dev nD) : (unscopedSems0 c : sProp (MM F)) = semVal (barCell c) 0 := by
  unfold unscopedSems0
  rw [show (Finset.univ.filter fun sm : SemLoc sig => ¬ sm.isScoped .tc = true) = {.reg barS} from by decide, bigSep_singleton]

section Start

variable (own : Dev nD → Dev nD → ChunkC F) (ρ : Dev nD → PrngReg)

/-- What a device enters the kernel with, beside its buffers. -/
def entry (c : Dev nD) : sProp (MM F) :=
  iprop(talk own c ∗ (∃ r, prngReg c r) ∗ ∃ W, owes (c : Thread nD τ) (O₀ c) W)

theorem entry_of (κ : GSem nD τ sig → ℕ) (c : Dev nD) :
    iprop(records own κ ∗ ((atPos ER (barCell c) 0 ∅ 0 ∗ opens c ∗ pays c) ∗ (owes (c : Thread nD τ) (O₀ c) ∅ ∗ Pipeline.launchCred O₀ c ∗ prngReg c (ρ c))))
      ⊢ entry own c := by
  unfold entry talk
  iintro ⟨#HR, ⟨Ha, Ho, Hp⟩, HO, Hc, Hr⟩
  isplitl [Ha Ho Hp Hc]
  · isplitl [Ha Ho Hp]
    · iexists κ
      isplitr; · iexact HR
      isplitl [Ha]; · iexact Ha
      isplitl [Ho]; · iexact Ho
      iexact Hp
    · iapply (dues_of c) $$ Hc
  isplitl [Hr]
  · iexists (ρ c); iexact Hr
  · iexists ∅; iexact HO

/-- From the launch's holdings to every device's entry. -/
theorem deal :
    iprop((bigSep Finset.univ fun c : Dev nD => iprop(unscopedSems0 c ∗ owes (c : Thread nD τ) (O₀ c) ∅ ∗ Pipeline.launchCred O₀ c ∗ prngReg c (ρ c) ∗ parked c)) ∗ levAts L lv)
      ⊢ (|={Set.univ}=> bigSep Finset.univ (entry own) : sProp (MM F)) := by
  have hsplit : (bigSep Finset.univ fun c : Dev nD => iprop(unscopedSems0 c ∗ owes (c : Thread nD τ) (O₀ c) ∅ ∗ Pipeline.launchCred O₀ c ∗ prngReg c (ρ c) ∗ parked c))
      ⊢ (iprop((bigSep Finset.univ fun c : Dev nD => semVal (barCell c) 0) ∗ (bigSep Finset.univ (parked (F := F)))
          ∗ bigSep Finset.univ fun c : Dev nD => iprop(owes (c : Thread nD τ) (O₀ c) ∅ ∗ Pipeline.launchCred O₀ c ∗ prngReg c (ρ c))) : sProp (MM F)) := by
    rw [← bigSep_sep', ← bigSep_sep']
    refine bigSep_mono fun c _ => ?_
    show iprop(unscopedSems0 c ∗ owes (c : Thread nD τ) (O₀ c) ∅ ∗ Pipeline.launchCred O₀ c ∗ prngReg c (ρ c) ∗ parked c) ⊢ _
    rw [unscoped_bar]
    iintro ⟨Hb, HO, Hc, Hr, Hp⟩
    isplitl [Hb]; · iexact Hb
    isplitl [Hp]; · iexact Hp
    isplitl [HO]; · iexact HO
    isplitl [Hc]; · iexact Hc
    iexact Hr
  have hv : bigSep Finset.univ (fun c : Dev nD => (semVal (barCell c) 0 : sProp (MM F))) ⊢ bigSep barCells (fun g => (semVal g 0 : sProp (MM F))) :=
    Entails.of_eq (bigSep_map (s := Finset.univ) barAt (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barAt (Φ := fun g : GSem nD τ sig => (atPos ER g 0 ∅ 0 : sProp (MM F))))
  iintro ⟨H, #Hl⟩
  ihave H' := hsplit $$ H
  icases H' with ⟨Hv, HP, HB⟩
  ihave Hu := (Entails.of_eq (parked_all (F := F))) $$ HP
  imod (Rounds.fund_launch ER (ringRd own) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := records own κ)
    (Φ := fun c => iprop((atPos ER (barCell c) 0 ∅ 0 ∗ opens c ∗ pays c) ∗ (owes (c : Thread nD τ) (O₀ c) ∅ ∗ Pipeline.launchCred O₀ c ∗ prngReg c (ρ c))))
    fun c _ => entry_of own ρ κ c)
  isplitr
  · unfold records
    isplitr; · unfold inv; iexact Hinv
    isplitr; · iexact Hr
    iexact Hl
  iapply stars_pair
  isplitr [HB]
  · iapply stars_pair
    isplitl [Hat]; · iapply hat $$ Hat
    iapply stars_pair
    isplitl [Hopen]; · iapply (Entails.of_eq (opens_out (F := F))) $$ Hopen
    iapply (Entails.of_eq (toks_out (F := F))) $$ Htok
  · iexact HB

end Start

end Cert.Proof.Lookup
-- ==== Proof.Pieces.lean ====
/-
  The buffers and cells the launch holds whole, taken apart into the pieces the body works on, and put together again after it.
-/
module

public import proofs.«01_k».proof.Proof.Ghost

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Big stars over the devices, starting from any of them -/

theorem stars_four (Φ : Dev nD → sProp (MM F)) : bigSep Finset.univ Φ = iprop(Φ 0 ∗ Φ 1 ∗ Φ 2 ∗ Φ 3) := by
  rw [show (Finset.univ : Finset (Dev nD)) = {0, 1, 2, 3} from by decide, bigSep_insert (by decide), bigSep_insert (by decide),
    bigSep_insert (by decide), bigSep_singleton]
  rfl

def turnBy (c : Dev nD) : Dev nD ≃ Dev nD := ⟨fun d => c + d, fun d => d - c, by revert c; decide, by revert c; decide⟩

theorem stars_from (c : Dev nD) (Φ : Dev nD → sProp (MM F)) :
    bigSep Finset.univ Φ = iprop(Φ c ∗ Φ (c + 1) ∗ Φ (c + 2) ∗ Φ (c + 3)) := by
  rw [bigSep_univ_equiv (turnBy c), stars_four]
  show iprop(Φ (c + 0) ∗ Φ (c + 1) ∗ Φ (c + 2) ∗ Φ (c + 3)) = _
  rw [show c + 0 = c from by revert c; decide]

theorem stars_three (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl

/-! ## The result's chunks -/

section Buffers

variable (c : Dev nD)

theorem chunks_apart : ∀ j ∈ (Finset.univ : Finset (Dev nD)), ∀ j' ∈ (Finset.univ : Finset (Dev nD)), j ≠ j' → Disjoint (chunkOf j.val) (chunkOf j'.val) :=
  fun _ _ _ _ h => Finset.disjoint_left.mpr fun _ hi hi' =>
    h (Fin.ext ((Finset.mem_filter.mp hi).2.symm.trans (Finset.mem_filter.mp hi').2))

theorem chunks_all : (Finset.univ : Finset (Dev nD)).biUnion (fun j => chunkOf j.val) = Finset.univ := by
  refine Finset.eq_univ_iff_forall.mpr fun i => Finset.mem_biUnion.mpr ?_
  have h : (i 0 : ℕ) < 2048 := (i 0).isLt
  exact ⟨(⟨(i 0 : ℕ) / 512, by omega⟩ : Fin 4), Finset.mem_univ _, Finset.mem_filter.mpr ⟨Finset.mem_univ _, rfl⟩⟩

/-- The result, given its four chunks. -/
def whole (w : Dev nD → ChunkC F) : OutC F :=
  fun i => spread (w (⟨(i 0 : ℕ) / 512, by have h : (i 0 : ℕ) < 2048 := (i 0).isLt; omega⟩ : Fin 4)) i

theorem whole_at (w : Dev nD → ChunkC F) (j : Dev nD) : ∀ i ∈ chunkOf j.val, spread (w j) i = whole w i := fun i hi => by
  have h : (i 0 : ℕ) / 512 = j.val := (Finset.mem_filter.mp hi).2
  unfold whole
  exact congrArg (fun k : Dev nD => spread (w k) i) (Fin.ext h.symm)

theorem out_open (f : OutC F) : (outLoc c ↦{fullShare} f : sProp (MM F)) ⊢ outStart c := by
  have e : (outLoc c ↦[Finset.univ]{fullShare} f : sProp (MM F))
      = bigSep (Finset.univ : Finset (Dev nD)) fun j => outLoc c ↦[chunkOf j.val]{fullShare} f :=
    (congrArg (fun S => (outLoc c ↦[S]{fullShare} f : sProp (MM F))) chunks_all.symm).trans
      (pointsTo_biUnion (ℓ := outLoc c) Finset.univ (fun j : Dev nD => chunkOf j.val) chunks_apart)
  refine (Entails.of_eq (e.trans (stars_from c _))).trans ?_
  unfold outStart OutAny
  iintro ⟨H0, H1, H2, H3⟩
  isplitl [H0]; · iexists f; iexact H0
  isplitl [H1]; · iexists f; iexact H1
  isplitl [H2]; · iexists f; iexact H2
  iexists f; iexact H3

theorem out_close (w : Dev nD → ChunkC F) : outEnd c w ⊢ (outLoc c ↦{fullShare} whole w : sProp (MM F)) := by
  have e : (outLoc c ↦[Finset.univ]{fullShare} whole w : sProp (MM F))
      = bigSep (Finset.univ : Finset (Dev nD)) fun j => OutAt c j (w j) :=
    ((congrArg (fun S => (outLoc c ↦[S]{fullShare} whole w : sProp (MM F))) chunks_all.symm).trans
      (pointsTo_biUnion (ℓ := outLoc c) Finset.univ (fun j : Dev nD => chunkOf j.val) chunks_apart)).trans
      (bigSep_congr fun j _ => by unfold OutAt; exact pointsTo_congr fun i hi => (whole_at w j i hi).symm)
  exact Entails.of_eq (e.trans (stars_from c _)).symm

/-! ## The landing buffer's slots -/

theorem slots_apart : ∀ s ∈ (Finset.univ : Finset (Fin 3)), ∀ s' ∈ (Finset.univ : Finset (Fin 3)), s ≠ s' → Disjoint (slotOf s.val) (slotOf s'.val) :=
  fun _ _ _ _ h => Finset.disjoint_left.mpr fun _ hi hi' =>
    h (Fin.ext ((Finset.mem_filter.mp hi).2.symm.trans (Finset.mem_filter.mp hi').2))

theorem slots_all : (Finset.univ : Finset (Fin 3)).biUnion (fun s => slotOf s.val) = Finset.univ :=
  Finset.eq_univ_iff_forall.mpr fun i => Finset.mem_biUnion.mpr
    ⟨(i 0 : Fin 3), Finset.mem_univ _, Finset.mem_filter.mpr ⟨Finset.mem_univ _, rfl⟩⟩

theorem slots_open (f : ComC F) : (comLoc c ↦{fullShare} f : sProp (MM F)) ⊢ slots c := by
  have e : (comLoc c ↦[Finset.univ]{fullShare} f : sProp (MM F))
      = bigSep (Finset.univ : Finset (Fin 3)) fun s => comLoc c ↦[slotOf s.val]{fullShare} f :=
    (congrArg (fun S => (comLoc c ↦[S]{fullShare} f : sProp (MM F))) slots_all.symm).trans
      (pointsTo_biUnion (ℓ := comLoc c) Finset.univ (fun s : Fin 3 => slotOf s.val) slots_apart)
  refine (Entails.of_eq (e.trans (stars_three _))).trans ?_
  unfold slots ComAny
  iintro ⟨H0, H1, H2⟩
  isplitl [H0]; · iexists f; iexact H0
  isplitl [H1]; · iexists f; iexact H1
  iexists f; iexact H2

theorem slots_close : slots c ⊢ (iprop(∃ f : ComC F, comLoc c ↦{fullShare} f) : sProp (MM F)) := by
  unfold slots ComAny
  iintro ⟨⟨%f0, H0⟩, ⟨%f1, H1⟩, ⟨%f2, H2⟩⟩
  ihave H := (show iprop((comLoc c ↦[slotOf 0]{fullShare} f0) ∗ (comLoc c ↦[slotOf 1]{fullShare} f1) ∗ (comLoc c ↦[slotOf 2]{fullShare} f2))
      ⊢ (bigSep (Finset.univ : Finset (Fin 3)) fun s => comLoc c ↦[slotOf s.val]{fullShare} (![f0, f1, f2] s) : sProp (MM F)) from
    Entails.of_eq (stars_three fun s : Fin 3 => (comLoc c ↦[slotOf s.val]{fullShare} (![f0, f1, f2] s) : sProp (MM F))).symm) $$ [H0 H1 H2]
  · isplitl [H0]; · iexact H0
    isplitl [H1] <;> iassumption
  ihave H' := (pointsTo_biUnion_join (ℓ := comLoc c) (Finset.univ : Finset (Fin 3)) (fun s => slotOf s.val) (fun s => (![f0, f1, f2] s : ComC F)) f0 slots_apart) $$ H
  icases H' with ⟨%g, -, Hg⟩
  iexists g
  iapply (Entails.of_eq (congrArg (fun S => (comLoc c ↦[S]{fullShare} g : sProp (MM F))) slots_all)) $$ Hg

/-! ## The table's read shares -/

/-- What of the table no row copy reads through. -/
def spare (ft : TabC F) : sProp (MM F) := iprop(tabLoc c ↦{shareDrop fullShare 16} ft)

theorem table_open (ft : TabC F) :
    iprop((tabLoc c ↦{fullShare} ft) ∗ bigSep Finset.univ fun r : Fin 16 => semVal ((c : Thread nD τ), gcell r) 0)
      ⊢ (iprop(spare c ft ∗ bigSep (Finset.univ : Finset (Fin 16)) (Idle c ft)) : sProp (MM F)) := by
  have e : (bigSep (Finset.univ : Finset (Fin 16)) (Idle c ft) : sProp (MM F))
      = iprop((bigSep Finset.univ fun r : Fin 16 => semVal ((c : Thread nD τ), gcell r) 0)
        ∗ bigSep Finset.univ fun r : Fin 16 => tabLoc c ↦[Finset.univ]{shareTok fullShare 16 r} ft) := by
    unfold Idle; exact bigSep_sep' _ _ _
  rw [e]; unfold spare
  iintro ⟨Ht, Hs⟩
  ihave H := (pointsTo_toks_split (ℓ := tabLoc c) (S := Finset.univ) (f := ft) fullShare 16) $$ Ht
  icases H with ⟨Hd, Hk⟩
  isplitl [Hd]; · iexact Hd
  isplitl [Hs]; · iexact Hs
  iexact Hk

theorem table_close (ft : TabC F) :
    iprop(spare c ft ∗ bigSep (Finset.univ : Finset (Fin 16)) (Idle c ft))
      ⊢ (iprop((tabLoc c ↦{fullShare} ft) ∗ bigSep Finset.univ fun r : Fin 16 => semVal ((c : Thread nD τ), gcell r) 0) : sProp (MM F)) := by
  have e : (bigSep (Finset.univ : Finset (Fin 16)) (Idle c ft) : sProp (MM F))
      = iprop((bigSep Finset.univ fun r : Fin 16 => semVal ((c : Thread nD τ), gcell r) 0)
        ∗ bigSep Finset.univ fun r : Fin 16 => tabLoc c ↦[Finset.univ]{shareTok fullShare 16 r} ft) := by
    unfold Idle; exact bigSep_sep' _ _ _
  rw [e]; unfold spare
  iintro ⟨Hd, Hs, Hk⟩
  isplitr [Hs]
  · iapply (pointsTo_toks_join (ℓ := tabLoc c) (S := Finset.univ) (f := ft) fullShare 16)
    isplitl [Hd]; · iexact Hd
    iexact Hk
  · iexact Hs

end Buffers

/-! ## Cells opened and closed -/

/-- The body's own semaphores: the row copies', then the ring copies'. -/
def ownSem : Fin 16 ⊕ (Bool × Fin 6) → SemLoc sig
  | .inl r => gcell r
  | .inr p => copySem p

section Cells

variable (own : Dev nD → Dev nD → ChunkC F) (c : Dev nD)

theorem ownSems_eq : (Pipeline.ownSems0 ownSem c : sProp (MM F))
    = iprop((bigSep Finset.univ fun r : Fin 16 => semVal ((c : Thread nD τ), gcell r) 0)
      ∗ (bigSep Finset.univ fun k : Fin 6 => semVal (sendCell c k) 0) ∗ (bigSep Finset.univ fun k : Fin 6 => semVal (recvCell c k) 0)) := by
  unfold Pipeline.ownSems0
  rw [bigSep_univ_sum, bigSep_univ_prod, stars_bool]
  rfl

/-- Six cells opened at once. -/
theorem open_six (κ : GSem nD τ sig → ℕ) (g : Fin 6 → GSem nD τ sig) :
    iprop((bigSep Finset.univ fun k => inv own κ (g k)) ∗ (bigSep Finset.univ fun k => openTok ER (g k)) ∗ bigSep Finset.univ fun k => semVal (g k) 0)
      ⊢ (|={Set.univ}=> iprop((bigSep Finset.univ fun k => atPos ER (g k) 0 ∅ 0) ∗ bigSep Finset.univ fun k => reached ER (g k) 0) : sProp (MM F)) := by
  rw [← bigSep_sep', ← bigSep_sep', ← bigSep_sep']
  exact BI.Entails.trans (bigSep_mono fun k _ => by unfold inv; exact Rounds.cell_open ER (ringRd own) (g := g k) (Set.mem_univ (κ (g k)))) (BI.bigSep_fupd _ _)

/-- Six cells closed at once. -/
theorem close_six (κ : GSem nD τ sig → ℕ) (g : Fin 6 → GSem nD τ sig) :
    iprop((bigSep Finset.univ fun k => inv own κ (g k)) ∗ bigSep Finset.univ fun k => atPos ER (g k) 1 ∅ 0)
      ⊢ (|={Set.univ}=> bigSep Finset.univ fun k => semVal (g k) 0 : sProp (MM F)) := by
  rw [← bigSep_sep']
  exact BI.Entails.trans (bigSep_mono fun k _ => by
    unfold inv; exact Rounds.cell_close ER (ringRd own) (g := g k) (Set.mem_univ (κ (g k))) id (duties_later own (g k))) (BI.bigSep_fupd _ _)

theorem inv_one (κ : GSem nD τ sig → ℕ) {g : GSem nD τ sig} (hg : g ∈ (barCells ∪ copyCells : Finset (GSem nD τ sig))) :
    records own κ ⊢ inv own κ g := by
  unfold records
  iintro ⟨#HI, -, -⟩
  iapply (inv_at own κ hg) $$ HI

theorem inv_six (κ : GSem nD τ sig → ℕ) (g : Fin 6 → GSem nD τ sig) (hg : ∀ k, g k ∈ (barCells ∪ copyCells : Finset (GSem nD τ sig))) :
    records own κ ⊢ bigSep Finset.univ fun k => inv own κ (g k) := by
  exact BI.Entails.trans (BI.bigSep_of_persistent Finset.univ (records own κ)) (bigSep_mono fun k _ => inv_one own κ (hg k))

theorem reached_one (κ : GSem nD τ sig → ℕ) (d : Dev nD) : records own κ ⊢ reached ER (barCell d) 0 := by
  unfold records
  iintro ⟨-, #HR, -⟩
  iapply (reached_at d) $$ HR

theorem book_of (κ : GSem nD τ sig → ℕ) :
    iprop(records own κ ∗ (bigSep Finset.univ fun k : Fin 6 => reached ER (sendCell c k) 0) ∗ bigSep Finset.univ fun k : Fin 6 => reached ER (recvCell c k) 0)
      ⊢ book c own κ := by
  unfold book
  iintro ⟨#HR, #Hs, #Hv⟩
  isplitr
  · isplitr; · iapply (inv_one own κ (bar_mem c)) $$ HR
    isplitr; · iapply (inv_one own κ (bar_mem (c + 1))) $$ HR
    iapply (inv_one own κ (bar_mem (c + 3))) $$ HR
  isplitr; · iapply (inv_six own κ (fun k => sendCell c k) fun k => send_mem c k) $$ HR
  isplitr; · iapply (inv_six own κ (fun k => recvCell c k) fun k => recv_mem c k) $$ HR
  isplitr; · iapply (inv_six own κ (fun k => recvCell (c + 1) k) fun k => recv_mem (c + 1) k) $$ HR
  isplitr
  · isplitr; · iapply (reached_one own κ (c + 1)) $$ HR
    iapply (reached_one own κ (c + 3)) $$ HR
  isplitr; · iexact Hs
  isplitr; · iexact Hv
  unfold records
  icases HR with ⟨-, -, Hl⟩
  iexact Hl

/-- The six copies' tokens gathered copy by copy. -/
theorem copies_of :
    iprop((bigSep Finset.univ fun k : Fin 6 => dutyTok ER (sendCell c k) 0 false) ∗ (bigSep Finset.univ fun k : Fin 6 => dutyTok ER (recvCell (c + 1) k) 0 false)
        ∗ (bigSep Finset.univ fun k : Fin 6 => atPos ER (sendCell c k) 0 ∅ 0) ∗ (bigSep Finset.univ fun k : Fin 6 => atPos ER (recvCell c k) 0 ∅ 0)
        ∗ bigSep Finset.univ fun k : Fin 6 => cred (tallyAt (recvCell c k) () chunkN))
      ⊢ (iprop(copyTok c 0 ∗ copyTok c 1 ∗ copyTok c 2 ∗ copyTok c 3 ∗ copyTok c 4 ∗ copyTok c 5) : sProp (MM F)) := by
  rw [← stars_six (fun k => copyTok c k), ← bigSep_sep', ← bigSep_sep', ← bigSep_sep', ← bigSep_sep']
  refine bigSep_mono fun k _ => ?_
  unfold copyTok sendTok recvTok sendAt recvAt
  show iprop(dutyTok ER (sendCell c k) 0 false ∗ dutyTok ER (recvCell (c + 1) k) 0 false ∗ atPos ER (sendCell c k) 0 ∅ 0 ∗ atPos ER (recvCell c k) 0 ∅ 0
    ∗ cred (tallyAt (recvCell c k) () chunkN)) ⊢ _
  iintro ⟨H1, H2, H3, H4, H5⟩
  isplitl [H1 H2]; · isplitl [H1] <;> iassumption
  isplitl [H3]; · iexact H3
  isplitl [H4] <;> iassumption

theorem copies_end :
    iprop(copyEnd c 0 ∗ copyEnd c 1 ∗ copyEnd c 2 ∗ copyEnd c 3 ∗ copyEnd c 4 ∗ copyEnd c 5)
      ⊢ (iprop((bigSep Finset.univ fun k : Fin 6 => atPos ER (sendCell c k) 1 ∅ 0) ∗ (bigSep Finset.univ fun k : Fin 6 => atPos ER (recvCell c k) 1 ∅ 0)) : sProp (MM F)) := by
  rw [← stars_six (fun k => copyEnd c k), ← bigSep_sep']
  exact bigSep_mono fun k _ => by unfold copyEnd sendAt recvAt; exact BI.Entails.refl _

/-- The ring protocol's part of what the body starts from. -/
def talkOpen : sProp (MM F) :=
  iprop((∃ κ : GSem nD τ sig → ℕ, book c own κ) ∗ barTok c ∗ (copyTok c 0 ∗ copyTok c 1 ∗ copyTok c 2 ∗ copyTok c 3 ∗ copyTok c 4 ∗ copyTok c 5)
    ∗ bigSep Finset.univ fun r : Fin 16 => semVal ((c : Thread nD τ), gcell r) 0)

theorem talk_open : iprop(talk own c ∗ Pipeline.ownSems0 ownSem c ∗ levAts L lv) ⊢ (|={Set.univ}=> talkOpen own c : sProp (MM F)) := by
  rw [ownSems_eq]
  unfold talk talkOpen opens pays dues barTok
  iintro ⟨⟨⟨%κ, #HR, Ha, ⟨Hos, Hor⟩, ⟨Hbl, Hbr⟩, Hds, Hdr⟩, Hcb, Hcr⟩, ⟨Hg, Hss, Hsr⟩, -⟩
  imod (open_six own κ fun k => sendCell c k) $$ [Hos Hss] with ⟨Has, #Hrs⟩
  · isplitr; · iapply (inv_six own κ (fun k => sendCell c k) fun k => send_mem c k) $$ HR
    isplitl [Hos] <;> iassumption
  imod (open_six own κ fun k => recvCell c k) $$ [Hor Hsr] with ⟨Har, #Hrr⟩
  · isplitr; · iapply (inv_six own κ (fun k => recvCell c k) fun k => recv_mem c k) $$ HR
    isplitl [Hor] <;> iassumption
  imodintro
  isplitr
  · iexists κ
    iapply (book_of own c κ)
    isplitr; · iexact HR
    isplitr; · iexact Hrs
    iexact Hrr
  isplitl [Hbl Hbr Hcb Ha]
  · isplitl [Hbl]; · iexact Hbl
    isplitl [Hbr]; · iexact Hbr
    isplitl [Hcb]; · iexact Hcb
    iexact Ha
  isplitr [Hg]
  · iapply (copies_of c)
    isplitl [Hds]; · iexact Hds
    isplitl [Hdr]; · iexact Hdr
    isplitl [Has]; · iexact Has
    isplitl [Har]; · iexact Har
    iexact Hcr
  iexact Hg

/-- Every cell of the device closed after the body. -/
theorem talk_close (κ : GSem nD τ sig → ℕ) :
    iprop(book c own κ ∗ atPos ER (barCell c) 1 ∅ 0 ∗ (copyEnd c 0 ∗ copyEnd c 1 ∗ copyEnd c 2 ∗ copyEnd c 3 ∗ copyEnd c 4 ∗ copyEnd c 5))
      ⊢ (|={Set.univ}=> iprop(semVal (barCell c) 0 ∗ (bigSep Finset.univ fun k : Fin 6 => semVal (sendCell c k) 0)
          ∗ (bigSep Finset.univ fun k : Fin 6 => semVal (recvCell c k) 0)) : sProp (MM F)) := by
  unfold book
  iintro ⟨⟨⟨#Hb, -, -⟩, #Hs, #Hv, -, -, -, -, -⟩, Ha, He⟩
  ihave He' := (copies_end c) $$ He
  icases He' with ⟨Hes, Hev⟩
  imod (Rounds.cell_close ER (ringRd own) (g := barCell c) (Set.mem_univ (κ (barCell c))) id (duties_later own (barCell c))) $$ [Ha] with H0
  · isplitr; · unfold inv; iexact Hb
    iexact Ha
  imod (close_six own κ fun k => sendCell c k) $$ [Hes] with H1
  · isplitr; · iexact Hs
    iexact Hes
  imod (close_six own κ fun k => recvCell c k) $$ [Hev] with H2
  · isplitr; · iexact Hv
    iexact Hev
  imodintro
  isplitl [H0]; · iexact H0
  isplitl [H1]; · iexact H1
  iexact H2

end Cells

end Cert.Proof.Lookup
-- ==== Proof.Dat.lean ====
/-
What the region holds before, during and after its one grid point.

Before the point: the two scratch buffers at any contents, the table, and what talking over the ring needs.  After it: the
same buffers, and every counter back at zero.  Each staging buffer holds the whole of the array it was fetched from; the
fifth is left at the finished result.
-/
module

public import proofs.«01_k».proof.Proof.Pieces
public import proofs.«01_k».proof.Proof.Gen.KernelIdeal.Points
public import proofs.«01_k».proof.Proof.Gen.KernelIdeal.Regions

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

variable (V : (c : Dev nD) → Valuation τ sig (Elt F)) (S : ∀ c, Sheet F c)

/-- The sheets are what the host stretches left. -/
structure Agrees : Prop where
  ft : ∀ c, V c (Proc.devRef .tc main_arg0) = (S c).ft
  pos : ∀ c, V c (Proc.devRef .tc main_v19_1) = (S c).pos
  loc : ∀ c, V c (Proc.devRef .tc main_v19_2) = (S c).loc
  bnd : ∀ c, V c (Proc.devRef .tc main_v25) = (S c).bnd
  idx : ∀ c, V c (Proc.devRef .tc main_v26) = (S c).idx

/-- The finished result. -/
def result : OutC F := whole (total (own S))

/-- The buffers the region holds throughout: the two scratch buffers at some contents, the table, the generator. -/
def around (c : Dev nD) : sProp (MM F) :=
  iprop((∃ f : GatC F, gatLoc c ↦{fullShare} f) ∗ (∃ f : ComC F, comLoc c ↦{fullShare} f) ∗ (tabLoc c ↦{fullShare} (S c).ft)
    ∗ ∃ r, prngReg c r)

/-- The counters back at zero. -/
def quiet (c : Dev nD) : sProp (MM F) :=
  iprop(semVal (barCell c) 0 ∗ Pipeline.ownSems0 (Ix := Unit) (Val := Elt F) (Name := ℕ) (U := UU) (Lvl := ℕ) ownSem c)

/-- What the body leaves in each staging buffer. -/
def leaves (c : Dev nD) : (w : Fin 5) → (cfg0.win w).block.Idx → Elt F (cfg0.win w).elt
  | 0 => (S c).pos
  | 1 => (S c).loc
  | 2 => (S c).bnd
  | 3 => (S c).idx
  | 4 => result S

/-- The region's account. -/
def dat (c : Dev nD) : Dat τ (Elt F) Unit ℕ UU ℕ cfg0 c where
  A w := V c (Proc.devRef .tc (Pipeline.arrRef spec0 w))
  after w _ := leaves S c w
  Φ t := if t.val = 0 then iprop(around S c ∗ talkOpen (own S) c) else iprop(around S c ∗ quiet c)
  q _ := fullShare
  owed t := if t.val = 0 then O₀ c else 0

def pdats : (p : Fin 1) → (c : Dev nD) → Dat τ (Elt F) Unit ℕ UU ℕ (Pipeline.pin (pcfgs (F := F)) adm p) c := fun _ => dat V S

theorem phi_first (c : Dev nD) : (dat V S c).Φ t0_0.castSucc = iprop(around S c ∗ talkOpen (own S) c) := rfl
theorem phi_last (c : Dev nD) : (dat V S c).Φ t0_0.succ = iprop(around S c ∗ quiet c) := rfl

theorem owed_first (c : Dev nD) : (dat V S c).owed t0_0.castSucc = O₀ c := rfl
theorem owed_last (c : Dev nD) : (dat V S c).owed t0_0.succ = 0 := rfl

theorem owesAt_elim (c : Dev nD) : ((dat V S c).owesAt () t0_0.castSucc : sProp (MM F)) ⊢ Owe c (O₀ c) := by
  unfold Dat.owesAt Pipeline.owesWithin Owe; rw [owed_first]
  iintro ⟨%W, -, HO⟩; iexists W; iexact HO

theorem owesAt_intro (c : Dev nD) : (Owe c 0 : sProp (MM F)) ⊢ (dat V S c).owesAt () t0_0.succ := by
  unfold Dat.owesAt Pipeline.owesWithin Dat.bound Owe; rw [owed_last]
  iintro ⟨%W, HO⟩; iexists W; isplitr
  · ipureintro; exact fun _ _ => Or.inl trivial
  iexact HO

variable {V S} (hA : Agrees V S)
include hA

/-! ## What the staging buffers hold at the point -/

omit hA in
/-- A window that is its whole array reads it at the same places. -/
theorem same_place (w : Fin 5) (j : ((win0 w).xblock (grid0.coords t0_0)).Idx) (a) : (((win0 w).rect t0_0).emb j a).val = (j a).val := by
  rw [Rect.emb_apply]
  fin_cases w <;> exact (congrArg₂ (· + ·) (Nat.zero_mul _) (Nat.one_mul _)).trans (Nat.zero_add _)

theorem before_pos (c : Dev nD) (d) : (dat V S c).before 0 t0_0 d = (S c).pos := by
  rw [(dat V S c).before_fetched 0 t0_0 (fetch0_0 t0_0) d, ← hA.pos c]
  funext j
  exact congrArg (V c (Proc.devRef .tc main_v19_1)) (funext fun a => Fin.ext (same_place 0 j a))

theorem before_loc (c : Dev nD) (d) : (dat V S c).before 1 t0_0 d = (S c).loc := by
  rw [(dat V S c).before_fetched 1 t0_0 (fetch0_1 t0_0) d, ← hA.loc c]
  funext j
  show V c (Proc.devRef .tc main_v19_2) _ = _
  congr 1
  funext a
  exact Fin.ext (same_place 1 j a)

theorem before_bnd (c : Dev nD) (d) : (dat V S c).before 2 t0_0 d = (S c).bnd := by
  rw [(dat V S c).before_fetched 2 t0_0 (fetch0_2 t0_0) d, ← hA.bnd c]
  funext j
  exact congrArg (V c (Proc.devRef .tc main_v25)) (funext fun a => Fin.ext (same_place 2 j a))

theorem before_idx (c : Dev nD) (d) : (dat V S c).before 3 t0_0 d = (S c).idx := by
  rw [(dat V S c).before_fetched 3 t0_0 (fetch0_3 t0_0) d, ← hA.idx c]
  funext j
  exact congrArg (V c (Proc.devRef .tc main_v26)) (funext fun a => Fin.ext (same_place 3 j a))

/-! ## What the arrays hold after the point -/

omit hA in
theorem result_landed (c : Dev nD) : (dat V S c).arrAt 4 cfg0.N = result S := by
  refine (dat V S c).arrAt_eq_of_cover 4 (result S) (fun t _ => ?_) fun i => ?_
  · obtain rfl := fin_N0 t
    funext j
    exact congrArg (result S) (funext fun a => Fin.ext (same_place 4 j a).symm)
  · refine ⟨t0_0, flush0_4 t0_0, ?_⟩
    refine Finset.mem_map.mpr ⟨i, Finset.mem_univ _, funext fun a => Fin.ext (same_place 4 i a)⟩

end Cert.Proof.Lookup
-- ==== Proof.Host.lean ====
/-
The sheets the host stretches hand to the kernel: the sorted lists and bounds of each device, with what the kernel needs to
know of them, and the agreement with the memory the region starts from.
-/
module

public import proofs.«01_k».proof.Proof.Order
public import proofs.«01_k».proof.Proof.Dat

@[expose] public section

noncomputable section

namespace Cert.Proof.Lookup

open Cert.KernelIdeal Cert.KernelIdeal.Gen
open Idealize.ShloMosaic Idealize.ShloMosaic.TcCoe Idealize.ShloMosaic.ValueIdx
open Idealize.ShloMosaic.StableHlo (after)

variable {F : FTy → Type} [FloatOps F]

/-! ## The lists read at a place -/

section

variable (c : Dev nD) (x : IVec S2048 32)

theorem at1_pos {q : Nat} (h : q < 2048) : (at1 (hostSort c x).2.1 q).toNat = (place c x ⟨q, h⟩).val := by
  unfold at1
  rw [dif_pos h, sort_pos, BitVec.toNat_ofNat]
  exact Nat.mod_eq_of_lt (by have := (place c x ⟨q, h⟩).isLt; omega)

theorem at1_loc {q : Nat} (h : q < 2048) : at1 (hostSort c x).2.2 q = hostLoc c x (ix1 (place c x ⟨q, h⟩)) := by
  unfold at1
  rw [dif_pos h, sort_loc]

/-- The bounds of the chunks. -/
abbrev bounds : IVec S5 32 := hostBound (hostCount (hostMask c x))

theorem bounds_lo (j : Dev nD) : (at5 (bounds c x) j.val).toNat = before (Owned c x) (512 * j.val) :=
  bound_eq _ _ (by have : j.val < 4 := j.isLt; omega)
theorem bounds_hi (j : Dev nD) : (at5 (bounds c x) (j.val + 1)).toNat = before (Owned c x) (512 * (j.val + 1)) :=
  bound_eq _ _ (by have : j.val < 4 := j.isLt; omega)
theorem place_lt {j : Dev nD} {q : Nat} (h : q < (at5 (bounds c x) (j.val + 1)).toNat) : q < 2048 := by
  rw [bounds_hi] at h
  exact lt_of_lt_of_le h (before_le _ _)

/-- The indices as a column. -/
abbrev column : IVec S2048x1 32 := broadcastInDim S2048x1 ![0] bcast_S2048_S2048x1_0 x

theorem column_at (p : Fin 2048) : column x (ix2 p 0) = x (ix1 p) :=
  congrArg x (funext fun a => by match a with | ⟨0, _⟩ => rfl)

end

/-- The rows a device should gather: each position's row of its block, as the host computed it. -/
def wanted (c : Dev nD) (ft : TabC F) (x : IVec S2048 32) : GatC F :=
  fun i => ft (ix2 ⟨(hostLoc c x (ix1 (i 0))).toNat, hostLoc_lt c x (i 0)⟩ (i 1))

/-- What device `c` is given, its block of the table `ft` and the indices `x`. -/
def sheet (c : Dev nD) (ft : TabC F) (x : IVec S2048 32) : Sheet F c where
  ft := ft
  pos := (hostSort c x).2.1
  loc := (hostSort c x).2.2
  bnd := bounds c x
  idx := column x
  g := wanted c ft x
  hs j := by
    rw [bounds_lo, bounds_hi]
    exact before_mono _ (by omega)
  he j := by
    rw [bounds_hi]
    exact before_le _ _
  hpos j q _ h2 := by
    rw [at1_pos c x (place_lt c x h2)]
    exact Fin.isLt _
  hinj j q q' _ h2 _ h2' h := by
    rw [at1_pos c x (place_lt c x h2), at1_pos c x (place_lt c x h2')] at h
    exact congrArg Fin.val (place_inj c x (Fin.ext h))
  hloc j q _ h2 := by
    rw [at1_loc c x (place_lt c x h2)]
    exact hostLoc_lt c x _
  hg j q h1 h2 i hi := by
    have hq := place_lt c x h2
    have hr : i 0 = place c x ⟨q, hq⟩ := by
      have := (Finset.mem_filter.mp hi).2
      rw [at1_pos c x hq] at this
      exact Fin.ext this
    unfold wanted
    have e : hostLoc c x (ix1 (i 0)) = at1 (hostSort c x).2.2 q := by rw [at1_loc c x hq, hr]
    exact congrArg ft (congrArg (fun k : Fin 8192 => ix2 k (i 1)) (Fin.ext (congrArg BitVec.toNat e)))
  cover j p h1 h2 hm := by
    rw [column_at, ← hostMask_eq] at hm
    obtain ⟨q, hq1, hq2, hq⟩ := covered (Owned c x) (place c x) (place_inj c x) (place_ord c x) (show Owned c x p from hm) h1
      (show p.val < 512 * (j.val + 1) by omega)
    refine ⟨q.val, ?_, ?_, ?_⟩
    · rw [bounds_lo]; exact hq1
    · rw [bounds_hi]; exact hq2
    · rw [at1_pos c x q.isLt, show place c x ⟨q.val, q.isLt⟩ = p from hq]

/-! ## What the region starts from -/

variable (m : (ℓ : Loc nD τ sig) → Buf (Elt F) ℓ)

/-- The indices device `c` is given. -/
abbrev given (c : Dev nD) : IVec S2048 32 := V0 m c (Proc.devRef .tc main_arg1)
/-- The block of the table device `c` holds. -/
abbrev tab (c : Dev nD) : TabC F := V0 m c (Proc.devRef .tc main_arg0)
/-- Every device's sheet. -/
def sheets : ∀ c, Sheet F c := fun c => sheet c (tab m c) (given m c)

section

variable (c : Dev nD)

theorem v4_mask : V4 m c (Proc.devRef .tc main_v12) = hostMask c (given m c) :=
  ((V4_of m c main_v12 (by decide)).trans <| (V3_of m c main_v12 (by decide)).trans (V2_of m c main_v12 (by decide))).trans (read0_v12 (V0 m c) c)
theorem v4_iota : V4 m c (Proc.devRef .tc main_v6) = iotaInDim S2048 32 0 :=
  ((V4_of m c main_v6 (by decide)).trans <| (V3_of m c main_v6 (by decide)).trans (V2_of m c main_v6 (by decide))).trans (read0_v6 (V0 m c) c)
theorem v4_key : V4 m c (Proc.devRef .tc main_v15) = hostKey c (given m c) := by
  refine ((V4_of m c main_v15 (by decide)).trans (V3_of m c main_v15 (by decide))).trans ((read1_v15 (V1 m c)).trans ?_)
  have e1 : V1 m c (Proc.devRef .tc main_v12) = _ := read0_v12 (V0 m c) c
  have e2 : V1 m c (Proc.devRef .tc main_v6) = _ := read0_v6 (V0 m c) c
  have e3 : V1 m c (Proc.devRef .tc main_v14) = _ := read0_v14 (V0 m c) c
  rw [e1, e2, e3]
  rfl
theorem v4_loc : V4 m c (Proc.devRef .tc main_v18) = hostLoc c (given m c) := by
  refine (read3_v18 (V3 m c)).trans ?_
  have e1 : V2 m c (Proc.devRef .tc main_arg1) = given m c := (V2_of m c main_arg1 (by decide)).trans (V1_of m c main_arg1 (by decide))
  have e2 : V2 m c (Proc.devRef .tc main_v5) = hostLow c := (V2_of m c main_v5 (by decide)).trans (read0_v5 (V0 m c) c)
  have e3 : V3 m c (Proc.devRef .tc main_c_4) = _ := read2_c4 (V2 m c)
  have e4 : V3 m c (Proc.devRef .tc main_c_5) = _ := read2_c5 (V2 m c)
  have e5 : V3 m c (Proc.devRef .tc main_v17) = _ := read2_v17 (V2 m c)
  rw [e3, e4, e5, e1, e2]
  rfl
theorem v7_pos : V7 m c (Proc.devRef .tc main_v19_1) = (hostSort c (given m c)).2.1 := by
  refine ((V7_of m c main_v19_1 (by decide)).trans (V6_of m c main_v19_1 (by decide))).trans ((read4_v19_1 (V4 m c)).trans ?_)
  rw [v4_key, v4_iota, v4_loc]
theorem v7_loc : V7 m c (Proc.devRef .tc main_v19_2) = (hostSort c (given m c)).2.2 := by
  refine ((V7_of m c main_v19_2 (by decide)).trans (V6_of m c main_v19_2 (by decide))).trans ((read4_v19_2 (V4 m c)).trans ?_)
  rw [v4_key, v4_iota, v4_loc]
theorem v7_bnd : V7 m c (Proc.devRef .tc main_v25) = bounds c (given m c) := by
  refine (read6_v25 (V6 m c)).trans ?_
  have e1 : V6 m c (Proc.devRef .tc main_v23) = broadcastInDim S1 ![] bcast_S_S1 (constantI S_ 32 0#32) :=
    (V6_of m c main_v23 (by decide)).trans (read4_v23 (V4 m c))
  have e2 : V6 m c (Proc.devRef .tc main_v24) = _ := read5_v24 (V5 m c)
  have e3 : V5 m c (Proc.devRef .tc main_v22) = _ := read4_v22 (V4 m c)
  rw [e1, e2, e3, v4_mask]
  rfl
theorem v7_idx : V7 m c (Proc.devRef .tc main_v26) = column (given m c) := by
  refine (read6_v26 (V6 m c)).trans ?_
  have e : V6 m c (Proc.devRef .tc main_arg1) = given m c :=
    (V6_of m c main_arg1 (by decide)).trans <| (V5_of m c main_arg1 (by decide)).trans <| (V4_of m c main_arg1 (by decide)).trans <|
      (V3_of m c main_arg1 (by decide)).trans <| (V2_of m c main_arg1 (by decide)).trans (V1_of m c main_arg1 (by decide))
  rw [e]
theorem v7_tab : V7 m c (Proc.devRef .tc main_arg0) = tab m c :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans (V1_of m c main_arg0 (by decide))

end

/-- The host stretches fill the sheets. -/
theorem agrees : Agrees (V7 m) (sheets m) where
  ft := v7_tab m
  pos := v7_pos m
  loc := v7_loc m
  bnd := v7_bnd m
  idx := v7_idx m

end Cert.Proof.Lookup
-- ==== Proof.Owner.lean ====
/-
The finished result over exact values: of the four devices one owns the row asked for, the others bring zero, so the sum
around the ring is the owner's row of its block of the table.
-/
module

public import proofs.«01_k».proof.Proof.Host
public import Idealize.ShloMosaic.PureOps.Ideal
public import Idealize.ShloMosaic.Lib.IdealHost
public import Idealize.ShloMosaic.Lib.ValueLayout

@[expose] public section

noncomputable section

namespace Cert.Proof.Lookup

open Cert.KernelIdeal Cert.KernelIdeal.Gen
open Idealize.ShloMosaic Idealize.ShloMosaic.TcCoe Idealize.ShloMosaic.ValueIdx

/-! ## The sum around the ring -/

/-- A received chunk added to a device's own, at an element. -/
theorem pay5_apply (a b : ChunkC Ideal) (x : S512x1024.Idx) :
    (k0_pay5 (F := Ideal) a (lead b) x : EReal) = (a x : EReal) + (b x : EReal) := by
  unfold k0_pay5
  rw [shapeCast_self]
  have e : shapeCast S512x1024 (lead b) shapeCasts_S1x512x1024_S512x1024 x = b x := by
    obtain ⟨p, q, rfl⟩ : ∃ (p : Fin 512) (q : Fin 1024), x = ix2 p q :=
      ⟨x 0, x 1, funext fun a => by match a with | ⟨0, _⟩ => rfl | ⟨1, _⟩ => rfl⟩
    exact shapeCast_1ab_ab_apply (lead b) _ p q
  exact congrArg (fun z : EReal => (a x : EReal) + z) e

/-- Around the ring the devices follow one another. -/
theorem ring_steps : ∀ j : Fin 4, j + 3 + 1 = j ∧ j + 3 + 3 = j + 2 ∧ j + 2 + 2 = j ∧ j + 2 + 3 = j + 1 ∧ j + 1 + 3 = j := by decide

variable (own : Dev nD → Dev nD → ChunkC Ideal)

/-- A finished chunk is the sum of what the four devices bring to it. -/
theorem total_apply (j : Dev nD) (x : S512x1024.Idx) :
    (total own j x : EReal)
      = (own (j + 3) j x : EReal) + ((own (j + 2) j x : EReal) + ((own (j + 1) j x : EReal) + (own j j x : EReal))) := by
  obtain ⟨h1, h2, h3, h4, h5⟩ := ring_steps j
  have e1 : part1 own (j + 1) = k0_pay5 (own (j + 1) j) (lead (own j j)) := by
    unfold part1 part0
    rw [h5]
  have e2 : part2 own (j + 2) = k0_pay5 (own (j + 2) j) (lead (part1 own (j + 1))) := by
    unfold part2
    rw [h3, h4]
  have e3 : total own j = k0_pay5 (own (j + 3) j) (lead (part2 own (j + 2))) := by
    unfold total part3
    rw [h1, h2]
  rw [e3, pay5_apply, e2, pay5_apply, e1, pay5_apply]

/-- Where one device brings a value and the others zero, the sum is that value. -/
theorem ring_sum (f : Fin 4 → EReal) (d : Fin 4) (t : EReal) (h : ∀ c, f c = if c = d then t else 0) (j : Fin 4) :
    f (j + 3) + (f (j + 2) + (f (j + 1) + f j)) = t := by
  have hd : ∀ j d : Fin 4, (j + 3 = d ∧ ¬ j + 2 = d ∧ ¬ j + 1 = d ∧ ¬ j = d) ∨ (¬ j + 3 = d ∧ j + 2 = d ∧ ¬ j + 1 = d ∧ ¬ j = d)
      ∨ (¬ j + 3 = d ∧ ¬ j + 2 = d ∧ j + 1 = d ∧ ¬ j = d) ∨ (¬ j + 3 = d ∧ ¬ j + 2 = d ∧ ¬ j + 1 = d ∧ j = d) := by decide
  rw [h, h, h, h]
  rcases hd j d with ⟨a, b, c, e⟩ | ⟨a, b, c, e⟩ | ⟨a, b, c, e⟩ | ⟨a, b, c, e⟩
  · rw [if_pos a, if_neg b, if_neg c, if_neg e, add_zero, add_zero, add_zero]
  · rw [if_neg a, if_pos b, if_neg c, if_neg e, add_zero, add_zero, zero_add]
  · rw [if_neg a, if_neg b, if_pos c, if_neg e, add_zero, zero_add, zero_add]
  · rw [if_neg a, if_neg b, if_neg c, if_pos e, zero_add, zero_add, zero_add]

/-! ## What a device brings -/

section

variable (c : Dev nD) (ft : TabC Ideal) (x : IVec S2048 32)

/-- The position of row `r` of chunk `j`. -/
abbrev posOf (j : Dev nD) (r : Fin 512) : Fin 2048 := ⟨512 * j.val + r.val, by have : j.val < 4 := j.isLt; omega⟩

theorem own_apply (j : Dev nD) (r : Fin 512) (y : Fin 1024) :
    ((sheet c ft x).own j (ix2 r y) : EReal)
      = if mine (lowWord c) (x (ix1 (posOf j r))) = 1#1 then
          (ft (ix2 ⟨(hostLoc c x (ix1 (posOf j r))).toNat, hostLoc_lt c x (posOf j r)⟩ y) : EReal) else 0 := by
  have e := pay8_apply (F := Ideal) (lowWord c) (chunkI (column x) j) (chunkG (wanted c ft x) j) (ix2 r y)
  have hi : chunkI (F := Ideal) (column x) j (ix2 r 0) = x (ix1 (posOf j r)) := column_at x (posOf j r)
  refine (show ((sheet c ft x).own j (ix2 r y) : EReal) = _ from e).trans ?_
  show (if mine (lowWord c) (chunkI (F := Ideal) (column x) j (ix2 r 0)) = 1 then _ else _) = _
  rw [hi]
  have hz : (Scalar.ofBits (F := Ideal) .f32 0x00000000#32 : EReal) = 0 := by
    show Ideal.ofBits .f32 0x00000000#32 = 0
    simp [Ideal.ofBits, Ideal.ieee]
  by_cases h : mine (lowWord c) (x (ix1 (posOf j r))) = 1#1
  · exact (if_pos h).trans (if_pos h).symm
  · exact (if_neg h).trans (hz.trans (if_neg h).symm)

end

end Cert.Proof.Lookup
-- ==== Proof.Region.lean ====
/-
The pallas_call as a region of the launch.

The body's run is put against the region's account: the buffers opened into the pieces the body works on, the body run, the
pieces closed again.
-/
module

public import proofs.«01_k».proof.Proof.Dat

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

theorem runs_fupd {c : Dev nD} {α : Type} (p : Prog (TpuEff nD τ sig (Elt F) Λ₀ .tc) α) (Q : α → sProp (MM F)) :
    Runs c p (fun a => iprop(|={Set.univ}=> Q a)) ⊢ Runs c p Q := wp_fupd _ _ _ p Q

variable (V : (c : Dev nD) → Valuation τ sig (Elt F)) (S : ∀ c, Sheet F c)

/-- The staging buffers before the body. -/
def fedIn (c : Dev nD) : sProp (MM F) :=
  iprop((posLoc c ↦{fullShare} (S c).pos) ∗ (locLoc c ↦{fullShare} (S c).loc) ∗ (bndLoc c ↦{fullShare} (S c).bnd)
    ∗ (idxLoc c ↦{fullShare} (S c).idx) ∗ ∃ f : OutC F, outLoc c ↦{fullShare} f)

/-- The staging buffers after the body. -/
def fedOut (c : Dev nD) : sProp (MM F) :=
  iprop((posLoc c ↦{fullShare} (S c).pos) ∗ (locLoc c ↦{fullShare} (S c).loc) ∗ (bndLoc c ↦{fullShare} (S c).bnd)
    ∗ (idxLoc c ↦{fullShare} (S c).idx) ∗ (outLoc c ↦{fullShare} result S))

/-- The pieces opened. -/
theorem open_all (c : Dev nD) : iprop(around S c ∗ talkOpen (own S) c ∗ fedIn S c ∗ Owe c (O₀ c))
    ⊢ iprop((∃ κ : GSem nD τ sig → ℕ, book c (own S) κ) ∗ ready S c ∗ spare c (S c).ft ∗ ∃ r, prngReg c r) := by
  unfold around talkOpen fedIn ready words lists rest
  iintro ⟨⟨Hg, ⟨%fc, Hc⟩, Ht, Hp⟩, ⟨Hb, Hbar, Htok, Hs⟩, ⟨Hpos, Hloc, Hbnd, Hidx, ⟨%fo, Ho⟩⟩, HO⟩
  isplitl [Hb]; · iexact Hb
  ihave Htt := (table_open c (S c).ft) $$ [Ht Hs]
  · isplitl [Ht] <;> iassumption
  icases Htt with ⟨Hsp, Hidle⟩
  isplitr [Hsp Hp]
  · isplitl [Hbnd Hidx]; · isplitl [Hbnd] <;> iassumption
    isplitl [Hpos Hloc]; · isplitl [Hpos] <;> iassumption
    isplitl [Hg Hidle]; · isplitl [Hg] <;> iassumption
    isplitl [Ho]; · iapply (out_open c fo) $$ Ho
    isplitl [Hc]; · iapply (slots_open c fc) $$ Hc
    isplitl [Hbar]; · iexact Hbar
    isplitl [Htok]; · iexact Htok
    iexact HO
  isplitl [Hsp] <;> iassumption

/-- The pieces closed. -/
theorem close_all (c : Dev nD) (κ : GSem nD τ sig → ℕ) :
    iprop(book c (own S) κ ∗ finished S c ∗ spare c (S c).ft ∗ ∃ r, prngReg c r)
      ⊢ (|={Set.univ}=> iprop(around S c ∗ quiet c ∗ fedOut S c ∗ Owe c 0) : sProp (MM F)) := by
  unfold around quiet fedOut finished words lists rest
  rw [owedFrom_end, ownSems_eq]
  iintro ⟨#Hb, ⟨⟨Hbnd, Hidx⟩, ⟨Hpos, Hloc⟩, ⟨Hg, Hidle⟩, Ho, Hc, Hbar, Htok, HO⟩, Hsp, Hp⟩
  imod (talk_close (own S) c κ) $$ [Hbar Htok] with ⟨Hb0, Hs0, Hv0⟩
  · isplitr; · iexact Hb
    isplitl [Hbar] <;> iassumption
  ihave Htt := (table_close c (S c).ft) $$ [Hsp Hidle]
  · isplitl [Hsp] <;> iassumption
  icases Htt with ⟨Ht, Hs⟩
  imodintro
  isplitl [Hg Hc Ht Hp]
  · isplitl [Hg]; · iexact Hg
    isplitl [Hc]; · iapply (slots_close c) $$ Hc
    isplitl [Ht] <;> iassumption
  isplitl [Hb0 Hs Hs0 Hv0]
  · isplitl [Hb0]; · iexact Hb0
    isplitl [Hs]; · iexact Hs
    isplitl [Hs0] <;> iassumption
  isplitr [HO]
  · isplitl [Hpos]; · iexact Hpos
    isplitl [Hloc]; · iexact Hloc
    isplitl [Hbnd]; · iexact Hbnd
    isplitl [Hidx]; · iexact Hidx
    iapply (out_close c (total (own S))) $$ Ho
  iexact HO

/-- The body, buffers in, buffers out. -/
theorem body_whole (c : Dev nD) : iprop(around S c ∗ talkOpen (own S) c ∗ fedIn S c ∗ Owe c (O₀ c))
    ⊢ Runs c (theBody (F := F)) fun _ => iprop(around S c ∗ quiet c ∗ fedOut S c ∗ Owe c 0) := by
  refine (open_all S c).trans (BIBase.Entails.trans ?_ (runs_fupd _ _))
  iintro ⟨⟨%κ, #Hb⟩, Hr, Hsp⟩
  iapply (body_run S κ c) $$ [Hr]
  · isplitr; · iexact Hb
    iexact Hr
  iintro Hf
  iapply (close_all S c κ)
  isplitr; · iexact Hb
  isplitl [Hf] <;> iassumption

variable {V S} (hA : Agrees V S)
include hA

/-- The region's body obligation. -/
theorem body_ob (c : Dev nD) : BodyObligation (dat V S c) defs₀ 𝒱₀ () Set.univ := fun t => by
  obtain rfl := fin_N0 t
  rw [bigSep_W0, bigSep_W0, phi_first, phi_last]
  show iprop((around S c ∗ talkOpen (own S) c) ∗ (dat V S c).owesAt () t0_0.castSucc
      ∗ (∃ d, owns (c : Thread nD τ) (Memref.whole cc0_stg0_0) fullShare ((dat V S c).before 0 t0_0 d))
      ∗ (∃ d, owns (c : Thread nD τ) (Memref.whole cc0_stg1_0) fullShare ((dat V S c).before 1 t0_0 d))
      ∗ (∃ d, owns (c : Thread nD τ) (Memref.whole cc0_stg2_0) fullShare ((dat V S c).before 2 t0_0 d))
      ∗ (∃ d, owns (c : Thread nD τ) (Memref.whole cc0_stg3_0) fullShare ((dat V S c).before 3 t0_0 d))
      ∗ (∃ d, owns (c : Thread nD τ) (Memref.whole cc0_stg4_0) fullShare ((dat V S c).before 4 t0_0 d)))
    ⊢ Runs c (theBody (F := F)) fun _ => iprop((around S c ∗ quiet c) ∗ (dat V S c).owesAt () t0_0.succ
      ∗ owns (c : Thread nD τ) (Memref.whole cc0_stg0_0) fullShare (S c).pos
      ∗ owns (c : Thread nD τ) (Memref.whole cc0_stg1_0) fullShare (S c).loc
      ∗ owns (c : Thread nD τ) (Memref.whole cc0_stg2_0) fullShare (S c).bnd
      ∗ owns (c : Thread nD τ) (Memref.whole cc0_stg3_0) fullShare (S c).idx
      ∗ owns (c : Thread nD τ) (Memref.whole cc0_stg4_0) fullShare (result S))
  refine BIBase.Entails.trans ?_ ((body_whole S c).trans (wp_mono (Q' := fun _ => iprop((around S c ∗ quiet c) ∗ (dat V S c).owesAt () t0_0.succ
      ∗ owns (c : Thread nD τ) (Memref.whole cc0_stg0_0) fullShare (S c).pos
      ∗ owns (c : Thread nD τ) (Memref.whole cc0_stg1_0) fullShare (S c).loc
      ∗ owns (c : Thread nD τ) (Memref.whole cc0_stg2_0) fullShare (S c).bnd
      ∗ owns (c : Thread nD τ) (Memref.whole cc0_stg3_0) fullShare (S c).idx
      ∗ owns (c : Thread nD τ) (Memref.whole cc0_stg4_0) fullShare (result S))) _ _ _ fun _ => ?_))
  · unfold fedIn
    simp only [before_pos hA, before_loc hA, before_bnd hA, before_idx hA, owns_whole]
    iintro ⟨⟨Ha, Ht⟩, HO, ⟨%d0, H0⟩, ⟨%d1, H1⟩, ⟨%d2, H2⟩, ⟨%d3, H3⟩, ⟨%d4, H4⟩⟩
    isplitl [Ha]; · iexact Ha
    isplitl [Ht]; · iexact Ht
    isplitr [HO]
    · isplitl [H0]; · iexact H0
      isplitl [H1]; · iexact H1
      isplitl [H2]; · iexact H2
      isplitl [H3]; · iexact H3
      iexists _; iexact H4
    iapply (owesAt_elim V S c) $$ HO
  · unfold fedOut
    simp only [owns_whole]
    iintro ⟨Ha, Hq, ⟨H0, H1, H2, H3, H4⟩, HO⟩
    isplitl [Ha Hq]; · isplitl [Ha] <;> iassumption
    isplitl [HO]; · iapply (owesAt_intro V S c) $$ HO
    isplitl [H0]; · iexact H0
    isplitl [H1]; · iexact H1
    isplitl [H2]; · iexact H2
    isplitl [H3]; · iexact H3
    iexact H4

end Cert.Proof.Lookup
-- ==== Proof.Launch.lean ====
/-
The launch's region record, over any contents the host stretches leave that agree with the sheets.
-/
module

public import proofs.«01_k».proof.Proof.Region
public import Idealize.ShloMosaic.Lib.Pipeline.RegionTalk

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]
variable (V : (c : Dev nD) → Valuation τ sig (Elt F)) (S : ∀ c, Sheet F c)

/-- The buffers after the region: the result's array at the finished result. -/
def after (c : Dev nD) : Valuation τ sig (Elt F) := Function.update (V c) (Proc.devRef .tc main_v27) (result S)

theorem after_ne (c : Dev nD) (b : DevRef τ sig) (h : b ≠ Proc.devRef .tc main_v27) : after V S c b = V c b :=
  Function.update_of_ne h _ _

/-- The table's buffer, which the body reads itself. -/
abbrev tabRefs : Finset (DevRef τ sig) := {Proc.devRef .tc main_arg0}
/-- The buffers the windows do not move. -/
abbrev restRefs : Finset (DevRef τ sig) := Pipeline.ucRefs τ sig \ Pipeline.arrRefs spec0

theorem v27_arr : Proc.devRef .tc main_v27 ∈ Pipeline.arrRefs (τ := τ) spec0 := by decide
theorem arr_uc : Pipeline.arrRefs (τ := τ) spec0 ⊆ Pipeline.ucRefs τ sig := by decide
theorem tab_rest : tabRefs ⊆ restRefs := by decide

theorem held_tab (c : Dev nD) (W : Valuation τ sig (Elt F)) (ft : TabC F) (h : W (Proc.devRef .tc main_arg0) = ft) :
    (StableHlo.held (c.tc : Thread nD τ) tabRefs W : sProp (MM F)) = (tabLoc c ↦{fullShare} ft) := by
  unfold StableHlo.held; rw [bigSep_singleton, h]

variable {V S} (hA : Agrees V S)
include hA

theorem region_in (c : Dev nD) : iprop(Pipeline.scopedRest (Pipeline.pin (pcfgs (F := F)) adm 0).spec c ∗ (∃ r, prngReg c r)
      ∗ StableHlo.held (c.tc : Thread nD τ) tabRefs (V c) ∗ talkOpen (own S) c) ⊢ (pdats V S 0 c).Φ 0 := by
  rw [show (pdats V S 0 c).Φ 0 = iprop(around S c ∗ talkOpen (own S) c) from rfl, scopedRest0_eq, held_tab c _ _ (hA.ft c)]
  unfold around
  iintro ⟨⟨Hg, Hc⟩, Hp, Ht, HT⟩
  isplitr [HT]
  · isplitl [Hg]; · iexact Hg
    isplitl [Hc]; · iexact Hc
    isplitl [Ht] <;> iassumption
  iexact HT

theorem region_out (c : Dev nD) : (pdats V S 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tabRefs (after V S c) ∗ Pipeline.ownSems0 ownSem c ∗ semVal (barCell c) 0) := by
  rw [show (pdats V S 0 c).Φ (Fin.last (Pipeline.pin (pcfgs (F := F)) adm 0).N) = iprop(around S c ∗ quiet c) from rfl, scopedRest0_eq,
    held_tab c _ (S c).ft ((after_ne V S c _ (by decide)).trans (hA.ft c))]
  unfold around quiet
  iintro ⟨⟨Hg, Hc, Ht, Hp⟩, Hb, Hs⟩
  isplitl [Hg Hc]; · isplitl [Hg] <;> iassumption
  isplitl [Hp]; · iexact Hp
  isplitl [Ht]; · iexact Ht
  isplitl [Hs] <;> iassumption

omit hA in
theorem share_full (c : Dev nD) (w : Fin 5) : (dat V S c).share w = fullShare := by
  unfold Dat.share; exact ite_self _

omit hA in
theorem staging_low (c : Dev nD) : ∀ (w : Fin 5) (s : Fin (win0 w).nbuf), lvRole (role (.dma ((win0 w).sem s))) ≤ 0 := by decide

omit hA in
theorem left_at (c : Dev nD) (w : Fin 5) : (dat V S c).arrAt w cfg0.N = after V S c (Proc.devRef .tc (Pipeline.arrRef spec0 w)) := by
  have h4 : (dat V S c).arrAt 4 cfg0.N = after V S c (Proc.devRef .tc main_v27) :=
    (result_landed c).trans (Function.update_self (Proc.devRef .tc main_v27) (result S) (V c)).symm
  fin_cases w
  · exact ((dat V S c).arrAt_in 0 rfl _).trans (after_ne V S c (Proc.devRef .tc main_v19_1) (by decide)).symm
  · exact ((dat V S c).arrAt_in 1 rfl _).trans (after_ne V S c (Proc.devRef .tc main_v19_2) (by decide)).symm
  · exact ((dat V S c).arrAt_in 2 rfl _).trans (after_ne V S c (Proc.devRef .tc main_v25) (by decide)).symm
  · exact ((dat V S c).arrAt_in 3 rfl _).trans (after_ne V S c (Proc.devRef .tc main_v26) (by decide)).symm
  · exact h4

omit hA in
theorem rest_kept (c : Dev nD) : ∀ b ∈ restRefs \ tabRefs, after V S c b = V c b := fun b hb =>
  after_ne V S c b fun h => (Finset.mem_sdiff.mp (Finset.mem_sdiff.mp hb).1).2 (h ▸ v27_arr)

omit hA in
theorem cut (c : Dev nD) (t : Fin (cfg0.N + 1)) (g : GSem nD τ sig) (i : Unit) (h : 0 < (dat V S c).owed t g i) : i ∈ L g ∧ 0 < lv g i := by
  have e : (dat V S c).owed t = if t.val = 0 then O₀ c else 0 := rfl
  rw [e] at h
  split at h
  · exact O₀_cut h
  · exact absurd h (Nat.lt_irrefl 0)

set_option backward.isDefEq.respectTransparency.types false in
/-- The region's record. -/
def reg : Pipeline.RegionSeg (pcfgs (F := F)) adm (pdats V S) () defs₀ 𝒱₀ L lv 0 :=
  Pipeline.RegionSeg.ofTalk (pcfgs (F := F)) adm (pdats V S) () defs₀ 𝒱₀ L lv 0 ownSem (by decide : Pipeline.OwnSemFacts spec0 ownSem)
    tabRefs restRefs tab_rest launch0.toP rfl (fun c => (body_ob hA c).loose)
    (fun _ => 0) O₀ (fun c => (zero_add (O₀ c)).symm) (fun _ => rfl) (fun _ => rfl) share_full
    V (after V S) rest_kept
    (talk (own S)) (fun c => semVal (barCell c) 0) (talkOpen (own S)) (fun c => semVal (barCell c) 0) (talk_open (own S)) (region_in hA) (region_out hA)
    (fun c => by iintro H; imodintro; iexact H)
    (fun _ => 0)
    ⟨fun c w s => by rw [L_tc]; exact Finset.mem_singleton_self _, fun c w s => staging_low c w s, fun c t g i h => cut c t g i h⟩
    (fun _ => iprop(emp))
    (fun _ _ => rfl) left_at

theorem reg_pre (c : Dev nD) :
    iprop(StableHlo.held (c : Thread nD τ) (Pipeline.ucRefs τ sig) (V c) ∗ entry (own S) c) ⊢ (reg hA).pre c := by
  show _ ⊢ iprop(StableHlo.held (c.tc : Thread nD τ) (Pipeline.arrRefs (τ := τ) spec0) (V c) ∗ (∃ r, prngReg c r)
    ∗ (StableHlo.held (c.tc : Thread nD τ) restRefs (V c) ∗ emp) ∗ talk (own S) c ∗ ∃ Wd, owes (c : Thread nD τ) (0 + O₀ c) Wd)
  rw [zero_add, StableHlo.held_sub_split (c.tc : Thread nD τ) arr_uc (V c)]
  unfold entry
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg hA).post c
    ⊢ iprop(StableHlo.held (c : Thread nD τ) (Pipeline.ucRefs τ sig) (after V S c)
      ∗ (semVal (barCell c) 0 ∗ ∃ W, owes (c : Thread nD τ) (0 : CellTallies nD τ sig Unit) W)) := by
  show iprop(StableHlo.held (c.tc : Thread nD τ) (Pipeline.arrRefs (τ := τ) spec0) (after V S c) ∗ (∃ r, prngReg c r)
    ∗ (StableHlo.held (c.tc : Thread nD τ) restRefs (after V S c) ∗ emp) ∗ semVal (barCell c) 0
    ∗ ∃ Wd, owes (c : Thread nD τ) (0 : CellTallies nD τ sig Unit) Wd) ⊢ _
  rw [StableHlo.held_sub_split (c.tc : Thread nD τ) arr_uc (after V S c)]
  iintro ⟨Ha, -, ⟨Hr, -⟩, Hb, HO⟩
  isplitl [Ha Hr]; · isplitl [Ha] <;> iassumption
  isplitl [Hb] <;> iassumption

end Cert.Proof.Lookup
-- ==== Proof.Run.lean ====
/-
The run of the whole program on the four devices, over any float values.

The host stretches fill the sheets; the region makes the result; every counter ends at zero.
-/
module

public import proofs.«01_k».proof.Proof.Launch

@[expose] public section

noncomputable section

namespace Cert.Proof.Lookup

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation Seg)

variable {F : FTy → Type} [FloatOps F]
variable (m : (ℓ : Loc nD τ sig) → Buf (Elt F) ℓ) (ρ : Dev nD → PrngReg)
variable {S : ∀ c, Sheet F c} (hA : Agrees (V7 m) S)

/-- Beside the buffers: the protocol before the region, the barrier after it. -/
def beside (S : ∀ c, Sheet F c) : Fin 2 → Dev nD → sProp (MM F)
  | 0 => entry (own S)
  | 1 => fun c => iprop(semVal (barCell c) 0 ∗ ∃ W, owes (c : Thread nD τ) (0 : CellTallies nD τ sig Unit) W)

abbrev items (c : Dev nD) : List (Seg (pcfgs (F := F)) adm (pdats (V7 m) S) () defs₀ 𝒱₀ L lv) :=
  segs m 𝒱₀ L lv (beside S) () (pdats (V7 m) S) (reg hA) c

/-- The arguments are never written. -/
theorem arg0_kept (c : Dev nD) : after (V7 m) S c (Proc.devRef .tc main_arg0) = m ((c : Thread nD τ).loc main_arg0) :=
  V8_main_arg0 m (fun _ r c => after (V7 m) S c (Proc.devRef .tc r)) c
theorem arg1_kept (c : Dev nD) : after (V7 m) S c (Proc.devRef .tc main_arg1) = m ((c : Thread nD τ).loc main_arg1) :=
  V8_main_arg1 m (fun _ r c => after (V7 m) S c (Proc.devRef .tc r)) c

theorem launched : iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c)) ∗ levAts L lv)
    ⊢ (|={Set.univ}=> bigSep Finset.univ fun c : Dev nD =>
        iprop(StableHlo.held (c : Thread nD τ) (Pipeline.ucRefs τ sig) (V0 m c) ∗ beside S 0 c) : sProp (MM F)) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c
            ∗ prngReg c (ρ c) ∗ parked c)) : sProp (MM F)) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hl⟩
  ihave H' := hsplit $$ H
  icases H' with ⟨Hh, Hr⟩
  imod (deal (own S) ρ) $$ [Hr Hl] with HE
  · isplitl [Hr] <;> iassumption
  imodintro
  rw [bigSep_sep']
  isplitl [Hh]; · iexact Hh
  iexact HE

theorem ended (c : Dev nD) (s' : Phys nD τ sig (Elt F)) :
    iprop((StableHlo.held (c : Thread nD τ) (Pipeline.ucRefs τ sig) (after (V7 m) S c) ∗ semVal (barCell c) 0) ∗ SI s')
      ⊢ (|={Set.univ}=> iprop(⌜(s'.mem.mem ((c.tc : Thread nD τ).loc main_v27) = result S
          ∧ s'.mem.mem ((c.tc : Thread nD τ).loc main_arg0) = m ((c.tc : Thread nD τ).loc main_arg0)
          ∧ s'.mem.mem ((c.tc : Thread nD τ).loc main_arg1) = m ((c.tc : Thread nD τ).loc main_arg1))
          ∧ s'.mem.sem (barCell c) = 0⌝ ∗ SI s') : sProp (MM F)) := by
  unfold StableHlo.held
  iintro ⟨⟨Hh, Hb⟩, HSI⟩
  icombine HSI Hb gives %hb
  ihave Hr := (pointsTo_read_all (Pipeline.ucRefs τ sig) (fun b => ((c : Thread nD τ).1, b)) (after (V7 m) S c) s') $$ [Hh HSI]
  · isplitl [Hh] <;> iassumption
  icases Hr with ⟨%h, HSI⟩
  imodintro
  isplitr
  · ipureintro
    exact ⟨⟨(h (Proc.devRef .tc main_v27) (Finset.mem_filter.mpr ⟨StableHlo.devRef_mem_tcRefs main_v27, by decide⟩)).trans (Function.update_self _ _ _),
      (h (Proc.devRef .tc main_arg0) (Finset.mem_filter.mpr ⟨StableHlo.devRef_mem_tcRefs main_arg0, by decide⟩)).trans (arg0_kept m c),
      (h (Proc.devRef .tc main_arg1) (Finset.mem_filter.mpr ⟨StableHlo.devRef_mem_tcRefs main_arg1, by decide⟩)).trans (arg1_kept m c)⟩, by simpa using hb⟩
  · iexact HSI

include hA in
set_option backward.isDefEq.respectTransparency.types false in
/-- From any memory with counters at zero, every fair execution of the program on the four devices ends, with the result on
    every device, the arguments as they were, and every counter at zero. -/
theorem run_main : θ_run defs (onTc (τ := τ) (main (F := F))) ⟨m, fun _ => 0, ρ⟩ fun r =>
    (∀ c : Dev nD, r.2.mem ((c.tc : Thread nD τ).loc main_v27) = result S
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  Pipeline.θ_run_regions_kit_dev_sems (pcfgs (F := F)) adm (pdats (V7 m) S) () cellOf_inj EP defs₀ 𝒱₀ L lv m ρ main (items m hA)
    (fun c Q => by
      rewrite [main_chain c, Seg.run_eq_chain,
        show (items m hA c).map Seg.prog = [StableHlo.seq (hostOps0 c), StableHlo.seq hostOps0_1, StableHlo.seq hostOps0_2,
          StableHlo.seq hostOps0_3, StableHlo.seq hostOps0_4, StableHlo.seq hostOps0_5, StableHlo.seq hostOps0_6,
          Prog.lift (.customCall (Pipeline.entry 0) ())] from rfl]
      dsimp (config := { failIfUnchanged := false }) only
      exact .rfl)
    (fun c => by simp only [items, segs, Seg.pipes_host, Seg.pipes_region, Seg.pipes_nil]; decide) O₀ L_of_ne parked u₀ launch_split
    (T₀ := fun c => iprop(StableHlo.held (c : Thread nD τ) (Pipeline.ucRefs τ sig) (V0 m c) ∗ beside S 0 c))
    (Tₙ := fun c => iprop(StableHlo.held (c : Thread nD τ) (Pipeline.ucRefs τ sig) (after (V7 m) S c) ∗ semVal (barCell c) 0))
    (hch := fun c => ⟨.rfl, .rfl, .rfl, .rfl, .rfl, .rfl, .rfl, reg_pre hA c, (reg_post hA c).trans (by
      iintro ⟨Hh, Hb, HO⟩
      isplitr [HO]
      · isplitl [Hh] <;> iassumption
      iexact HO)⟩)
    (hinit := launched m ρ)
    (QY := fun c s => (s.mem ((c.tc : Thread nD τ).loc main_v27) = result S
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ended m c s')
    (hQ := fun s h hs => ⟨fun c => (h c).1, sem_eq_zero hs fun c sm hsm => by obtain rfl := unscoped_eq sm hsm; exact (h c).2⟩)

end Cert.Proof.Lookup
-- ==== Proof.Frames.lean ====
/-
The frames: every run of each program ends, the arguments as they were and every counter at zero.
-/
module

public import proofs.«01_k».proof.Defs
public import proofs.«01_k».proof.Proof.Host
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof.Lookup

open Idealize.ShloMosaic Idealize.ShloMosaic.TcCoe
open Idealize.SL.Sem

theorem frame_kernel_ideal : Cert.quiescent_KernelIdeal := fun m ρ _ =>
  (θ_run Cert.KernelIdeal.defs _ _).mono (fun _ h => ⟨fun c => (h.1 c).2, h.2⟩) (run_main (F := Ideal) m ρ (agrees m))

/-- The frame of the ideal program's text, read at the machine's own float values. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_at_bits : frameAtBits := fun m ρ _ =>
  (θ_run Cert.KernelIdeal.defs _ _).mono (fun _ h => ⟨fun c => (h.1 c).2, h.2⟩) (run_main (F := Bits) m ρ (agrees (F := Bits) m))

/-- The two programs have the same text, so the two frames are one statement. -/
theorem same_text : frameAtBits = Cert.quiescent_Kernel := by
  chain_rfl

theorem frame_kernel : Cert.quiescent_Kernel := same_text.mp frame_at_bits

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Lookup
-- ==== Proof.Value.lean ====
/-
The value: where every index names a row of the table, the finished result and the reference both hold, at each position,
the row its index names.
-/
module

public import proofs.«01_k».proof.Defs
public import proofs.«01_k».proof.Proof.Owner
public import proofs.«01_k».proof.Proof.Frames
public import proofs.«01_k».proof.Proof.Gen.Pre_in_table_KernelIdeal
public import proofs.«01_k».proof.Proof.Gen.Pre_in_table_ReferenceIdeal
public import Idealize.ShloMosaic.Lib.ReduceAll
public import Idealize.ShloMosaic.Lib.Routing.Ops

@[expose] public section

noncomputable section

namespace Cert.Proof.Lookup

open Cert.KernelIdeal Cert.KernelIdeal.Gen
open Idealize.ShloMosaic Idealize.ShloMosaic.TcCoe Idealize.ShloMosaic.ValueIdx
open Idealize.SL.Sem

/-! ## The precondition -/

/-- Every index names a row of the table. -/
def InTable (x : IVec S2048 32) : Prop := ∀ p : Fin 2048, 0 ≤ (x (ix1 p)).toInt ∧ (x (ix1 p)).toInt < 32768

theorem in_table_of (ft : TabC Ideal) (x : IVec S2048 32) (h : Cert.Pre_in_table_KernelIdeal.fn (F := Ideal) ft x = fun _ => 1#1) :
    InTable x := fun p => by
  have hj := congrFun h (fun a => a.elim0)
  unfold Cert.Pre_in_table_KernelIdeal.fn at hj
  haveI : Subsingleton Cert.Pre_in_table_KernelIdeal.S_.Idx := ⟨fun a b => funext fun k => k.elim0⟩
  have hp : IntOp.andi (IntOp.cmpi .sge (x (ix1 p)) 0#32) (IntOp.cmpi .slt (x (ix1 p)) 32768#32) = 1#1 :=
    Host.reduce_andi_all _ _ _ _ _ hj (ix1 p)
  exact cmpi_and.mp hp

/-! ## The row an index names -/

/-- The whole table. -/
abbrev Whole : Type := (⟨2, ![32768, 1024]⟩ : Shape).Idx → EReal

variable (T : Whole) (x : IVec S2048 32) (hx : InTable x)

/-- The row the index at position `p` names. -/
def asked (p : Fin 2048) : Fin 32768 := ⟨(x (ix1 p)).toInt.toNat, by have := hx p; omega⟩

/-- The rows asked for. -/
def lookup : S2048x1024.Idx → EReal := fun i => T (ix2 (asked x hx (i 0)) (i 1))

/-- The device whose block holds the row. -/
def holder (p : Fin 2048) : Fin 4 := ⟨(x (ix1 p)).toInt.toNat / 8192, by have := hx p; omega⟩

theorem mine_holder (c : Dev nD) (p : Fin 2048) : mine (lowWord c) (x (ix1 p)) = 1#1 ↔ c = holder x hx p := by
  have h := hx p
  rw [mine_iff]
  constructor
  · intro hm
    refine Fin.ext ?_
    show c.val = (x (ix1 p)).toInt.toNat / 8192
    omega
  · intro e
    have e' : c.val = (x (ix1 p)).toInt.toNat / 8192 := congrArg Fin.val e
    omega

/-- A row of a block is a row of the table. -/
theorem block_row (hb : Layout.Tiles ⟨2, ![8192, 1024]⟩ ⟨2, ![32768, 1024]⟩ 0 4) (c : Fin 4) (k : Fin 8192) (y : Fin 1024) (q : Fin 32768)
    (hq : q.val = c.val * 8192 + k.val) :
    Layout.block ⟨2, ![8192, 1024]⟩ ⟨2, ![32768, 1024]⟩ 0 4 c T hb (ix2 k y) = T (ix2 q y) := by
  refine congrArg T (funext fun a => Fin.ext ?_)
  match a with
  | ⟨0, _⟩ => exact (Layout.idx_rows_val hb c (ix2 k y)).1.trans hq.symm
  | ⟨1, _⟩ => exact (Layout.idx_rows_val hb c (ix2 k y)).2

/-! ## The kernel's result -/

/-- What a device brings to a position: the row asked for if it holds it, else zero. -/
theorem brings (hb : Layout.Tiles ⟨2, ![8192, 1024]⟩ ⟨2, ![32768, 1024]⟩ 0 4) (c j : Dev nD) (r : Fin 512) (y : Fin 1024) :
    ((sheet (F := Ideal) c (Layout.block ⟨2, ![8192, 1024]⟩ ⟨2, ![32768, 1024]⟩ 0 4 c T hb) x).own j (ix2 r y) : EReal)
      = if c = holder x hx (posOf j r) then lookup T x hx (ix2 (posOf j r) y) else 0 := by
  refine (own_apply c _ x j r y).trans ?_
  by_cases h : mine (lowWord c) (x (ix1 (posOf j r))) = 1#1
  · refine (if_pos h).trans (Eq.trans ?_ (if_pos ((mine_holder x hx c (posOf j r)).mp h)).symm)
    refine block_row T hb c _ y (asked x hx (posOf j r)) ?_
    have e := hostLoc_owned c x (posOf j r) h
    have hp := hx (posOf j r)
    have hm := (mine_iff c _).mp h
    show (x (ix1 (posOf j r))).toInt.toNat = c.val * 8192 + (hostLoc c x (ix1 (posOf j r))).toNat
    omega
  · exact (if_neg h).trans (if_neg fun e => h ((mine_holder x hx c (posOf j r)).mpr e)).symm

/-- The finished result is the rows asked for. -/
theorem result_rows (hb : Layout.Tiles ⟨2, ![8192, 1024]⟩ ⟨2, ![32768, 1024]⟩ 0 4) (S : ∀ c : Dev nD, Sheet Ideal c)
    (hS : ∀ c, S c = sheet c (Layout.block ⟨2, ![8192, 1024]⟩ ⟨2, ![32768, 1024]⟩ 0 4 c T hb) x) :
    result S = lookup T x hx := by
  funext i
  have hi : (i 0).val < 2048 := (i 0).isLt
  let j : Dev nD := (⟨(i 0).val / 512, by omega⟩ : Fin 4)
  let r : Fin 512 := ⟨(i 0).val % 512, Nat.mod_lt _ (by decide)⟩
  have hp : posOf j r = i 0 := Fin.ext (by show 512 * ((i 0).val / 512) + (i 0).val % 512 = (i 0).val; omega)
  have ho : ∀ c : Dev nD, (own S c j (ix2 r (i 1)) : EReal)
      = if c = holder x hx (posOf j r) then lookup T x hx (ix2 (posOf j r) (i 1)) else 0 := fun c => by
    unfold own
    rw [hS c]
    exact brings T x hx hb c j r (i 1)
  have e : (total (own S) j (ix2 r (i 1)) : EReal) = lookup T x hx (ix2 (posOf j r) (i 1)) :=
    (total_apply (own S) j (ix2 r (i 1))).trans (ring_sum (fun c => own S c j (ix2 r (i 1))) (holder x hx (posOf j r)) _ ho j)
  refine (show result S i = total (own S) j (ix2 r (i 1)) from rfl).trans (e.trans ?_)
  exact congrArg (fun p : Fin 2048 => lookup T x hx (ix2 p (i 1))) hp

/-! ## The reference's result -/

/-- The reference reads the row each index names. -/
theorem reference_rows :
    truncf (F := Ideal) .bf16 (Host.gather Cert.ReferenceIdeal.gather_S32768x1024_S2048x1_S2048x1024_1_0_n_n_0_1_11024 T
      (broadcastInDim Cert.ReferenceIdeal.S2048x1 ![0] Cert.ReferenceIdeal.Facts₀.bcast_S2048_S2048x1_0
        (select (cmpi .slt x (broadcastInDim Cert.ReferenceIdeal.S2048 ![] Cert.ReferenceIdeal.Facts₀.bcast_S_S2048 (constantI Cert.ReferenceIdeal.S_ 32 0#32)))
          (addi x (broadcastInDim Cert.ReferenceIdeal.S2048 ![] Cert.ReferenceIdeal.Facts₀.bcast_S_S2048 (constantI Cert.ReferenceIdeal.S_ 32 32768#32))) x)))
      Cert.ReferenceIdeal.Facts₀.bitsLt_bf16_f32 = lookup T x hx := by
  funext i
  obtain ⟨p, y, rfl⟩ : ∃ (p : Fin 2048) (y : Fin 1024), i = ix2 p y :=
    ⟨i 0, i 1, funext fun a => by match a with | ⟨0, _⟩ => rfl | ⟨1, _⟩ => rfl⟩
  refine Routing.gather_row Cert.ReferenceIdeal.gather_S32768x1024_S2048x1_S2048x1024_1_0_n_n_0_1_11024 rfl rfl rfl rfl rfl T _ p y
    (asked x hx p) ?_ (by decide)
  have hp := hx p
  refine (column_at _ p).trans ?_
  have hn : ¬ IntOp.cmpi .slt (x (ix1 p)) 0#32 = 1#1 := by
    have h2 : IntOp.cmpi .slt (x (ix1 p)) 0#32 = BitVec.ofBool ((x (ix1 p)).slt 0#32) := rfl
    have h3 : (x (ix1 p)).slt 0#32 = false := by
      rw [BitVec.slt_eq_decide]
      exact decide_eq_false (by have : (0#32 : BitVec 32).toInt = 0 := rfl; omega)
    rw [h2, h3]
    decide
  refine (if_neg hn).trans ?_
  show x (ix1 p) = BitVec.ofNat 32 (x (ix1 p)).toInt.toNat
  have hl := (x (ix1 p)).isLt
  have hc := BitVec.toInt_eq_toNat_cond (x (ix1 p))
  have hn' : (x (ix1 p)).toInt.toNat = (x (ix1 p)).toNat := by
    split at hc <;> omega
  refine BitVec.eq_of_toNat_eq ?_
  rw [hn', BitVec.toNat_ofNat, Nat.mod_eq_of_lt hl]

end Cert.Proof.Lookup
-- ==== Proof.Algebraic.lean ====
/-
The claims under the precondition: the frames, and that every device ends with the reference's result.
-/
module

public import proofs.«01_k».proof.Proof.Value

@[expose] public section

noncomputable section

namespace Cert.Proof.Lookup

open Idealize.ShloMosaic Idealize.ShloMosaic.TcCoe
open Idealize.SL.Sem

theorem frame_kernel_ideal_pre : Cert.quiescent_KernelIdeal_pre_in_table_KernelIdeal := fun m ρ _ => frame_kernel_ideal m ρ trivial

theorem frame_reference_pre : Cert.quiescent_ReferenceIdeal_pre_in_table_ReferenceIdeal := fun m ρ _ => frame_reference m ρ trivial

/-- Over exact values every device ends with the rows the reference reads. -/
theorem algebraic : Cert.algebraic_KernelIdeal_ReferenceIdeal_pre_in_table_KernelIdeal := fun m ρ m' ρ' hpre hag => by
  have hx : InTable (m' ((((0 : Dev Cert.ReferenceIdeal.nD).tc : Thread Cert.ReferenceIdeal.nD Cert.ReferenceIdeal.τ)).loc Cert.ReferenceIdeal.main_arg1)) := by
    have h := in_table_of _ _ (hpre 0)
    rw [(hag 0).2] at h
    exact h
  refine ⟨lookup (m' ((((0 : Dev Cert.ReferenceIdeal.nD).tc : Thread Cert.ReferenceIdeal.nD Cert.ReferenceIdeal.τ)).loc Cert.ReferenceIdeal.main_arg0)) _ hx, ?_, ?_⟩
  · have hr : result (sheets m) = lookup _ _ hx := result_rows _ _ hx (by decide) (sheets m) fun c => by
      have h1 : tab m c = _ := (hag c).1
      have h2 : given m c = _ := (hag c).2
      unfold sheets
      rw [h1, h2]
    exact (θ_run Cert.KernelIdeal.defs _ _).mono (fun _ h c => ⟨(h.1 c).1.trans hr, (h.1 c).2⟩) (run_main (F := Ideal) m ρ (agrees m))
  · exact (θ_run Cert.ReferenceIdeal.defs _ _).mono (fun _ h => ⟨(h 0).1.trans (reference_rows _ _ hx), (h 0).2⟩)
      (Cert.ReferenceIdeal.Value.run (F := Ideal) m' ρ')

end Cert.Proof.Lookup
-- ==== Proof.lean ====
module

public import proofs.«01_k».proof.Proof.Algebraic

@[expose] public section

noncomputable section

open Cert.Proof.Lookup in
theorem Cert.Proof.claim : Cert.Claim :=
  ⟨Cert.Kernel.Gen.facts, Cert.KernelIdeal.Gen.facts, Cert.ReferenceIdeal.Gen.facts, Cert.Pre_in_table_KernelIdeal.Gen.facts,
    Cert.Pre_in_table_ReferenceIdeal.Gen.facts, frame_kernel, frame_kernel_ideal, frame_kernel_ideal_pre, frame_reference,
    frame_reference_pre, trivial, algebraic⟩
